-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v42)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v42) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_v75) = v2 c
          ∧ r.2.mem ((c.tc : Thread Cert.Reference4Ideal.nD Cert.Reference4Ideal.τ).loc Cert.Reference4Ideal.main_v77) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16x4096x1024 : Shape := ⟨3, ![16, 4096, 1024]⟩
abbrev S1024x1024 : Shape := ⟨2, ![1024, 1024]⟩
abbrev S24x6144 : Shape := ⟨2, ![24, 6144]⟩
abbrev S1024 : Shape := ⟨1, ![1024]⟩
abbrev S24x1x6144 : Shape := ⟨3, ![24, 1, 6144]⟩
abbrev S1x1024 : Shape := ⟨2, ![1, 1024]⟩
abbrev S3x1x1024x1024 : Shape := ⟨4, ![3, 1, 1024, 1024]⟩
abbrev S3 : Shape := ⟨1, ![3]⟩
abbrev S2x1x1x1024 : Shape := ⟨4, ![2, 1, 1, 1024]⟩
abbrev S2 : Shape := ⟨1, ![2]⟩
abbrev S2x1x1024x1024 : Shape := ⟨4, ![2, 1, 1024, 1024]⟩
abbrev S_ : Shape := ⟨0, ![]⟩
abbrev S1 : Shape := ⟨1, ![1]⟩
abbrev S1x1x1024x1024 : Shape := ⟨4, ![1, 1, 1024, 1024]⟩
abbrev S1x1024x1024 : Shape := ⟨3, ![1, 1024, 1024]⟩
abbrev S1x1x1x1024 : Shape := ⟨4, ![1, 1, 1, 1024]⟩
abbrev S1x1x1024 : Shape := ⟨3, ![1, 1, 1024]⟩
abbrev S1024x1 : Shape := ⟨2, ![1024, 1]⟩

abbrev nBuf : Space → Nat
  | .hbm => 9
  | .vmem => 6
  | .smem => 0
  | _ => 0

abbrev bufTy : (tb : Table) → Fin (tcTables nBuf tb) → BufTy
  | .hbm, ⟨0, _⟩ => ⟨S16x4096x1024, .bf16⟩
  | .hbm, ⟨1, _⟩ => ⟨S1024x1024, .f32⟩
  | .hbm, ⟨2, _⟩ => ⟨S16x4096x1024, .f32⟩
  | .hbm, ⟨3, _⟩ => ⟨S24x6144, .f32⟩
  | .hbm, ⟨4, _⟩ => ⟨S1024, .f32⟩
  | .hbm, ⟨5, _⟩ => ⟨S24x1x6144, .f32⟩
  | .hbm, ⟨6, _⟩ => ⟨S1x1024, .f32⟩
  | .hbm, ⟨7, _⟩ => ⟨S1024x1024, .bf16⟩
  | .hbm, ⟨8, _⟩ => ⟨S16x4096x1024, .f32⟩
  | .local _ .vmem, ⟨0, _⟩ => ⟨S3x1x1024x1024, .bf16⟩
  | .local _ .vmem, ⟨1, _⟩ => ⟨S1024x1024, .bf16⟩
  | .local _ .vmem, ⟨2, _⟩ => ⟨S3x1x1024x1024, .f32⟩
  | .local _ .vmem, ⟨3, _⟩ => ⟨S2x1x1x1024, .f32⟩
  | .local _ .vmem, ⟨4, _⟩ => ⟨S1x1024, .f32⟩
  | .local _ .vmem, ⟨5, _⟩ => ⟨S2x1x1024x1024, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_scoped0 : Ref sig .tc := ⟨.vmem, 0, rfl⟩
abbrev cc0_scoped2 : Ref sig .tc := ⟨.vmem, 1, rfl⟩
abbrev cc0_scoped3 : Ref sig .tc := ⟨.vmem, 2, rfl⟩
abbrev cc0_scoped5 : Ref sig .tc := ⟨.vmem, 3, rfl⟩
abbrev cc0_scoped7 : Ref sig .tc := ⟨.vmem, 4, rfl⟩
abbrev cc0_scoped8 : Ref sig .tc := ⟨.vmem, 5, rfl⟩

abbrev nD : Nat := 1
abbrev τ : Topo := Topo.v7x

variable {F : FTy → Type} [FloatOps F]

abbrev grid0 : Pipeline.Grid := .none

def k0_off1 : Fin 1 → Nat :=
  let c0_i32_37_r0 : BitVec 32 := 0#32
  let c3_i32_38_r0 : BitVec 32 := 3#32
  let v40_r0 : BitVec 32 := Scalar.remui c0_i32_37_r0 c3_i32_38_r0
  ![v40_r0.toNat]
def k0_off2 : Fin 4 → Nat :=
  let c0_i32_37_r0 : BitVec 32 := 0#32
  let c3_i32_38_r0 : BitVec 32 := 3#32
  let v40_r0 : BitVec 32 := Scalar.remui c0_i32_37_r0 c3_i32_38_r0
  let c0_i32_39_r0 : BitVec 32 := 0#32
  let c0_i32_40_r0 : BitVec 32 := 0#32
  let c0_i32_41_r0 : BitVec 32 := 0#32
  ![v40_r0.toNat, 0, 0, 0]
def k0_off3 : Fin 1 → Nat :=
  let c0_i32_57_r0 : BitVec 32 := 0#32
  let c2_i32_r0 : BitVec 32 := 2#32
  let v54_r0 : BitVec 32 := Scalar.remui c0_i32_57_r0 c2_i32_r0
  ![v54_r0.toNat]
def k0_off4 : Fin 4 → Nat :=
  let c0_i32_57_r0 : BitVec 32 := 0#32
  let c2_i32_r0 : BitVec 32 := 2#32
  let v54_r0 : BitVec 32 := Scalar.remui c0_i32_57_r0 c2_i32_r0
  let c0_i32_58_r0 : BitVec 32 := 0#32
  let c0_i32_59_r0 : BitVec 32 := 0#32
  let c0_i32_60_r0 : BitVec 32 := 0#32
  ![v54_r0.toNat, 0, 0, 0]
def k0_cond1 : BitVec 1 :=
  let true_67_r0 : BitVec 1 := 1#1
  let true_11_r0 : BitVec 1 := 1#1
  let c1_i32_r0 : BitVec 32 := 1#32
  let c0_i32_12_r0 : BitVec 32 := 0#32
  let v12_r0 : BitVec 32 := Scalar.select true_11_r0 c1_i32_r0 c0_i32_12_r0
  let c4_i32_r0 : BitVec 32 := 4#32
  let v13_r0 : BitVec 1 := Scalar.cmpi .eq v12_r0 c4_i32_r0
  let c1_i32_15_r0 : BitVec 32 := 1#32
  let c0_i32_14_r0 : BitVec 32 := 0#32
  let v15_r0 : BitVec 32 := Scalar.select v13_r0 c1_i32_15_r0 c0_i32_14_r0
  let c16_i32_r0 : BitVec 32 := 16#32
  let v16_r0 : BitVec 1 := Scalar.cmpi .eq v15_r0 c16_i32_r0
  let c0_i32_16_r0 : BitVec 32 := 0#32
  let v17_r0 : BitVec 32 := Scalar.select v16_r0 c0_i32_16_r0 v15_r0
  let c0_i32_17_r0 : BitVec 32 := 0#32
  let v18_r0 : BitVec 32 := Scalar.addi v17_r0 c0_i32_17_r0
  let c0_i32_65_r0 : BitVec 32 := 0#32
  let v61_r0 : BitVec 1 := Scalar.cmpi .ne v18_r0 c0_i32_65_r0
  let c0_i32_13_r0 : BitVec 32 := 0#32
  let v14_r0 : BitVec 32 := Scalar.select v13_r0 c0_i32_13_r0 v12_r0
  let c0_i32_18_r0 : BitVec 32 := 0#32
  let v19_r0 : BitVec 32 := Scalar.addi v14_r0 c0_i32_18_r0
  let c0_i32_66_r0 : BitVec 32 := 0#32
  let v62_r0 : BitVec 1 := Scalar.cmpi .ne v19_r0 c0_i32_66_r0
  let v63_r0 : BitVec 1 := Scalar.ori v61_r0 v62_r0
  let v64_r0 : BitVec 1 := Scalar.andi true_67_r0 v63_r0
  let true_68_r0 : BitVec 1 := 1#1
  let v65_r0 : BitVec 1 := Scalar.andi v64_r0 true_68_r0
  let v66_r0 : BitVec 32 := Scalar.extui v65_r0
  let c0_i32_69_r0 : BitVec 32 := 0#32
  let v67_r0 : BitVec 1 := Scalar.cmpi .ne v66_r0 c0_i32_69_r0
  v67_r0

def k0_off5 : Fin 1 → Nat :=
  let c0_i32_45_r0 : BitVec 32 := 0#32
  let c1_i32_46_r0 : BitVec 32 := 1#32
  let v46_r0 : BitVec 32 := Scalar.addi c0_i32_45_r0 c1_i32_46_r0
  let c3_i32_142_r0 : BitVec 32 := 3#32
  let v139_r0 : BitVec 32 := Scalar.remui v46_r0 c3_i32_142_r0
  ![v139_r0.toNat]
def k0_off6 : Fin 4 → Nat :=
  let c0_i32_45_r0 : BitVec 32 := 0#32
  let c1_i32_46_r0 : BitVec 32 := 1#32
  let v46_r0 : BitVec 32 := Scalar.addi c0_i32_45_r0 c1_i32_46_r0
  let c3_i32_142_r0 : BitVec 32 := 3#32
  let v139_r0 : BitVec 32 := Scalar.remui v46_r0 c3_i32_142_r0
  let c0_i32_145_r0 : BitVec 32 := 0#32
  let c0_i32_146_r0 : BitVec 32 := 0#32
  let c0_i32_147_r0 : BitVec 32 := 0#32
  ![v139_r0.toNat, 0, 0, 0]
def k0_off7 : Fin 3 → Nat :=
  let c1_i32_143_r0 : BitVec 32 := 1#32
  let true_11_r0 : BitVec 1 := 1#1
  let c1_i32_r0 : BitVec 32 := 1#32
  let c0_i32_12_r0 : BitVec 32 := 0#32
  let v12_r0 : BitVec 32 := Scalar.select true_11_r0 c1_i32_r0 c0_i32_12_r0
  let c4_i32_r0 : BitVec 32 := 4#32
  let v13_r0 : BitVec 1 := Scalar.cmpi .eq v12_r0 c4_i32_r0
  let c1_i32_15_r0 : BitVec 32 := 1#32
  let c0_i32_14_r0 : BitVec 32 := 0#32
  let v15_r0 : BitVec 32 := Scalar.select v13_r0 c1_i32_15_r0 c0_i32_14_r0
  let c16_i32_r0 : BitVec 32 := 16#32
  let v16_r0 : BitVec 1 := Scalar.cmpi .eq v15_r0 c16_i32_r0
  let c0_i32_16_r0 : BitVec 32 := 0#32
  let v17_r0 : BitVec 32 := Scalar.select v16_r0 c0_i32_16_r0 v15_r0
  let c0_i32_17_r0 : BitVec 32 := 0#32
  let v18_r0 : BitVec 32 := Scalar.addi v17_r0 c0_i32_17_r0
  let v140_r0 : BitVec 32 := Scalar.muli c1_i32_143_r0 v18_r0
  let c1024_i32_144_r0 : BitVec 32 := 1024#32
  let c0_i32_13_r0 : BitVec 32 := 0#32
  let v14_r0 : BitVec 32 := Scalar.select v13_r0 c0_i32_13_r0 v12_r0
  let c0_i32_18_r0 : BitVec 32 := 0#32
  let v19_r0 : BitVec 32 := Scalar.addi v14_r0 c0_i32_18_r0
  let v141_r0 : BitVec 32 := Scalar.muli c1024_i32_144_r0 v19_r0
  let c0_i32_148_r0 : BitVec 32 := 0#32
  ![v140_r0.toNat, v141_r0.toNat, 0]
def k0_cond2 : BitVec 1 :=
  let true_73_r0 : BitVec 1 := 1#1
  let true_11_r0 : BitVec 1 := 1#1
  let c1_i32_r0 : BitVec 32 := 1#32
  let c0_i32_12_r0 : BitVec 32 := 0#32
  let v12_r0 : BitVec 32 := Scalar.select true_11_r0 c1_i32_r0 c0_i32_12_r0
  let c4_i32_r0 : BitVec 32 := 4#32
  let v13_r0 : BitVec 1 := Scalar.cmpi .eq v12_r0 c4_i32_r0
  let c1_i32_15_r0 : BitVec 32 := 1#32
  let c0_i32_14_r0 : BitVec 32 := 0#32
  let v15_r0 : BitVec 32 := Scalar.select v13_r0 c1_i32_15_r0 c0_i32_14_r0
  let c16_i32_r0 : BitVec 32 := 16#32
  let v16_r0 : BitVec 1 := Scalar.cmpi .eq v15_r0 c16_i32_r0
  let c0_i32_16_r0 : BitVec 32 := 0#32
  let v17_r0 : BitVec 32 := Scalar.select v16_r0 c0_i32_16_r0 v15_r0
  let c0_i32_17_r0 : BitVec 32 := 0#32
  let v18_r0 : BitVec 32 := Scalar.addi v17_r0 c0_i32_17_r0
  let c0_i32_71_r0 : BitVec 32 := 0#32
  let v70_r0 : BitVec 1 := Scalar.cmpi .ne v18_r0 c0_i32_71_r0
  let c0_i32_13_r0 : BitVec 32 := 0#32
  let v14_r0 : BitVec 32 := Scalar.select v13_r0 c0_i32_13_r0 v12_r0
  let c0_i32_18_r0 : BitVec 32 := 0#32
  let v19_r0 : BitVec 32 := Scalar.addi v14_r0 c0_i32_18_r0
  let c0_i32_72_r0 : BitVec 32 := 0#32
  let v71_r0 : BitVec 1 := Scalar.cmpi .ne v19_r0 c0_i32_72_r0
  let v72_r0 : BitVec 1 := Scalar.ori v70_r0 v71_r0
  let v73_r0 : BitVec 1 := Scalar.andi true_73_r0 v72_r0
  let true_74_r0 : BitVec 1 := 1#1
  let v74_r0 : BitVec 1 := Scalar.andi v73_r0 true_74_r0
  let v75_r0 : BitVec 32 := Scalar.extui v74_r0
  let c0_i32_75_r0 : BitVec 32 := 0#32
  let v76_r0 : BitVec 1 := Scalar.cmpi .ne v75_r0 c0_i32_75_r0
  v76_r0

def k0_off8 : Fin 1 → Nat :=
  let c0_i32_55_r0 : BitVec 32 := 0#32
  let c1_i32_56_r0 : BitVec 32 := 1#32
  let v53_r0 : BitVec 32 := Scalar.addi c0_i32_55_r0 c1_i32_56_r0
  let c3_i32_142_r0 : BitVec 32 := 3#32
  let v139_r0 : BitVec 32 := Scalar.remui v53_r0 c3_i32_142_r0
  ![v139_r0.toNat]
def k0_off9 : Fin 4 → Nat :=
  let c0_i32_55_r0 : BitVec 32 := 0#32
  let c1_i32_56_r0 : BitVec 32 := 1#32
  let v53_r0 : BitVec 32 := Scalar.addi c0_i32_55_r0 c1_i32_56_r0
  let c3_i32_142_r0 : BitVec 32 := 3#32
  let v139_r0 : BitVec 32 := Scalar.remui v53_r0 c3_i32_142_r0
  let c0_i32_145_r0 : BitVec 32 := 0#32
  let c0_i32_146_r0 : BitVec 32 := 0#32
  let c0_i32_147_r0 : BitVec 32 := 0#32
  ![v139_r0.toNat, 0, 0, 0]
def k0_off10 : Fin 3 → Nat :=
  let c1_i32_143_r0 : BitVec 32 := 1#32
  let true_11_r0 : BitVec 1 := 1#1
  let c1_i32_r0 : BitVec 32 := 1#32
  let c0_i32_12_r0 : BitVec 32 := 0#32
  let v12_r0 : BitVec 32 := Scalar.select true_11_r0 c1_i32_r0 c0_i32_12_r0
  let c4_i32_r0 : BitVec 32 := 4#32
  let v13_r0 : BitVec 1 := Scalar.cmpi .eq v12_r0 c4_i32_r0
  let c1_i32_15_r0 : BitVec 32 := 1#32
  let c0_i32_14_r0 : BitVec 32 := 0#32
  let v15_r0 : BitVec 32 := Scalar.select v13_r0 c1_i32_15_r0 c0_i32_14_r0
  let c16_i32_r0 : BitVec 32 := 16#32
  let v16_r0 : BitVec 1 := Scalar.cmpi .eq v15_r0 c16_i32_r0
  let c0_i32_16_r0 : BitVec 32 := 0#32
  let v17_r0 : BitVec 32 := Scalar.select v16_r0 c0_i32_16_r0 v15_r0
  let c0_i32_17_r0 : BitVec 32 := 0#32
  let v18_r0 : BitVec 32 := Scalar.addi v17_r0 c0_i32_17_r0
  let v140_r0 : BitVec 32 := Scalar.muli c1_i32_143_r0 v18_r0
  let c1024_i32_144_r0 : BitVec 32 := 1024#32
  let c0_i32_13_r0 : BitVec 32 := 0#32
  let v14_r0 : BitVec 32 := Scalar.select v13_r0 c0_i32_13_r0 v12_r0
  let c0_i32_18_r0 : BitVec 32 := 0#32
  let v19_r0 : BitVec 32 := Scalar.addi v14_r0 c0_i32_18_r0
  let v141_r0 : BitVec 32 := Scalar.muli c1024_i32_144_r0 v19_r0
  let c0_i32_148_r0 : BitVec 32 := 0#32
  ![v140_r0.toNat, v141_r0.toNat, 0]
@[reducible] def k0_t1_loop : Scf.Loop 32 :=
  let c0_i32_88_r0 : BitVec 32 := 0#32
  let c64_i32_r0 : BitVec 32 := 64#32
  let v79_r0 : BitVec 32 := Scalar.addi c0_i32_88_r0 c64_i32_r0
  let c1_i32_89_r0 : BitVec 32 := 1#32
  ⟨c0_i32_88_r0, v79_r0, c1_i32_89_r0⟩
def k0_off11 (arg7_r0 : BitVec 32) : Fin 1 → Nat :=
  let c3_i32_277_r0 : BitVec 32 := 3#32
  let v384_r0 : BitVec 32 := Scalar.remui arg7_r0 c3_i32_277_r0
  ![v384_r0.toNat]
def k0_cond3 (k0_t1 : Fin k0_t1_loop.trips) (arg17_r0 : BitVec 32) (arg18_r0 : BitVec 32) : BitVec 1 :=
  let true_155_r0 : BitVec 1 := 1#1
  let c1_i32_154_r0 : BitVec 32 := 1#32
  let v153_r0 : BitVec 32 := Scalar.addi arg18_r0 c1_i32_154_r0
  let v154_r0 : BitVec 32 := Scalar.select true_155_r0 v153_r0 arg18_r0
  let c4_i32_156_r0 : BitVec 32 := 4#32
  let v155_r0 : BitVec 1 := Scalar.cmpi .eq v154_r0 c4_i32_156_r0
  let c1_i32_158_r0 : BitVec 32 := 1#32
  let v157_r0 : BitVec 32 := Scalar.addi arg17_r0 c1_i32_158_r0
  let v158_r0 : BitVec 32 := Scalar.select v155_r0 v157_r0 arg17_r0
  let c16_i32_159_r0 : BitVec 32 := 16#32
  let v159_r0 : BitVec 1 := Scalar.cmpi .eq v158_r0 c16_i32_159_r0
  let c0_i32_160_r0 : BitVec 32 := 0#32
  let v160_r0 : BitVec 32 := Scalar.select v159_r0 c0_i32_160_r0 v158_r0
  let c0_i32_161_r0 : BitVec 32 := 0#32
  let v161_r0 : BitVec 32 := Scalar.addi v160_r0 c0_i32_161_r0
  let true_164_r0 : BitVec 1 := 1#1
  let c0_i32_157_r0 : BitVec 32 := 0#32
  let v156_r0 : BitVec 32 := Scalar.select v155_r0 c0_i32_157_r0 v154_r0
  let c1_i32_163_r0 : BitVec 32 := 1#32
  let v163_r0 : BitVec 32 := Scalar.addi v156_r0 c1_i32_163_r0
  let v164_r0 : BitVec 32 := Scalar.select true_164_r0 v163_r0 v156_r0
  let c4_i32_165_r0 : BitVec 32 := 4#32
  let v165_r0 : BitVec 1 := Scalar.cmpi .eq v164_r0 c4_i32_165_r0
  let c1_i32_167_r0 : BitVec 32 := 1#32
  let v167_r0 : BitVec 32 := Scalar.addi v160_r0 c1_i32_167_r0
  let v168_r0 : BitVec 32 := Scalar.select v165_r0 v167_r0 v160_r0
  let c16_i32_168_r0 : BitVec 32 := 16#32
  let v169_r0 : BitVec 1 := Scalar.cmpi .eq v168_r0 c16_i32_168_r0
  let c0_i32_169_r0 : BitVec 32 := 0#32
  let v170_r0 : BitVec 32 := Scalar.select v169_r0 c0_i32_169_r0 v168_r0
  let c0_i32_170_r0 : BitVec 32 := 0#32
  let v171_r0 : BitVec 32 := Scalar.addi v170_r0 c0_i32_170_r0
  let v183_r0 : BitVec 1 := Scalar.cmpi .ne v161_r0 v171_r0
  let c0_i32_162_r0 : BitVec 32 := 0#32
  let v162_r0 : BitVec 32 := Scalar.addi v156_r0 c0_i32_162_r0
  let c0_i32_166_r0 : BitVec 32 := 0#32
  let v166_r0 : BitVec 32 := Scalar.select v165_r0 c0_i32_166_r0 v164_r0
  let c0_i32_171_r0 : BitVec 32 := 0#32
  let v172_r0 : BitVec 32 := Scalar.addi v166_r0 c0_i32_171_r0
  let v184_r0 : BitVec 1 := Scalar.cmpi .ne v162_r0 v172_r0
  let v185_r0 : BitVec 1 := Scalar.ori v183_r0 v184_r0
  let c0_i32_88_r0 : BitVec 32 := 0#32
  let c1_i32_89_r0 : BitVec 32 := 1#32
  let arg6_r0 : BitVec 32 := Scf.iv c0_i32_88_r0 c1_i32_89_r0 k0_t1
  let c62_i32_r0 : BitVec 32 := 62#32
  let v186_r0 : BitVec 1 := Scalar.cmpi .sge arg6_r0 c62_i32_r0
  let true_181_r0 : BitVec 1 := 1#1
  let v187_r0 : BitVec 1 := Scalar.xori v186_r0 true_181_r0
  let v188_r0 : BitVec 1 := Scalar.andi v185_r0 v187_r0
  let true_182_r0 : BitVec 1 := 1#1
  let v189_r0 : BitVec 1 := Scalar.andi v188_r0 true_182_r0
  let v190_r0 : BitVec 32 := Scalar.extui v189_r0
  let c0_i32_183_r0 : BitVec 32 := 0#32
  let v191_r0 : BitVec 1 := Scalar.cmpi .ne v190_r0 c0_i32_183_r0
  v191_r0

def k0_off12 (arg7_r0 : BitVec 32) : Fin 4 → Nat :=
  let c3_i32_277_r0 : BitVec 32 := 3#32
  let v384_r0 : BitVec 32 := Scalar.remui arg7_r0 c3_i32_277_r0
  let c0_i32_280_r0 : BitVec 32 := 0#32
  let c0_i32_281_r0 : BitVec 32 := 0#32
  let c0_i32_282_r0 : BitVec 32 := 0#32
  ![v384_r0.toNat, 0, 0, 0]
def k0_off13 (arg17_r0 : BitVec 32) (arg18_r0 : BitVec 32) : Fin 3 → Nat :=
  let c1_i32_278_r0 : BitVec 32 := 1#32
  let true_164_r0 : BitVec 1 := 1#1
  let true_155_r0 : BitVec 1 := 1#1
  let c1_i32_154_r0 : BitVec 32 := 1#32
  let v153_r0 : BitVec 32 := Scalar.addi arg18_r0 c1_i32_154_r0
  let v154_r0 : BitVec 32 := Scalar.select true_155_r0 v153_r0 arg18_r0
  let c4_i32_156_r0 : BitVec 32 := 4#32
  let v155_r0 : BitVec 1 := Scalar.cmpi .eq v154_r0 c4_i32_156_r0
  let c0_i32_157_r0 : BitVec 32 := 0#32
  let v156_r0 : BitVec 32 := Scalar.select v155_r0 c0_i32_157_r0 v154_r0
  let c1_i32_163_r0 : BitVec 32 := 1#32
  let v163_r0 : BitVec 32 := Scalar.addi v156_r0 c1_i32_163_r0
  let v164_r0 : BitVec 32 := Scalar.select true_164_r0 v163_r0 v156_r0
  let c4_i32_165_r0 : BitVec 32 := 4#32
  let v165_r0 : BitVec 1 := Scalar.cmpi .eq v164_r0 c4_i32_165_r0
  let c1_i32_158_r0 : BitVec 32 := 1#32
  let v157_r0 : BitVec 32 := Scalar.addi arg17_r0 c1_i32_158_r0
  let v158_r0 : BitVec 32 := Scalar.select v155_r0 v157_r0 arg17_r0
  let c16_i32_159_r0 : BitVec 32 := 16#32
  let v159_r0 : BitVec 1 := Scalar.cmpi .eq v158_r0 c16_i32_159_r0
  let c0_i32_160_r0 : BitVec 32 := 0#32
  let v160_r0 : BitVec 32 := Scalar.select v159_r0 c0_i32_160_r0 v158_r0
  let c1_i32_167_r0 : BitVec 32 := 1#32
  let v167_r0 : BitVec 32 := Scalar.addi v160_r0 c1_i32_167_r0
  let v168_r0 : BitVec 32 := Scalar.select v165_r0 v167_r0 v160_r0
  let c16_i32_168_r0 : BitVec 32 := 16#32
  let v169_r0 : BitVec 1 := Scalar.cmpi .eq v168_r0 c16_i32_168_r0
  let c0_i32_169_r0 : BitVec 32 := 0#32
  let v170_r0 : BitVec 32 := Scalar.select v169_r0 c0_i32_169_r0 v168_r0
  let c0_i32_170_r0 : BitVec 32 := 0#32
  let v171_r0 : BitVec 32 := Scalar.addi v170_r0 c0_i32_170_r0
  let v385_r0 : BitVec 32 := Scalar.muli c1_i32_278_r0 v171_r0
  let c1024_i32_279_r0 : BitVec 32 := 1024#32
  let c0_i32_166_r0 : BitVec 32 := 0#32
  let v166_r0 : BitVec 32 := Scalar.select v165_r0 c0_i32_166_r0 v164_r0
  let c0_i32_171_r0 : BitVec 32 := 0#32
  let v172_r0 : BitVec 32 := Scalar.addi v166_r0 c0_i32_171_r0
  let v386_r0 : BitVec 32 := Scalar.muli c1024_i32_279_r0 v172_r0
  let c0_i32_283_r0 : BitVec 32 := 0#32
  ![v385_r0.toNat, v386_r0.toNat, 0]
def k0_off14 (arg10_r0 : BitVec 32) : Fin 1 → Nat :=
  let c3_i32_277_r0 : BitVec 32 := 3#32
  let v384_r0 : BitVec 32 := Scalar.remui arg10_r0 c3_i32_277_r0
  ![v384_r0.toNat]
def k0_cond4 (k0_t1 : Fin k0_t1_loop.trips) (arg17_r0 : BitVec 32) (arg18_r0 : BitVec 32) : BitVec 1 :=
  let true_155_r0 : BitVec 1 := 1#1
  let c1_i32_154_r0 : BitVec 32 := 1#32
  let v153_r0 : BitVec 32 := Scalar.addi arg18_r0 c1_i32_154_r0
  let v154_r0 : BitVec 32 := Scalar.select true_155_r0 v153_r0 arg18_r0
  let c4_i32_156_r0 : BitVec 32 := 4#32
  let v155_r0 : BitVec 1 := Scalar.cmpi .eq v154_r0 c4_i32_156_r0
  let c1_i32_158_r0 : BitVec 32 := 1#32
  let v157_r0 : BitVec 32 := Scalar.addi arg17_r0 c1_i32_158_r0
  let v158_r0 : BitVec 32 := Scalar.select v155_r0 v157_r0 arg17_r0
  let c16_i32_159_r0 : BitVec 32 := 16#32
  let v159_r0 : BitVec 1 := Scalar.cmpi .eq v158_r0 c16_i32_159_r0
  let c0_i32_160_r0 : BitVec 32 := 0#32
  let v160_r0 : BitVec 32 := Scalar.select v159_r0 c0_i32_160_r0 v158_r0
  let c0_i32_161_r0 : BitVec 32 := 0#32
  let v161_r0 : BitVec 32 := Scalar.addi v160_r0 c0_i32_161_r0
  let true_164_r0 : BitVec 1 := 1#1
  let c0_i32_157_r0 : BitVec 32 := 0#32
  let v156_r0 : BitVec 32 := Scalar.select v155_r0 c0_i32_157_r0 v154_r0
  let c1_i32_163_r0 : BitVec 32 := 1#32
  let v163_r0 : BitVec 32 := Scalar.addi v156_r0 c1_i32_163_r0
  let v164_r0 : BitVec 32 := Scalar.select true_164_r0 v163_r0 v156_r0
  let c4_i32_165_r0 : BitVec 32 := 4#32
  let v165_r0 : BitVec 1 := Scalar.cmpi .eq v164_r0 c4_i32_165_r0
  let c1_i32_167_r0 : BitVec 32 := 1#32
  let v167_r0 : BitVec 32 := Scalar.addi v160_r0 c1_i32_167_r0
  let v168_r0 : BitVec 32 := Scalar.select v165_r0 v167_r0 v160_r0
  let c16_i32_168_r0 : BitVec 32 := 16#32
  let v169_r0 : BitVec 1 := Scalar.cmpi .eq v168_r0 c16_i32_168_r0
  let c0_i32_169_r0 : BitVec 32 := 0#32
  let v170_r0 : BitVec 32 := Scalar.select v169_r0 c0_i32_169_r0 v168_r0
  let c0_i32_170_r0 : BitVec 32 := 0#32
  let v171_r0 : BitVec 32 := Scalar.addi v170_r0 c0_i32_170_r0
  let v195_r0 : BitVec 1 := Scalar.cmpi .ne v161_r0 v171_r0
  let c0_i32_162_r0 : BitVec 32 := 0#32
  let v162_r0 : BitVec 32 := Scalar.addi v156_r0 c0_i32_162_r0
  let c0_i32_166_r0 : BitVec 32 := 0#32
  let v166_r0 : BitVec 32 := Scalar.select v165_r0 c0_i32_166_r0 v164_r0
  let c0_i32_171_r0 : BitVec 32 := 0#32
  let v172_r0 : BitVec 32 := Scalar.addi v166_r0 c0_i32_171_r0
  let v196_r0 : BitVec 1 := Scalar.cmpi .ne v162_r0 v172_r0
  let v197_r0 : BitVec 1 := Scalar.ori v195_r0 v196_r0
  let c0_i32_88_r0 : BitVec 32 := 0#32
  let c1_i32_89_r0 : BitVec 32 := 1#32
  let arg6_r0 : BitVec 32 := Scf.iv c0_i32_88_r0 c1_i32_89_r0 k0_t1
  let c62_i32_186_r0 : BitVec 32 := 62#32
  let v198_r0 : BitVec 1 := Scalar.cmpi .sge arg6_r0 c62_i32_186_r0
  let true_187_r0 : BitVec 1 := 1#1
  let v199_r0 : BitVec 1 := Scalar.xori v198_r0 true_187_r0
  let v200_r0 : BitVec 1 := Scalar.andi v197_r0 v199_r0
  let true_188_r0 : BitVec 1 := 1#1
  let v201_r0 : BitVec 1 := Scalar.andi v200_r0 true_188_r0
  let v202_r0 : BitVec 32 := Scalar.extui v201_r0
  let c0_i32_189_r0 : BitVec 32 := 0#32
  let v203_r0 : BitVec 1 := Scalar.cmpi .ne v202_r0 c0_i32_189_r0
  v203_r0

def k0_off15 (arg10_r0 : BitVec 32) : Fin 4 → Nat :=
  let c3_i32_277_r0 : BitVec 32 := 3#32
  let v384_r0 : BitVec 32 := Scalar.remui arg10_r0 c3_i32_277_r0
  let c0_i32_280_r0 : BitVec 32 := 0#32
  let c0_i32_281_r0 : BitVec 32 := 0#32
  let c0_i32_282_r0 : BitVec 32 := 0#32
  ![v384_r0.toNat, 0, 0, 0]
def k0_off16 (arg17_r0 : BitVec 32) (arg18_r0 : BitVec 32) : Fin 3 → Nat :=
  let c1_i32_278_r0 : BitVec 32 := 1#32
  let true_164_r0 : BitVec 1 := 1#1
  let true_155_r0 : BitVec 1 := 1#1
  let c1_i32_154_r0 : BitVec 32 := 1#32
  let v153_r0 : BitVec 32 := Scalar.addi arg18_r0 c1_i32_154_r0
  let v154_r0 : BitVec 32 := Scalar.select true_155_r0 v153_r0 arg18_r0
  let c4_i32_156_r0 : BitVec 32 := 4#32
  let v155_r0 : BitVec 1 := Scalar.cmpi .eq v154_r0 c4_i32_156_r0
  let c0_i32_157_r0 : BitVec 32 := 0#32
  let v156_r0 : BitVec 32 := Scalar.select v155_r0 c0_i32_157_r0 v154_r0
  let c1_i32_163_r0 : BitVec 32 := 1#32
  let v163_r0 : BitVec 32 := Scalar.addi v156_r0 c1_i32_163_r0
  let v164_r0 : BitVec 32 := Scalar.select true_164_r0 v163_r0 v156_r0
  let c4_i32_165_r0 : BitVec 32 := 4#32
  let v165_r0 : BitVec 1 := Scalar.cmpi .eq v164_r0 c4_i32_165_r0
  let c1_i32_158_r0 : BitVec 32 := 1#32
  let v157_r0 : BitVec 32 := Scalar.addi arg17_r0 c1_i32_158_r0
  let v158_r0 : BitVec 32 := Scalar.select v155_r0 v157_r0 arg17_r0
  let c16_i32_159_r0 : BitVec 32 := 16#32
  let v159_r0 : BitVec 1 := Scalar.cmpi .eq v158_r0 c16_i32_159_r0
  let c0_i32_160_r0 : BitVec 32 := 0#32
  let v160_r0 : BitVec 32 := Scalar.select v159_r0 c0_i32_160_r0 v158_r0
  let c1_i32_167_r0 : BitVec 32 := 1#32
  let v167_r0 : BitVec 32 := Scalar.addi v160_r0 c1_i32_167_r0
  let v168_r0 : BitVec 32 := Scalar.select v165_r0 v167_r0 v160_r0
  let c16_i32_168_r0 : BitVec 32 := 16#32
  let v169_r0 : BitVec 1 := Scalar.cmpi .eq v168_r0 c16_i32_168_r0
  let c0_i32_169_r0 : BitVec 32 := 0#32
  let v170_r0 : BitVec 32 := Scalar.select v169_r0 c0_i32_169_r0 v168_r0
  let c0_i32_170_r0 : BitVec 32 := 0#32
  let v171_r0 : BitVec 32 := Scalar.addi v170_r0 c0_i32_170_r0
  let v385_r0 : BitVec 32 := Scalar.muli c1_i32_278_r0 v171_r0
  let c1024_i32_279_r0 : BitVec 32 := 1024#32
  let c0_i32_166_r0 : BitVec 32 := 0#32
  let v166_r0 : BitVec 32 := Scalar.select v165_r0 c0_i32_166_r0 v164_r0
  let c0_i32_171_r0 : BitVec 32 := 0#32
  let v172_r0 : BitVec 32 := Scalar.addi v166_r0 c0_i32_171_r0
  let v386_r0 : BitVec 32 := Scalar.muli c1024_i32_279_r0 v172_r0
  let c0_i32_283_r0 : BitVec 32 := 0#32
  ![v385_r0.toNat, v386_r0.toNat, 0]
def k0_off17 (arg12_r0 : BitVec 32) : Fin 1 → Nat :=
  let c2_i32_277_r0 : BitVec 32 := 2#32
  let v384_r0 : BitVec 32 := Scalar.remui arg12_r0 c2_i32_277_r0
  ![v384_r0.toNat]
def k0_cond5 (k0_t1 : Fin k0_t1_loop.trips) (arg17_r0 : BitVec 32) (arg18_r0 : BitVec 32) : BitVec 1 :=
  let c0_i32_143_r0 : BitVec 32 := 0#32
  let v141_r0 : BitVec 32 := Scalar.addi arg17_r0 c0_i32_143_r0
  let true_155_r0 : BitVec 1 := 1#1
  let c1_i32_154_r0 : BitVec 32 := 1#32
  let v153_r0 : BitVec 32 := Scalar.addi arg18_r0 c1_i32_154_r0
  let v154_r0 : BitVec 32 := Scalar.select true_155_r0 v153_r0 arg18_r0
  let c4_i32_156_r0 : BitVec 32 := 4#32
  let v155_r0 : BitVec 1 := Scalar.cmpi .eq v154_r0 c4_i32_156_r0
  let c1_i32_158_r0 : BitVec 32 := 1#32
  let v157_r0 : BitVec 32 := Scalar.addi arg17_r0 c1_i32_158_r0
  let v158_r0 : BitVec 32 := Scalar.select v155_r0 v157_r0 arg17_r0
  let c16_i32_159_r0 : BitVec 32 := 16#32
  let v159_r0 : BitVec 1 := Scalar.cmpi .eq v158_r0 c16_i32_159_r0
  let c0_i32_160_r0 : BitVec 32 := 0#32
  let v160_r0 : BitVec 32 := Scalar.select v159_r0 c0_i32_160_r0 v158_r0
  let c0_i32_161_r0 : BitVec 32 := 0#32
  let v161_r0 : BitVec 32 := Scalar.addi v160_r0 c0_i32_161_r0
  let v207_r0 : BitVec 1 := Scalar.cmpi .ne v141_r0 v161_r0
  let c0_i32_88_r0 : BitVec 32 := 0#32
  let c1_i32_89_r0 : BitVec 32 := 1#32
  let arg6_r0 : BitVec 32 := Scf.iv c0_i32_88_r0 c1_i32_89_r0 k0_t1
  let c63_i32_192_r0 : BitVec 32 := 63#32
  let v208_r0 : BitVec 1 := Scalar.cmpi .sge arg6_r0 c63_i32_192_r0
  let true_193_r0 : BitVec 1 := 1#1
  let v209_r0 : BitVec 1 := Scalar.xori v208_r0 true_193_r0
  let v210_r0 : BitVec 1 := Scalar.andi v207_r0 v209_r0
  let true_194_r0 : BitVec 1 := 1#1
  let v211_r0 : BitVec 1 := Scalar.andi v210_r0 true_194_r0
  let v212_r0 : BitVec 32 := Scalar.extui v211_r0
  let c0_i32_195_r0 : BitVec 32 := 0#32
  let v213_r0 : BitVec 1 := Scalar.cmpi .ne v212_r0 c0_i32_195_r0
  v213_r0

def k0_off18 (arg12_r0 : BitVec 32) : Fin 4 → Nat :=
  let c2_i32_277_r0 : BitVec 32 := 2#32
  let v384_r0 : BitVec 32 := Scalar.remui arg12_r0 c2_i32_277_r0
  let c0_i32_279_r0 : BitVec 32 := 0#32
  let c0_i32_280_r0 : BitVec 32 := 0#32
  let c0_i32_281_r0 : BitVec 32 := 0#32
  ![v384_r0.toNat, 0, 0, 0]
def k0_off19 (arg17_r0 : BitVec 32) (arg18_r0 : BitVec 32) : Fin 3 → Nat :=
  let c1_i32_278_r0 : BitVec 32 := 1#32
  let true_155_r0 : BitVec 1 := 1#1
  let c1_i32_154_r0 : BitVec 32 := 1#32
  let v153_r0 : BitVec 32 := Scalar.addi arg18_r0 c1_i32_154_r0
  let v154_r0 : BitVec 32 := Scalar.select true_155_r0 v153_r0 arg18_r0
  let c4_i32_156_r0 : BitVec 32 := 4#32
  let v155_r0 : BitVec 1 := Scalar.cmpi .eq v154_r0 c4_i32_156_r0
  let c1_i32_158_r0 : BitVec 32 := 1#32
  let v157_r0 : BitVec 32 := Scalar.addi arg17_r0 c1_i32_158_r0
  let v158_r0 : BitVec 32 := Scalar.select v155_r0 v157_r0 arg17_r0
  let c16_i32_159_r0 : BitVec 32 := 16#32
  let v159_r0 : BitVec 1 := Scalar.cmpi .eq v158_r0 c16_i32_159_r0
  let c0_i32_160_r0 : BitVec 32 := 0#32
  let v160_r0 : BitVec 32 := Scalar.select v159_r0 c0_i32_160_r0 v158_r0
  let c0_i32_161_r0 : BitVec 32 := 0#32
  let v161_r0 : BitVec 32 := Scalar.addi v160_r0 c0_i32_161_r0
  let v385_r0 : BitVec 32 := Scalar.muli c1_i32_278_r0 v161_r0
  let c0_i32_282_r0 : BitVec 32 := 0#32
  let c2048_i32_283_r0 : BitVec 32 := 2048#32
  ![v385_r0.toNat, 0, 2048]
def k0_off20 (arg8_r0 : BitVec 32) : Fin 1 → Nat :=
  let c3_i32_279_r0 : BitVec 32 := 3#32
  let v386_r0 : BitVec 32 := Scalar.remui arg8_r0 c3_i32_279_r0
  ![v386_r0.toNat]
def k0_cond6 (k0_t1 : Fin k0_t1_loop.trips) (arg17_r0 : BitVec 32) (arg18_r0 : BitVec 32) : BitVec 1 :=
  let c0_i32_143_r0 : BitVec 32 := 0#32
  let v141_r0 : BitVec 32 := Scalar.addi arg17_r0 c0_i32_143_r0
  let true_146_r0 : BitVec 1 := 1#1
  let c1_i32_145_r0 : BitVec 32 := 1#32
  let v143_r0 : BitVec 32 := Scalar.subi arg18_r0 c1_i32_145_r0
  let v144_r0 : BitVec 32 := Scalar.select true_146_r0 v143_r0 arg18_r0
  let c_m1_i32_147_r0 : BitVec 32 := 4294967295#32
  let v145_r0 : BitVec 1 := Scalar.cmpi .eq v144_r0 c_m1_i32_147_r0
  let c1_i32_149_r0 : BitVec 32 := 1#32
  let v147_r0 : BitVec 32 := Scalar.subi arg17_r0 c1_i32_149_r0
  let v148_r0 : BitVec 32 := Scalar.select v145_r0 v147_r0 arg17_r0
  let c_m1_i32_150_r0 : BitVec 32 := 4294967295#32
  let v149_r0 : BitVec 1 := Scalar.cmpi .eq v148_r0 c_m1_i32_150_r0
  let c15_i32_151_r0 : BitVec 32 := 15#32
  let v150_r0 : BitVec 32 := Scalar.select v149_r0 c15_i32_151_r0 v148_r0
  let c0_i32_152_r0 : BitVec 32 := 0#32
  let v151_r0 : BitVec 32 := Scalar.addi v150_r0 c0_i32_152_r0
  let v223_r0 : BitVec 1 := Scalar.cmpi .ne v141_r0 v151_r0
  let c0_i32_144_r0 : BitVec 32 := 0#32
  let v142_r0 : BitVec 32 := Scalar.addi arg18_r0 c0_i32_144_r0
  let c3_i32_148_r0 : BitVec 32 := 3#32
  let v146_r0 : BitVec 32 := Scalar.select v145_r0 c3_i32_148_r0 v144_r0
  let c0_i32_153_r0 : BitVec 32 := 0#32
  let v152_r0 : BitVec 32 := Scalar.addi v146_r0 c0_i32_153_r0
  let v224_r0 : BitVec 1 := Scalar.cmpi .ne v142_r0 v152_r0
  let v225_r0 : BitVec 1 := Scalar.ori v223_r0 v224_r0
  let c0_i32_88_r0 : BitVec 32 := 0#32
  let c1_i32_89_r0 : BitVec 32 := 1#32
  let arg6_r0 : BitVec 32 := Scf.iv c0_i32_88_r0 c1_i32_89_r0 k0_t1
  let c0_i32_142_r0 : BitVec 32 := 0#32
  let v139_r0 : BitVec 1 := Scalar.cmpi .eq arg6_r0 c0_i32_142_r0
  let v226_r0 : BitVec 1 := Scalar.ori v225_r0 v139_r0
  let c0_i32_200_r0 : BitVec 32 := 0#32
  let v227_r0 : BitVec 1 := Scalar.cmpi .sge arg6_r0 c0_i32_200_r0
  let v228_r0 : BitVec 1 := Scalar.andi v226_r0 v227_r0
  let v229_r0 : BitVec 32 := Scalar.extui v228_r0
  let c0_i32_201_r0 : BitVec 32 := 0#32
  let v230_r0 : BitVec 1 := Scalar.cmpi .ne v229_r0 c0_i32_201_r0
  v230_r0

def k0_off21 (arg8_r0 : BitVec 32) : Fin 4 → Nat :=
  let c3_i32_279_r0 : BitVec 32 := 3#32
  let v386_r0 : BitVec 32 := Scalar.remui arg8_r0 c3_i32_279_r0
  let c0_i32_280_r0 : BitVec 32 := 0#32
  let c0_i32_281_r0 : BitVec 32 := 0#32
  let c0_i32_282_r0 : BitVec 32 := 0#32
  ![v386_r0.toNat, 0, 0, 0]
def k0_off22 (arg17_r0 : BitVec 32) (arg18_r0 : BitVec 32) : Fin 3 → Nat :=
  let c1_i32_277_r0 : BitVec 32 := 1#32
  let c0_i32_143_r0 : BitVec 32 := 0#32
  let v141_r0 : BitVec 32 := Scalar.addi arg17_r0 c0_i32_143_r0
  let v384_r0 : BitVec 32 := Scalar.muli c1_i32_277_r0 v141_r0
  let c1024_i32_278_r0 : BitVec 32 := 1024#32
  let c0_i32_144_r0 : BitVec 32 := 0#32
  let v142_r0 : BitVec 32 := Scalar.addi arg18_r0 c0_i32_144_r0
  let v385_r0 : BitVec 32 := Scalar.muli c1024_i32_278_r0 v142_r0
  let c0_i32_283_r0 : BitVec 32 := 0#32
  ![v384_r0.toNat, v385_r0.toNat, 0]
def k0_off23 (arg11_r0 : BitVec 32) : Fin 1 → Nat :=
  let c3_i32_279_r0 : BitVec 32 := 3#32
  let v386_r0 : BitVec 32 := Scalar.remui arg11_r0 c3_i32_279_r0
  ![v386_r0.toNat]
def k0_cond7 (k0_t1 : Fin k0_t1_loop.trips) (arg17_r0 : BitVec 32) (arg18_r0 : BitVec 32) : BitVec 1 :=
  let c0_i32_143_r0 : BitVec 32 := 0#32
  let v141_r0 : BitVec 32 := Scalar.addi arg17_r0 c0_i32_143_r0
  let true_146_r0 : BitVec 1 := 1#1
  let c1_i32_145_r0 : BitVec 32 := 1#32
  let v143_r0 : BitVec 32 := Scalar.subi arg18_r0 c1_i32_145_r0
  let v144_r0 : BitVec 32 := Scalar.select true_146_r0 v143_r0 arg18_r0
  let c_m1_i32_147_r0 : BitVec 32 := 4294967295#32
  let v145_r0 : BitVec 1 := Scalar.cmpi .eq v144_r0 c_m1_i32_147_r0
  let c1_i32_149_r0 : BitVec 32 := 1#32
  let v147_r0 : BitVec 32 := Scalar.subi arg17_r0 c1_i32_149_r0
  let v148_r0 : BitVec 32 := Scalar.select v145_r0 v147_r0 arg17_r0
  let c_m1_i32_150_r0 : BitVec 32 := 4294967295#32
  let v149_r0 : BitVec 1 := Scalar.cmpi .eq v148_r0 c_m1_i32_150_r0
  let c15_i32_151_r0 : BitVec 32 := 15#32
  let v150_r0 : BitVec 32 := Scalar.select v149_r0 c15_i32_151_r0 v148_r0
  let c0_i32_152_r0 : BitVec 32 := 0#32
  let v151_r0 : BitVec 32 := Scalar.addi v150_r0 c0_i32_152_r0
  let v231_r0 : BitVec 1 := Scalar.cmpi .ne v141_r0 v151_r0
  let c0_i32_144_r0 : BitVec 32 := 0#32
  let v142_r0 : BitVec 32 := Scalar.addi arg18_r0 c0_i32_144_r0
  let c3_i32_148_r0 : BitVec 32 := 3#32
  let v146_r0 : BitVec 32 := Scalar.select v145_r0 c3_i32_148_r0 v144_r0
  let c0_i32_153_r0 : BitVec 32 := 0#32
  let v152_r0 : BitVec 32 := Scalar.addi v146_r0 c0_i32_153_r0
  let v232_r0 : BitVec 1 := Scalar.cmpi .ne v142_r0 v152_r0
  let v233_r0 : BitVec 1 := Scalar.ori v231_r0 v232_r0
  let c0_i32_88_r0 : BitVec 32 := 0#32
  let c1_i32_89_r0 : BitVec 32 := 1#32
  let arg6_r0 : BitVec 32 := Scf.iv c0_i32_88_r0 c1_i32_89_r0 k0_t1
  let c0_i32_142_r0 : BitVec 32 := 0#32
  let v139_r0 : BitVec 1 := Scalar.cmpi .eq arg6_r0 c0_i32_142_r0
  let v234_r0 : BitVec 1 := Scalar.ori v233_r0 v139_r0
  let c0_i32_202_r0 : BitVec 32 := 0#32
  let v235_r0 : BitVec 1 := Scalar.cmpi .sge arg6_r0 c0_i32_202_r0
  let v236_r0 : BitVec 1 := Scalar.andi v234_r0 v235_r0
  let v237_r0 : BitVec 32 := Scalar.extui v236_r0
  let c0_i32_203_r0 : BitVec 32 := 0#32
  let v238_r0 : BitVec 1 := Scalar.cmpi .ne v237_r0 c0_i32_203_r0
  v238_r0

def k0_off24 (arg11_r0 : BitVec 32) : Fin 4 → Nat :=
  let c3_i32_279_r0 : BitVec 32 := 3#32
  let v386_r0 : BitVec 32 := Scalar.remui arg11_r0 c3_i32_279_r0
  let c0_i32_280_r0 : BitVec 32 := 0#32
  let c0_i32_281_r0 : BitVec 32 := 0#32
  let c0_i32_282_r0 : BitVec 32 := 0#32
  ![v386_r0.toNat, 0, 0, 0]
def k0_off25 (arg17_r0 : BitVec 32) (arg18_r0 : BitVec 32) : Fin 3 → Nat :=
  let c1_i32_277_r0 : BitVec 32 := 1#32
  let c0_i32_143_r0 : BitVec 32 := 0#32
  let v141_r0 : BitVec 32 := Scalar.addi arg17_r0 c0_i32_143_r0
  let v384_r0 : BitVec 32 := Scalar.muli c1_i32_277_r0 v141_r0
  let c1024_i32_278_r0 : BitVec 32 := 1024#32
  let c0_i32_144_r0 : BitVec 32 := 0#32
  let v142_r0 : BitVec 32 := Scalar.addi arg18_r0 c0_i32_144_r0
  let v385_r0 : BitVec 32 := Scalar.muli c1024_i32_278_r0 v142_r0
  let c0_i32_283_r0 : BitVec 32 := 0#32
  ![v384_r0.toNat, v385_r0.toNat, 0]
def k0_off26 (arg13_r0 : BitVec 32) : Fin 1 → Nat :=
  let c2_i32_278_r0 : BitVec 32 := 2#32
  let v385_r0 : BitVec 32 := Scalar.remui arg13_r0 c2_i32_278_r0
  ![v385_r0.toNat]
def k0_cond8 (k0_t1 : Fin k0_t1_loop.trips) (arg17_r0 : BitVec 32) (arg18_r0 : BitVec 32) : BitVec 1 :=
  let c0_i32_143_r0 : BitVec 32 := 0#32
  let v141_r0 : BitVec 32 := Scalar.addi arg17_r0 c0_i32_143_r0
  let true_146_r0 : BitVec 1 := 1#1
  let c1_i32_145_r0 : BitVec 32 := 1#32
  let v143_r0 : BitVec 32 := Scalar.subi arg18_r0 c1_i32_145_r0
  let v144_r0 : BitVec 32 := Scalar.select true_146_r0 v143_r0 arg18_r0
  let c_m1_i32_147_r0 : BitVec 32 := 4294967295#32
  let v145_r0 : BitVec 1 := Scalar.cmpi .eq v144_r0 c_m1_i32_147_r0
  let c1_i32_149_r0 : BitVec 32 := 1#32
  let v147_r0 : BitVec 32 := Scalar.subi arg17_r0 c1_i32_149_r0
  let v148_r0 : BitVec 32 := Scalar.select v145_r0 v147_r0 arg17_r0
  let c_m1_i32_150_r0 : BitVec 32 := 4294967295#32
  let v149_r0 : BitVec 1 := Scalar.cmpi .eq v148_r0 c_m1_i32_150_r0
  let c15_i32_151_r0 : BitVec 32 := 15#32
  let v150_r0 : BitVec 32 := Scalar.select v149_r0 c15_i32_151_r0 v148_r0
  let c0_i32_152_r0 : BitVec 32 := 0#32
  let v151_r0 : BitVec 32 := Scalar.addi v150_r0 c0_i32_152_r0
  let v239_r0 : BitVec 1 := Scalar.cmpi .ne v141_r0 v151_r0
  let c0_i32_88_r0 : BitVec 32 := 0#32
  let c1_i32_89_r0 : BitVec 32 := 1#32
  let arg6_r0 : BitVec 32 := Scf.iv c0_i32_88_r0 c1_i32_89_r0 k0_t1
  let c0_i32_142_r0 : BitVec 32 := 0#32
  let v139_r0 : BitVec 1 := Scalar.cmpi .eq arg6_r0 c0_i32_142_r0
  let v240_r0 : BitVec 1 := Scalar.ori v239_r0 v139_r0
  let c0_i32_204_r0 : BitVec 32 := 0#32
  let v241_r0 : BitVec 1 := Scalar.cmpi .sge arg6_r0 c0_i32_204_r0
  let v242_r0 : BitVec 1 := Scalar.andi v240_r0 v241_r0
  let v243_r0 : BitVec 32 := Scalar.extui v242_r0
  let c0_i32_205_r0 : BitVec 32 := 0#32
  let v244_r0 : BitVec 1 := Scalar.cmpi .ne v243_r0 c0_i32_205_r0
  v244_r0

def k0_off27 (arg13_r0 : BitVec 32) : Fin 4 → Nat :=
  let c2_i32_278_r0 : BitVec 32 := 2#32
  let v385_r0 : BitVec 32 := Scalar.remui arg13_r0 c2_i32_278_r0
  let c0_i32_279_r0 : BitVec 32 := 0#32
  let c0_i32_280_r0 : BitVec 32 := 0#32
  let c0_i32_281_r0 : BitVec 32 := 0#32
  ![v385_r0.toNat, 0, 0, 0]
def k0_off28 (arg17_r0 : BitVec 32) : Fin 3 → Nat :=
  let c1_i32_277_r0 : BitVec 32 := 1#32
  let c0_i32_143_r0 : BitVec 32 := 0#32
  let v141_r0 : BitVec 32 := Scalar.addi arg17_r0 c0_i32_143_r0
  let v384_r0 : BitVec 32 := Scalar.muli c1_i32_277_r0 v141_r0
  let c0_i32_282_r0 : BitVec 32 := 0#32
  let c2048_i32_283_r0 : BitVec 32 := 2048#32
  ![v384_r0.toNat, 0, 2048]
def k0_off29 (arg8_r0 : BitVec 32) : Fin 4 → Nat :=
  let c3_i32_208_r0 : BitVec 32 := 3#32
  let v253_r0 : BitVec 32 := Scalar.remui arg8_r0 c3_i32_208_r0
  let c0_i32_212_r0 : BitVec 32 := 0#32
  let c0_i32_213_r0 : BitVec 32 := 0#32
  let c0_i32_214_r0 : BitVec 32 := 0#32
  ![v253_r0.toNat, 0, 0, 0]

def k0_chk2 (arg8_r0 : BitVec 32) : Prop :=
  (∀ a, (k0_off29 arg8_r0) a + S1x1x1024x1024.size a ≤ S3x1x1024x1024.size a)
theorem k0_off29_inb : ∀ (arg8_r0 : BitVec 32) (k0_hw2 : k0_chk2 arg8_r0), ∀ a, (k0_off29 arg8_r0) a + S1x1x1024x1024.size a ≤ S3x1x1024x1024.size a := fun arg8_r0 k0_hw2 => k0_hw2

def k0_off30 (arg11_r0 : BitVec 32) : Fin 4 → Nat :=
  let c3_i32_209_r0 : BitVec 32 := 3#32
  let v254_r0 : BitVec 32 := Scalar.remui arg11_r0 c3_i32_209_r0
  let c0_i32_219_r0 : BitVec 32 := 0#32
  let c0_i32_220_r0 : BitVec 32 := 0#32
  let c0_i32_221_r0 : BitVec 32 := 0#32
  ![v254_r0.toNat, 0, 0, 0]

def k0_chk3 (arg11_r0 : BitVec 32) : Prop :=
  (∀ a, (k0_off30 arg11_r0) a + S1x1x1024x1024.size a ≤ S3x1x1024x1024.size a)
theorem k0_off30_inb : ∀ (arg11_r0 : BitVec 32) (k0_hw3 : k0_chk3 arg11_r0), ∀ a, (k0_off30 arg11_r0) a + S1x1x1024x1024.size a ≤ S3x1x1024x1024.size a := fun arg11_r0 k0_hw3 => k0_hw3

def k0_off31 (arg13_r0 : BitVec 32) : Fin 4 → Nat :=
  let c2_i32_210_r0 : BitVec 32 := 2#32
  let v255_r0 : BitVec 32 := Scalar.remui arg13_r0 c2_i32_210_r0
  let c0_i32_225_r0 : BitVec 32 := 0#32
  let c0_i32_226_r0 : BitVec 32 := 0#32
  let c0_i32_227_r0 : BitVec 32 := 0#32
  ![v255_r0.toNat, 0, 0, 0]

def k0_chk4 (arg13_r0 : BitVec 32) : Prop :=
  (∀ a, (k0_off31 arg13_r0) a + S1x1x1x1024.size a ≤ S2x1x1x1024.size a)
theorem k0_off31_inb : ∀ (arg13_r0 : BitVec 32) (k0_hw4 : k0_chk4 arg13_r0), ∀ a, (k0_off31 arg13_r0) a + S1x1x1x1024.size a ≤ S2x1x1x1024.size a := fun arg13_r0 k0_hw4 => k0_hw4

def k0_off32 (arg15_r0 : BitVec 32) : Fin 4 → Nat :=
  let c2_i32_211_r0 : BitVec 32 := 2#32
  let v256_r0 : BitVec 32 := Scalar.remui arg15_r0 c2_i32_211_r0
  let c0_i32_236_r0 : BitVec 32 := 0#32
  let c0_i32_237_r0 : BitVec 32 := 0#32
  let c0_i32_238_r0 : BitVec 32 := 0#32
  ![v256_r0.toNat, 0, 0, 0]

def k0_chk5 (arg15_r0 : BitVec 32) : Prop :=
  (∀ a, (k0_off32 arg15_r0) a + S1x1x1024x1024.size a ≤ S2x1x1024x1024.size a)
theorem k0_off32_inb : ∀ (arg15_r0 : BitVec 32) (k0_hw5 : k0_chk5 arg15_r0), ∀ a, (k0_off32 arg15_r0) a + S1x1x1024x1024.size a ≤ S2x1x1024x1024.size a := fun arg15_r0 k0_hw5 => k0_hw5

def k0_off33 (arg15_r0 : BitVec 32) : Fin 1 → Nat :=
  let c2_i32_277_r0 : BitVec 32 := 2#32
  let v384_r0 : BitVec 32 := Scalar.remui arg15_r0 c2_i32_277_r0
  ![v384_r0.toNat]
def k0_cond13 (k0_t1 : Fin k0_t1_loop.trips) (arg17_r0 : BitVec 32) (arg18_r0 : BitVec 32) : BitVec 1 :=
  let c0_i32_143_r0 : BitVec 32 := 0#32
  let v141_r0 : BitVec 32 := Scalar.addi arg17_r0 c0_i32_143_r0
  let true_155_r0 : BitVec 1 := 1#1
  let c1_i32_154_r0 : BitVec 32 := 1#32
  let v153_r0 : BitVec 32 := Scalar.addi arg18_r0 c1_i32_154_r0
  let v154_r0 : BitVec 32 := Scalar.select true_155_r0 v153_r0 arg18_r0
  let c4_i32_156_r0 : BitVec 32 := 4#32
  let v155_r0 : BitVec 1 := Scalar.cmpi .eq v154_r0 c4_i32_156_r0
  let c1_i32_158_r0 : BitVec 32 := 1#32
  let v157_r0 : BitVec 32 := Scalar.addi arg17_r0 c1_i32_158_r0
  let v158_r0 : BitVec 32 := Scalar.select v155_r0 v157_r0 arg17_r0
  let c16_i32_159_r0 : BitVec 32 := 16#32
  let v159_r0 : BitVec 1 := Scalar.cmpi .eq v158_r0 c16_i32_159_r0
  let c0_i32_160_r0 : BitVec 32 := 0#32
  let v160_r0 : BitVec 32 := Scalar.select v159_r0 c0_i32_160_r0 v158_r0
  let c0_i32_161_r0 : BitVec 32 := 0#32
  let v161_r0 : BitVec 32 := Scalar.addi v160_r0 c0_i32_161_r0
  let v313_r0 : BitVec 1 := Scalar.cmpi .ne v141_r0 v161_r0
  let c0_i32_144_r0 : BitVec 32 := 0#32
  let v142_r0 : BitVec 32 := Scalar.addi arg18_r0 c0_i32_144_r0
  let c0_i32_157_r0 : BitVec 32 := 0#32
  let v156_r0 : BitVec 32 := Scalar.select v155_r0 c0_i32_157_r0 v154_r0
  let c0_i32_162_r0 : BitVec 32 := 0#32
  let v162_r0 : BitVec 32 := Scalar.addi v156_r0 c0_i32_162_r0
  let v314_r0 : BitVec 1 := Scalar.cmpi .ne v142_r0 v162_r0
  let v315_r0 : BitVec 1 := Scalar.ori v313_r0 v314_r0
  let c0_i32_88_r0 : BitVec 32 := 0#32
  let c1_i32_89_r0 : BitVec 32 := 1#32
  let arg6_r0 : BitVec 32 := Scf.iv c0_i32_88_r0 c1_i32_89_r0 k0_t1
  let c63_i32_r0 : BitVec 32 := 63#32
  let v140_r0 : BitVec 1 := Scalar.cmpi .eq arg6_r0 c63_i32_r0
  let v316_r0 : BitVec 1 := Scalar.ori v315_r0 v140_r0
  let v317_r0 : BitVec 32 := Scalar.extui v316_r0
  let c0_i32_247_r0 : BitVec 32 := 0#32
  let v318_r0 : BitVec 1 := Scalar.cmpi .ne v317_r0 c0_i32_247_r0
  v318_r0

def k0_off34 (arg17_r0 : BitVec 32) (arg18_r0 : BitVec 32) : Fin 3 → Nat :=
  let c1_i32_278_r0 : BitVec 32 := 1#32
  let c0_i32_143_r0 : BitVec 32 := 0#32
  let v141_r0 : BitVec 32 := Scalar.addi arg17_r0 c0_i32_143_r0
  let v385_r0 : BitVec 32 := Scalar.muli c1_i32_278_r0 v141_r0
  let c1024_i32_279_r0 : BitVec 32 := 1024#32
  let c0_i32_144_r0 : BitVec 32 := 0#32
  let v142_r0 : BitVec 32 := Scalar.addi arg18_r0 c0_i32_144_r0
  let v386_r0 : BitVec 32 := Scalar.muli c1024_i32_279_r0 v142_r0
  let c0_i32_280_r0 : BitVec 32 := 0#32
  ![v385_r0.toNat, v386_r0.toNat, 0]
def k0_off35 (arg15_r0 : BitVec 32) : Fin 4 → Nat :=
  let c2_i32_277_r0 : BitVec 32 := 2#32
  let v384_r0 : BitVec 32 := Scalar.remui arg15_r0 c2_i32_277_r0
  let c0_i32_281_r0 : BitVec 32 := 0#32
  let c0_i32_282_r0 : BitVec 32 := 0#32
  let c0_i32_283_r0 : BitVec 32 := 0#32
  ![v384_r0.toNat, 0, 0, 0]
def k0_off36 (arg16_r0 : BitVec 32) : Fin 1 → Nat :=
  let c2_i32_277_r0 : BitVec 32 := 2#32
  let v384_r0 : BitVec 32 := Scalar.remui arg16_r0 c2_i32_277_r0
  ![v384_r0.toNat]
def k0_cond17 (k0_t1 : Fin k0_t1_loop.trips) (arg17_r0 : BitVec 32) (arg18_r0 : BitVec 32) : BitVec 1 :=
  let c0_i32_143_r0 : BitVec 32 := 0#32
  let v141_r0 : BitVec 32 := Scalar.addi arg17_r0 c0_i32_143_r0
  let true_146_r0 : BitVec 1 := 1#1
  let c1_i32_145_r0 : BitVec 32 := 1#32
  let v143_r0 : BitVec 32 := Scalar.subi arg18_r0 c1_i32_145_r0
  let v144_r0 : BitVec 32 := Scalar.select true_146_r0 v143_r0 arg18_r0
  let c_m1_i32_147_r0 : BitVec 32 := 4294967295#32
  let v145_r0 : BitVec 1 := Scalar.cmpi .eq v144_r0 c_m1_i32_147_r0
  let c1_i32_149_r0 : BitVec 32 := 1#32
  let v147_r0 : BitVec 32 := Scalar.subi arg17_r0 c1_i32_149_r0
  let v148_r0 : BitVec 32 := Scalar.select v145_r0 v147_r0 arg17_r0
  let c_m1_i32_150_r0 : BitVec 32 := 4294967295#32
  let v149_r0 : BitVec 1 := Scalar.cmpi .eq v148_r0 c_m1_i32_150_r0
  let c15_i32_151_r0 : BitVec 32 := 15#32
  let v150_r0 : BitVec 32 := Scalar.select v149_r0 c15_i32_151_r0 v148_r0
  let c0_i32_152_r0 : BitVec 32 := 0#32
  let v151_r0 : BitVec 32 := Scalar.addi v150_r0 c0_i32_152_r0
  let v344_r0 : BitVec 1 := Scalar.cmpi .ne v141_r0 v151_r0
  let c0_i32_144_r0 : BitVec 32 := 0#32
  let v142_r0 : BitVec 32 := Scalar.addi arg18_r0 c0_i32_144_r0
  let c3_i32_148_r0 : BitVec 32 := 3#32
  let v146_r0 : BitVec 32 := Scalar.select v145_r0 c3_i32_148_r0 v144_r0
  let c0_i32_153_r0 : BitVec 32 := 0#32
  let v152_r0 : BitVec 32 := Scalar.addi v146_r0 c0_i32_153_r0
  let v345_r0 : BitVec 1 := Scalar.cmpi .ne v142_r0 v152_r0
  let v346_r0 : BitVec 1 := Scalar.ori v344_r0 v345_r0
  let c0_i32_88_r0 : BitVec 32 := 0#32
  let c1_i32_89_r0 : BitVec 32 := 1#32
  let arg6_r0 : BitVec 32 := Scf.iv c0_i32_88_r0 c1_i32_89_r0 k0_t1
  let c0_i32_142_r0 : BitVec 32 := 0#32
  let v139_r0 : BitVec 1 := Scalar.cmpi .eq arg6_r0 c0_i32_142_r0
  let true_259_r0 : BitVec 1 := 1#1
  let v347_r0 : BitVec 1 := Scalar.xori v139_r0 true_259_r0
  let v348_r0 : BitVec 1 := Scalar.andi v346_r0 v347_r0
  let v349_r0 : BitVec 32 := Scalar.extui v348_r0
  let c0_i32_260_r0 : BitVec 32 := 0#32
  let v350_r0 : BitVec 1 := Scalar.cmpi .ne v349_r0 c0_i32_260_r0
  v350_r0

def k0_off37 (arg17_r0 : BitVec 32) (arg18_r0 : BitVec 32) : Fin 3 → Nat :=
  let c1_i32_278_r0 : BitVec 32 := 1#32
  let true_146_r0 : BitVec 1 := 1#1
  let c1_i32_145_r0 : BitVec 32 := 1#32
  let v143_r0 : BitVec 32 := Scalar.subi arg18_r0 c1_i32_145_r0
  let v144_r0 : BitVec 32 := Scalar.select true_146_r0 v143_r0 arg18_r0
  let c_m1_i32_147_r0 : BitVec 32 := 4294967295#32
  let v145_r0 : BitVec 1 := Scalar.cmpi .eq v144_r0 c_m1_i32_147_r0
  let c1_i32_149_r0 : BitVec 32 := 1#32
  let v147_r0 : BitVec 32 := Scalar.subi arg17_r0 c1_i32_149_r0
  let v148_r0 : BitVec 32 := Scalar.select v145_r0 v147_r0 arg17_r0
  let c_m1_i32_150_r0 : BitVec 32 := 4294967295#32
  let v149_r0 : BitVec 1 := Scalar.cmpi .eq v148_r0 c_m1_i32_150_r0
  let c15_i32_151_r0 : BitVec 32 := 15#32
  let v150_r0 : BitVec 32 := Scalar.select v149_r0 c15_i32_151_r0 v148_r0
  let c0_i32_152_r0 : BitVec 32 := 0#32
  let v151_r0 : BitVec 32 := Scalar.addi v150_r0 c0_i32_152_r0
  let v385_r0 : BitVec 32 := Scalar.muli c1_i32_278_r0 v151_r0
  let c1024_i32_279_r0 : BitVec 32 := 1024#32
  let c3_i32_148_r0 : BitVec 32 := 3#32
  let v146_r0 : BitVec 32 := Scalar.select v145_r0 c3_i32_148_r0 v144_r0
  let c0_i32_153_r0 : BitVec 32 := 0#32
  let v152_r0 : BitVec 32 := Scalar.addi v146_r0 c0_i32_153_r0
  let v386_r0 : BitVec 32 := Scalar.muli c1024_i32_279_r0 v152_r0
  let c0_i32_280_r0 : BitVec 32 := 0#32
  ![v385_r0.toNat, v386_r0.toNat, 0]
def k0_off38 (arg16_r0 : BitVec 32) : Fin 4 → Nat :=
  let c2_i32_277_r0 : BitVec 32 := 2#32
  let v384_r0 : BitVec 32 := Scalar.remui arg16_r0 c2_i32_277_r0
  let c0_i32_281_r0 : BitVec 32 := 0#32
  let c0_i32_282_r0 : BitVec 32 := 0#32
  let c0_i32_283_r0 : BitVec 32 := 0#32
  ![v384_r0.toNat, 0, 0, 0]

def k0_chk1 (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) : Prop :=
  (∀ (k0_h3 : k0_cond3 k0_t1 arg17_r0 arg18_r0 = 1#1), ∀ a, (k0_off11 arg7_r0) a + S1.size a ≤ S3.size a) ∧
  (∀ (k0_h3 : k0_cond3 k0_t1 arg17_r0 arg18_r0 = 1#1), ∀ a, (k0_off12 arg7_r0) a + S1x1x1024x1024.size a ≤ S3x1x1024x1024.size a) ∧
  (∀ (k0_h3 : k0_cond3 k0_t1 arg17_r0 arg18_r0 = 1#1), ∀ a, (k0_off13 arg17_r0 arg18_r0) a + S1x1024x1024.size a ≤ S16x4096x1024.size a) ∧
  (∀ (k0_h3 : k0_cond3 k0_t1 arg17_r0 arg18_r0 = 1#1), ∀ (hinb : ∀ a, (k0_off13 arg17_r0 arg18_r0) a + S1x1024x1024.size a ≤ S16x4096x1024.size a), (Rect.unit (s := S16x4096x1024) (k0_off13 arg17_r0 arg18_r0) S1x1024x1024.size hinb).WholeWords (EltTy.packing .bf16)) ∧
  (∀ (k0_h3 : k0_cond3 k0_t1 arg17_r0 arg18_r0 = 1#1), ∀ (hinb : ∀ a, (k0_off12 arg7_r0) a + S1x1x1024x1024.size a ≤ S3x1x1024x1024.size a), (Rect.unit (s := S3x1x1024x1024) (k0_off12 arg7_r0) S1x1x1024x1024.size hinb).WholeWords (EltTy.packing .bf16)) ∧
  (∀ (k0_h4 : k0_cond4 k0_t1 arg17_r0 arg18_r0 = 1#1), ∀ a, (k0_off14 arg10_r0) a + S1.size a ≤ S3.size a) ∧
  (∀ (k0_h4 : k0_cond4 k0_t1 arg17_r0 arg18_r0 = 1#1), ∀ a, (k0_off15 arg10_r0) a + S1x1x1024x1024.size a ≤ S3x1x1024x1024.size a) ∧
  (∀ (k0_h4 : k0_cond4 k0_t1 arg17_r0 arg18_r0 = 1#1), ∀ a, (k0_off16 arg17_r0 arg18_r0) a + S1x1024x1024.size a ≤ S16x4096x1024.size a) ∧
  (∀ (k0_h5 : k0_cond5 k0_t1 arg17_r0 arg18_r0 = 1#1), ∀ a, (k0_off17 arg12_r0) a + S1.size a ≤ S2.size a) ∧
  (∀ (k0_h5 : k0_cond5 k0_t1 arg17_r0 arg18_r0 = 1#1), ∀ a, (k0_off18 arg12_r0) a + S1x1x1x1024.size a ≤ S2x1x1x1024.size a) ∧
  (∀ (k0_h5 : k0_cond5 k0_t1 arg17_r0 arg18_r0 = 1#1), ∀ a, (k0_off19 arg17_r0 arg18_r0) a + S1x1x1024.size a ≤ S24x1x6144.size a) ∧
  (∀ (k0_h6 : k0_cond6 k0_t1 arg17_r0 arg18_r0 = 1#1), ∀ a, (k0_off20 arg8_r0) a + S1.size a ≤ S3.size a) ∧
  (∀ (k0_h6 : k0_cond6 k0_t1 arg17_r0 arg18_r0 = 1#1), ∀ a, (k0_off21 arg8_r0) a + S1x1x1024x1024.size a ≤ S3x1x1024x1024.size a) ∧
  (∀ (k0_h6 : k0_cond6 k0_t1 arg17_r0 arg18_r0 = 1#1), ∀ a, (k0_off22 arg17_r0 arg18_r0) a + S1x1024x1024.size a ≤ S16x4096x1024.size a) ∧
  (∀ (k0_h6 : k0_cond6 k0_t1 arg17_r0 arg18_r0 = 1#1), ∀ (hinb : ∀ a, (k0_off22 arg17_r0 arg18_r0) a + S1x1024x1024.size a ≤ S16x4096x1024.size a), (Rect.unit (s := S16x4096x1024) (k0_off22 arg17_r0 arg18_r0) S1x1024x1024.size hinb).WholeWords (EltTy.packing .bf16)) ∧
  (∀ (k0_h6 : k0_cond6 k0_t1 arg17_r0 arg18_r0 = 1#1), ∀ (hinb : ∀ a, (k0_off21 arg8_r0) a + S1x1x1024x1024.size a ≤ S3x1x1024x1024.size a), (Rect.unit (s := S3x1x1024x1024) (k0_off21 arg8_r0) S1x1x1024x1024.size hinb).WholeWords (EltTy.packing .bf16)) ∧
  (∀ (k0_h7 : k0_cond7 k0_t1 arg17_r0 arg18_r0 = 1#1), ∀ a, (k0_off23 arg11_r0) a + S1.size a ≤ S3.size a) ∧
  (∀ (k0_h7 : k0_cond7 k0_t1 arg17_r0 arg18_r0 = 1#1), ∀ a, (k0_off24 arg11_r0) a + S1x1x1024x1024.size a ≤ S3x1x1024x1024.size a) ∧
  (∀ (k0_h7 : k0_cond7 k0_t1 arg17_r0 arg18_r0 = 1#1), ∀ a, (k0_off25 arg17_r0 arg18_r0) a + S1x1024x1024.size a ≤ S16x4096x1024.size a) ∧
  (∀ (k0_h8 : k0_cond8 k0_t1 arg17_r0 arg18_r0 = 1#1), ∀ a, (k0_off26 arg13_r0) a + S1.size a ≤ S2.size a) ∧
  (∀ (k0_h8 : k0_cond8 k0_t1 arg17_r0 arg18_r0 = 1#1), ∀ a, (k0_off27 arg13_r0) a + S1x1x1x1024.size a ≤ S2x1x1x1024.size a) ∧
  (∀ (k0_h8 : k0_cond8 k0_t1 arg17_r0 arg18_r0 = 1#1), ∀ a, (k0_off28 arg17_r0) a + S1x1x1024.size a ≤ S24x1x6144.size a) ∧
  (∀ (k0_h13 : k0_cond13 k0_t1 arg17_r0 arg18_r0 = 1#1), ∀ a, (k0_off33 arg15_r0) a + S1.size a ≤ S2.size a) ∧
  (∀ (k0_h13 : k0_cond13 k0_t1 arg17_r0 arg18_r0 = 1#1), ∀ a, (k0_off34 arg17_r0 arg18_r0) a + S1x1024x1024.size a ≤ S16x4096x1024.size a) ∧
  (∀ (k0_h13 : k0_cond13 k0_t1 arg17_r0 arg18_r0 = 1#1), ∀ a, (k0_off35 arg15_r0) a + S1x1x1024x1024.size a ≤ S2x1x1024x1024.size a) ∧
  (∀ (k0_h17 : k0_cond17 k0_t1 arg17_r0 arg18_r0 = 1#1), ∀ a, (k0_off36 arg16_r0) a + S1.size a ≤ S2.size a) ∧
  (∀ (k0_h17 : k0_cond17 k0_t1 arg17_r0 arg18_r0 = 1#1), ∀ a, (k0_off37 arg17_r0 arg18_r0) a + S1x1024x1024.size a ≤ S16x4096x1024.size a) ∧
  (∀ (k0_h17 : k0_cond17 k0_t1 arg17_r0 arg18_r0 = 1#1), ∀ a, (k0_off38 arg16_r0) a + S1x1x1024x1024.size a ≤ S2x1x1024x1024.size a)
theorem k0_off11_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h3 : k0_cond3 k0_t1 arg17_r0 arg18_r0 = 1#1), ∀ a, (k0_off11 arg7_r0) a + S1.size a ≤ S3.size a := fun k0_t1 arg7_r0 arg8_r0 arg10_r0 arg11_r0 arg12_r0 arg13_r0 arg15_r0 arg16_r0 arg17_r0 arg18_r0 k0_hw1 k0_h3 => k0_hw1.1 k0_h3
theorem k0_off12_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h3 : k0_cond3 k0_t1 arg17_r0 arg18_r0 = 1#1), ∀ a, (k0_off12 arg7_r0) a + S1x1x1024x1024.size a ≤ S3x1x1024x1024.size a := fun k0_t1 arg7_r0 arg8_r0 arg10_r0 arg11_r0 arg12_r0 arg13_r0 arg15_r0 arg16_r0 arg17_r0 arg18_r0 k0_hw1 k0_h3 => k0_hw1.2.1 k0_h3
theorem k0_off13_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h3 : k0_cond3 k0_t1 arg17_r0 arg18_r0 = 1#1), ∀ a, (k0_off13 arg17_r0 arg18_r0) a + S1x1024x1024.size a ≤ S16x4096x1024.size a := fun k0_t1 arg7_r0 arg8_r0 arg10_r0 arg11_r0 arg12_r0 arg13_r0 arg15_r0 arg16_r0 arg17_r0 arg18_r0 k0_hw1 k0_h3 => k0_hw1.2.2.1 k0_h3
theorem k0_off13_wordsbf16 : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h3 : k0_cond3 k0_t1 arg17_r0 arg18_r0 = 1#1), (Rect.unit (s := S16x4096x1024) (k0_off13 arg17_r0 arg18_r0) S1x1024x1024.size (k0_off13_inb k0_t1 arg7_r0 arg8_r0 arg10_r0 arg11_r0 arg12_r0 arg13_r0 arg15_r0 arg16_r0 arg17_r0 arg18_r0 k0_hw1 k0_h3)).WholeWords (EltTy.packing .bf16) := fun k0_t1 arg7_r0 arg8_r0 arg10_r0 arg11_r0 arg12_r0 arg13_r0 arg15_r0 arg16_r0 arg17_r0 arg18_r0 k0_hw1 k0_h3 => k0_hw1.2.2.2.1 k0_h3 (k0_off13_inb k0_t1 arg7_r0 arg8_r0 arg10_r0 arg11_r0 arg12_r0 arg13_r0 arg15_r0 arg16_r0 arg17_r0 arg18_r0 k0_hw1 k0_h3)
theorem k0_off12_wordsbf16 : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h3 : k0_cond3 k0_t1 arg17_r0 arg18_r0 = 1#1), (Rect.unit (s := S3x1x1024x1024) (k0_off12 arg7_r0) S1x1x1024x1024.size (k0_off12_inb k0_t1 arg7_r0 arg8_r0 arg10_r0 arg11_r0 arg12_r0 arg13_r0 arg15_r0 arg16_r0 arg17_r0 arg18_r0 k0_hw1 k0_h3)).WholeWords (EltTy.packing .bf16) := fun k0_t1 arg7_r0 arg8_r0 arg10_r0 arg11_r0 arg12_r0 arg13_r0 arg15_r0 arg16_r0 arg17_r0 arg18_r0 k0_hw1 k0_h3 => k0_hw1.2.2.2.2.1 k0_h3 (k0_off12_inb k0_t1 arg7_r0 arg8_r0 arg10_r0 arg11_r0 arg12_r0 arg13_r0 arg15_r0 arg16_r0 arg17_r0 arg18_r0 k0_hw1 k0_h3)
theorem k0_off14_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h4 : k0_cond4 k0_t1 arg17_r0 arg18_r0 = 1#1), ∀ a, (k0_off14 arg10_r0) a + S1.size a ≤ S3.size a := fun k0_t1 arg7_r0 arg8_r0 arg10_r0 arg11_r0 arg12_r0 arg13_r0 arg15_r0 arg16_r0 arg17_r0 arg18_r0 k0_hw1 k0_h4 => k0_hw1.2.2.2.2.2.1 k0_h4
theorem k0_off15_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h4 : k0_cond4 k0_t1 arg17_r0 arg18_r0 = 1#1), ∀ a, (k0_off15 arg10_r0) a + S1x1x1024x1024.size a ≤ S3x1x1024x1024.size a := fun k0_t1 arg7_r0 arg8_r0 arg10_r0 arg11_r0 arg12_r0 arg13_r0 arg15_r0 arg16_r0 arg17_r0 arg18_r0 k0_hw1 k0_h4 => k0_hw1.2.2.2.2.2.2.1 k0_h4
theorem k0_off16_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h4 : k0_cond4 k0_t1 arg17_r0 arg18_r0 = 1#1), ∀ a, (k0_off16 arg17_r0 arg18_r0) a + S1x1024x1024.size a ≤ S16x4096x1024.size a := fun k0_t1 arg7_r0 arg8_r0 arg10_r0 arg11_r0 arg12_r0 arg13_r0 arg15_r0 arg16_r0 arg17_r0 arg18_r0 k0_hw1 k0_h4 => k0_hw1.2.2.2.2.2.2.2.1 k0_h4
theorem k0_off17_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h5 : k0_cond5 k0_t1 arg17_r0 arg18_r0 = 1#1), ∀ a, (k0_off17 arg12_r0) a + S1.size a ≤ S2.size a := fun k0_t1 arg7_r0 arg8_r0 arg10_r0 arg11_r0 arg12_r0 arg13_r0 arg15_r0 arg16_r0 arg17_r0 arg18_r0 k0_hw1 k0_h5 => k0_hw1.2.2.2.2.2.2.2.2.1 k0_h5
theorem k0_off18_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h5 : k0_cond5 k0_t1 arg17_r0 arg18_r0 = 1#1), ∀ a, (k0_off18 arg12_r0) a + S1x1x1x1024.size a ≤ S2x1x1x1024.size a := fun k0_t1 arg7_r0 arg8_r0 arg10_r0 arg11_r0 arg12_r0 arg13_r0 arg15_r0 arg16_r0 arg17_r0 arg18_r0 k0_hw1 k0_h5 => k0_hw1.2.2.2.2.2.2.2.2.2.1 k0_h5
theorem k0_off19_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h5 : k0_cond5 k0_t1 arg17_r0 arg18_r0 = 1#1), ∀ a, (k0_off19 arg17_r0 arg18_r0) a + S1x1x1024.size a ≤ S24x1x6144.size a := fun k0_t1 arg7_r0 arg8_r0 arg10_r0 arg11_r0 arg12_r0 arg13_r0 arg15_r0 arg16_r0 arg17_r0 arg18_r0 k0_hw1 k0_h5 => k0_hw1.2.2.2.2.2.2.2.2.2.2.1 k0_h5
theorem k0_off20_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h6 : k0_cond6 k0_t1 arg17_r0 arg18_r0 = 1#1), ∀ a, (k0_off20 arg8_r0) a + S1.size a ≤ S3.size a := fun k0_t1 arg7_r0 arg8_r0 arg10_r0 arg11_r0 arg12_r0 arg13_r0 arg15_r0 arg16_r0 arg17_r0 arg18_r0 k0_hw1 k0_h6 => k0_hw1.2.2.2.2.2.2.2.2.2.2.2.1 k0_h6
theorem k0_off21_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h6 : k0_cond6 k0_t1 arg17_r0 arg18_r0 = 1#1), ∀ a, (k0_off21 arg8_r0) a + S1x1x1024x1024.size a ≤ S3x1x1024x1024.size a := fun k0_t1 arg7_r0 arg8_r0 arg10_r0 arg11_r0 arg12_r0 arg13_r0 arg15_r0 arg16_r0 arg17_r0 arg18_r0 k0_hw1 k0_h6 => k0_hw1.2.2.2.2.2.2.2.2.2.2.2.2.1 k0_h6
theorem k0_off22_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h6 : k0_cond6 k0_t1 arg17_r0 arg18_r0 = 1#1), ∀ a, (k0_off22 arg17_r0 arg18_r0) a + S1x1024x1024.size a ≤ S16x4096x1024.size a := fun k0_t1 arg7_r0 arg8_r0 arg10_r0 arg11_r0 arg12_r0 arg13_r0 arg15_r0 arg16_r0 arg17_r0 arg18_r0 k0_hw1 k0_h6 => k0_hw1.2.2.2.2.2.2.2.2.2.2.2.2.2.1 k0_h6
theorem k0_off22_wordsbf16 : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h6 : k0_cond6 k0_t1 arg17_r0 arg18_r0 = 1#1), (Rect.unit (s := S16x4096x1024) (k0_off22 arg17_r0 arg18_r0) S1x1024x1024.size (k0_off22_inb k0_t1 arg7_r0 arg8_r0 arg10_r0 arg11_r0 arg12_r0 arg13_r0 arg15_r0 arg16_r0 arg17_r0 arg18_r0 k0_hw1 k0_h6)).WholeWords (EltTy.packing .bf16) := fun k0_t1 arg7_r0 arg8_r0 arg10_r0 arg11_r0 arg12_r0 arg13_r0 arg15_r0 arg16_r0 arg17_r0 arg18_r0 k0_hw1 k0_h6 => k0_hw1.2.2.2.2.2.2.2.2.2.2.2.2.2.2.1 k0_h6 (k0_off22_inb k0_t1 arg7_r0 arg8_r0 arg10_r0 arg11_r0 arg12_r0 arg13_r0 arg15_r0 arg16_r0 arg17_r0 arg18_r0 k0_hw1 k0_h6)
theorem k0_off21_wordsbf16 : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h6 : k0_cond6 k0_t1 arg17_r0 arg18_r0 = 1#1), (Rect.unit (s := S3x1x1024x1024) (k0_off21 arg8_r0) S1x1x1024x1024.size (k0_off21_inb k0_t1 arg7_r0 arg8_r0 arg10_r0 arg11_r0 arg12_r0 arg13_r0 arg15_r0 arg16_r0 arg17_r0 arg18_r0 k0_hw1 k0_h6)).WholeWords (EltTy.packing .bf16) := fun k0_t1 arg7_r0 arg8_r0 arg10_r0 arg11_r0 arg12_r0 arg13_r0 arg15_r0 arg16_r0 arg17_r0 arg18_r0 k0_hw1 k0_h6 => k0_hw1.2.2.2.2.2.2.2.2.2.2.2.2.2.2.2.1 k0_h6 (k0_off21_inb k0_t1 arg7_r0 arg8_r0 arg10_r0 arg11_r0 arg12_r0 arg13_r0 arg15_r0 arg16_r0 arg17_r0 arg18_r0 k0_hw1 k0_h6)
theorem k0_off23_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h7 : k0_cond7 k0_t1 arg17_r0 arg18_r0 = 1#1), ∀ a, (k0_off23 arg11_r0) a + S1.size a ≤ S3.size a := fun k0_t1 arg7_r0 arg8_r0 arg10_r0 arg11_r0 arg12_r0 arg13_r0 arg15_r0 arg16_r0 arg17_r0 arg18_r0 k0_hw1 k0_h7 => k0_hw1.2.2.2.2.2.2.2.2.2.2.2.2.2.2.2.2.1 k0_h7
theorem k0_off24_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h7 : k0_cond7 k0_t1 arg17_r0 arg18_r0 = 1#1), ∀ a, (k0_off24 arg11_r0) a + S1x1x1024x1024.size a ≤ S3x1x1024x1024.size a := fun k0_t1 arg7_r0 arg8_r0 arg10_r0 arg11_r0 arg12_r0 arg13_r0 arg15_r0 arg16_r0 arg17_r0 arg18_r0 k0_hw1 k0_h7 => k0_hw1.2.2.2.2.2.2.2.2.2.2.2.2.2.2.2.2.2.1 k0_h7
theorem k0_off25_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h7 : k0_cond7 k0_t1 arg17_r0 arg18_r0 = 1#1), ∀ a, (k0_off25 arg17_r0 arg18_r0) a + S1x1024x1024.size a ≤ S16x4096x1024.size a := fun k0_t1 arg7_r0 arg8_r0 arg10_r0 arg11_r0 arg12_r0 arg13_r0 arg15_r0 arg16_r0 arg17_r0 arg18_r0 k0_hw1 k0_h7 => k0_hw1.2.2.2.2.2.2.2.2.2.2.2.2.2.2.2.2.2.2.1 k0_h7
theorem k0_off26_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h8 : k0_cond8 k0_t1 arg17_r0 arg18_r0 = 1#1), ∀ a, (k0_off26 arg13_r0) a + S1.size a ≤ S2.size a := fun k0_t1 arg7_r0 arg8_r0 arg10_r0 arg11_r0 arg12_r0 arg13_r0 arg15_r0 arg16_r0 arg17_r0 arg18_r0 k0_hw1 k0_h8 => k0_hw1.2.2.2.2.2.2.2.2.2.2.2.2.2.2.2.2.2.2.2.1 k0_h8
theorem k0_off27_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h8 : k0_cond8 k0_t1 arg17_r0 arg18_r0 = 1#1), ∀ a, (k0_off27 arg13_r0) a + S1x1x1x1024.size a ≤ S2x1x1x1024.size a := fun k0_t1 arg7_r0 arg8_r0 arg10_r0 arg11_r0 arg12_r0 arg13_r0 arg15_r0 arg16_r0 arg17_r0 arg18_r0 k0_hw1 k0_h8 => k0_hw1.2.2.2.2.2.2.2.2.2.2.2.2.2.2.2.2.2.2.2.2.1 k0_h8
theorem k0_off28_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h8 : k0_cond8 k0_t1 arg17_r0 arg18_r0 = 1#1), ∀ a, (k0_off28 arg17_r0) a + S1x1x1024.size a ≤ S24x1x6144.size a := fun k0_t1 arg7_r0 arg8_r0 arg10_r0 arg11_r0 arg12_r0 arg13_r0 arg15_r0 arg16_r0 arg17_r0 arg18_r0 k0_hw1 k0_h8 => k0_hw1.2.2.2.2.2.2.2.2.2.2.2.2.2.2.2.2.2.2.2.2.2.1 k0_h8
theorem k0_off33_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h13 : k0_cond13 k0_t1 arg17_r0 arg18_r0 = 1#1), ∀ a, (k0_off33 arg15_r0) a + S1.size a ≤ S2.size a := fun k0_t1 arg7_r0 arg8_r0 arg10_r0 arg11_r0 arg12_r0 arg13_r0 arg15_r0 arg16_r0 arg17_r0 arg18_r0 k0_hw1 k0_h13 => k0_hw1.2.2.2.2.2.2.2.2.2.2.2.2.2.2.2.2.2.2.2.2.2.2.1 k0_h13
theorem k0_off34_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h13 : k0_cond13 k0_t1 arg17_r0 arg18_r0 = 1#1), ∀ a, (k0_off34 arg17_r0 arg18_r0) a + S1x1024x1024.size a ≤ S16x4096x1024.size a := fun k0_t1 arg7_r0 arg8_r0 arg10_r0 arg11_r0 arg12_r0 arg13_r0 arg15_r0 arg16_r0 arg17_r0 arg18_r0 k0_hw1 k0_h13 => k0_hw1.2.2.2.2.2.2.2.2.2.2.2.2.2.2.2.2.2.2.2.2.2.2.2.1 k0_h13
theorem k0_off35_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h13 : k0_cond13 k0_t1 arg17_r0 arg18_r0 = 1#1), ∀ a, (k0_off35 arg15_r0) a + S1x1x1024x1024.size a ≤ S2x1x1024x1024.size a := fun k0_t1 arg7_r0 arg8_r0 arg10_r0 arg11_r0 arg12_r0 arg13_r0 arg15_r0 arg16_r0 arg17_r0 arg18_r0 k0_hw1 k0_h13 => k0_hw1.2.2.2.2.2.2.2.2.2.2.2.2.2.2.2.2.2.2.2.2.2.2.2.2.1 k0_h13
theorem k0_off36_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h17 : k0_cond17 k0_t1 arg17_r0 arg18_r0 = 1#1), ∀ a, (k0_off36 arg16_r0) a + S1.size a ≤ S2.size a := fun k0_t1 arg7_r0 arg8_r0 arg10_r0 arg11_r0 arg12_r0 arg13_r0 arg15_r0 arg16_r0 arg17_r0 arg18_r0 k0_hw1 k0_h17 => k0_hw1.2.2.2.2.2.2.2.2.2.2.2.2.2.2.2.2.2.2.2.2.2.2.2.2.2.1 k0_h17
theorem k0_off37_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h17 : k0_cond17 k0_t1 arg17_r0 arg18_r0 = 1#1), ∀ a, (k0_off37 arg17_r0 arg18_r0) a + S1x1024x1024.size a ≤ S16x4096x1024.size a := fun k0_t1 arg7_r0 arg8_r0 arg10_r0 arg11_r0 arg12_r0 arg13_r0 arg15_r0 arg16_r0 arg17_r0 arg18_r0 k0_hw1 k0_h17 => k0_hw1.2.2.2.2.2.2.2.2.2.2.2.2.2.2.2.2.2.2.2.2.2.2.2.2.2.2.1 k0_h17
theorem k0_off38_inb : ∀ (k0_t1 : Fin k0_t1_loop.trips) (arg7_r0 : BitVec 32) (arg8_r0 : BitVec 32) (arg10_r0 : BitVec 32) (arg11_r0 : BitVec 32) (arg12_r0 : BitVec 32) (arg13_r0 : BitVec 32) (arg15_r0 : BitVec 32) (arg16_r0 : BitVec 32) (arg17_r0 : BitVec 32) (arg18_r0 : BitVec 32) (k0_hw1 : k0_chk1 k0_t1 arg7_r0 arg8_r0 arg10_r0 arg11_r0 arg12_r0 arg13_r0 arg15_r0 arg16_r0 arg17_r0 arg18_r0), ∀ (k0_h17 : k0_cond17 k0_t1 arg17_r0 arg18_r0 = 1#1), ∀ a, (k0_off38 arg16_r0) a + S1x1x1024x1024.size a ≤ S2x1x1024x1024.size a := fun k0_t1 arg7_r0 arg8_r0 arg10_r0 arg11_r0 arg12_r0 arg13_r0 arg15_r0 arg16_r0 arg17_r0 arg18_r0 k0_hw1 k0_h17 => k0_hw1.2.2.2.2.2.2.2.2.2.2.2.2.2.2.2.2.2.2.2.2.2.2.2.2.2.2.2 k0_h17

def k0_off39 (v80_9_r0 : BitVec 32) : Fin 1 → Nat :=
  let c2_i32_136_r0 : BitVec 32 := 2#32
  let v131_r0 : BitVec 32 := Scalar.remui v80_9_r0 c2_i32_136_r0
  ![v131_r0.toNat]

def k0_off40 (v80_11_r0 : BitVec 32) (v80_10_r0 : BitVec 32) : Fin 3 → Nat :=
  let c1_i32_137_r0 : BitVec 32 := 1#32
  let true_92_r0 : BitVec 1 := 1#1
  let c1_i32_91_r0 : BitVec 32 := 1#32
  let v81_r0 : BitVec 32 := Scalar.subi v80_11_r0 c1_i32_91_r0
  let v82_r0 : BitVec 32 := Scalar.select true_92_r0 v81_r0 v80_11_r0
  let c_m1_i32_93_r0 : BitVec 32 := 4294967295#32
  let v83_r0 : BitVec 1 := Scalar.cmpi .eq v82_r0 c_m1_i32_93_r0
  let c1_i32_95_r0 : BitVec 32 := 1#32
  let v85_r0 : BitVec 32 := Scalar.subi v80_10_r0 c1_i32_95_r0
  let v86_r0 : BitVec 32 := Scalar.select v83_r0 v85_r0 v80_10_r0
  let c_m1_i32_96_r0 : BitVec 32 := 4294967295#32
  let v87_r0 : BitVec 1 := Scalar.cmpi .eq v86_r0 c_m1_i32_96_r0
  let c15_i32_97_r0 : BitVec 32 := 15#32
  let v88_r0 : BitVec 32 := Scalar.select v87_r0 c15_i32_97_r0 v86_r0
  let c0_i32_98_r0 : BitVec 32 := 0#32
  let v89_r0 : BitVec 32 := Scalar.addi v88_r0 c0_i32_98_r0
  let v132_r0 : BitVec 32 := Scalar.muli c1_i32_137_r0 v89_r0
  let c1024_i32_r0 : BitVec 32 := 1024#32
  let c3_i32_94_r0 : BitVec 32 := 3#32
  let v84_r0 : BitVec 32 := Scalar.select v83_r0 c3_i32_94_r0 v82_r0
  let c0_i32_99_r0 : BitVec 32 := 0#32
  let v90_r0 : BitVec 32 := Scalar.addi v84_r0 c0_i32_99_r0
  let v133_r0 : BitVec 32 := Scalar.muli c1024_i32_r0 v90_r0
  let c0_i32_138_r0 : BitVec 32 := 0#32
  ![v132_r0.toNat, v133_r0.toNat, 0]

def k0_chk7 (v80_11_r0 : BitVec 32) (v80_10_r0 : BitVec 32) : Prop :=
  (∀ a, (k0_off40 v80_11_r0 v80_10_r0) a + S1x1024x1024.size a ≤ S16x4096x1024.size a)
theorem k0_off40_inb : ∀ (v80_11_r0 : BitVec 32) (v80_10_r0 : BitVec 32) (k0_hw7 : k0_chk7 v80_11_r0 v80_10_r0), ∀ a, (k0_off40 v80_11_r0 v80_10_r0) a + S1x1024x1024.size a ≤ S16x4096x1024.size a := fun v80_11_r0 v80_10_r0 k0_hw7 => k0_hw7

def k0_off41 (v80_9_r0 : BitVec 32) : Fin 4 → Nat :=
  let c2_i32_136_r0 : BitVec 32 := 2#32
  let v131_r0 : BitVec 32 := Scalar.remui v80_9_r0 c2_i32_136_r0
  let c0_i32_139_r0 : BitVec 32 := 0#32
  let c0_i32_140_r0 : BitVec 32 := 0#32
  let c0_i32_141_r0 : BitVec 32 := 0#32
  ![v131_r0.toNat, 0, 0, 0]

def k0_chk6 (v80_9_r0 : BitVec 32) : Prop :=
  (∀ a, (k0_off39 v80_9_r0) a + S1.size a ≤ S2.size a) ∧
  (∀ a, (k0_off41 v80_9_r0) a + S1x1x1024x1024.size a ≤ S2x1x1024x1024.size a)
theorem k0_off39_inb : ∀ (v80_9_r0 : BitVec 32) (k0_hw6 : k0_chk6 v80_9_r0), ∀ a, (k0_off39 v80_9_r0) a + S1.size a ≤ S2.size a := fun v80_9_r0 k0_hw6 => k0_hw6.1
theorem k0_off41_inb : ∀ (v80_9_r0 : BitVec 32) (k0_hw6 : k0_chk6 v80_9_r0), ∀ a, (k0_off41 v80_9_r0) a + S1x1x1024x1024.size a ≤ S2x1x1024x1024.size a := fun v80_9_r0 k0_hw6 => k0_hw6.2
-- ==== ReferenceIdeal.lean ====
abbrev S16x4096x1024 : Shape := ⟨3, ![16, 4096, 1024]⟩
abbrev S1024x1024 : Shape := ⟨2, ![1024, 1024]⟩
abbrev S24x6144 : Shape := ⟨2, ![24, 6144]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x6144 : Shape := ⟨2, ![16, 6144]⟩
abbrev S16x1024 : Shape := ⟨2, ![16, 1024]⟩
abbrev S16x1x1024 : Shape := ⟨3, ![16, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S1024x1024, .f32⟩
  | .hbm, ⟨2, _⟩ => ⟨S16x4096x1024, .f32⟩
  | .hbm, ⟨3, _⟩ => ⟨S24x6144, .f32⟩
  | .hbm, ⟨4, _⟩ => ⟨S1024, .f32⟩
  | .hbm, ⟨5, _⟩ => ⟨S16x4096x1024, .f32⟩
  | .hbm, ⟨6, _⟩ => ⟨S16x4096x1024, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S16x6144, .f32⟩
  | .hbm, ⟨24, _⟩ => ⟨S16x1024, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S16x1x1024, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel2.lean ====
abbrev S16x4096x1024 : Shape := ⟨3, ![16, 4096, 1024]⟩
abbrev S24x6144 : Shape := ⟨2, ![24, 6144]⟩
abbrev S1024 : Shape := ⟨1, ![1024]⟩
abbrev S1024x5376 : Shape := ⟨2, ![1024, 5376]⟩
abbrev S3x5376 : Shape := ⟨2, ![3, 5376]⟩
abbrev S5376 : Shape := ⟨1, ![5376]⟩
abbrev S2688x1024 : Shape := ⟨2, ![2688, 1024]⟩
abbrev S24x1x6144 : Shape := ⟨3, ![24, 1, 6144]⟩
abbrev S1x1024 : Shape := ⟨2, ![1, 1024]⟩
abbrev S1024x2688 : Shape := ⟨2, ![1024, 2688]⟩
abbrev S1024x2560 : Shape := ⟨2, ![1024, 2560]⟩
abbrev S1024x10x256 : Shape := ⟨3, ![1024, 10, 256]⟩
abbrev S1024x10x512 : Shape := ⟨3, ![1024, 10, 512]⟩
abbrev S1024x128 : Shape := ⟨2, ![1024, 128]⟩
abbrev S1024x256 : Shape := ⟨2, ![1024, 256]⟩
abbrev S10x1024x512 : Shape := ⟨3, ![10, 1024, 512]⟩
abbrev S3x2688 : Shape := ⟨2, ![3, 2688]⟩
abbrev S3x2560 : Shape := ⟨2, ![3, 2560]⟩
abbrev S3x10x256 : Shape := ⟨3, ![3, 10, 256]⟩
abbrev S3x10x512 : Shape := ⟨3, ![3, 10, 512]⟩
abbrev S3x128 : Shape := ⟨2, ![3, 128]⟩
abbrev S3x256 : Shape := ⟨2, ![3, 256]⟩
abbrev S10x3x512 : Shape := ⟨3, ![10, 3, 512]⟩
abbrev S1x5376 : Shape := ⟨2, ![1, 5376]⟩
abbrev S1x2688 : Shape := ⟨2, ![1, 2688]⟩
abbrev S1x2560 : Shape := ⟨2, ![1, 2560]⟩
abbrev S1x10x256 : Shape := ⟨3, ![1, 10, 256]⟩
abbrev S1x10x512 : Shape := ⟨3, ![1, 10, 512]⟩
abbrev S1x128 : Shape := ⟨2, ![1, 128]⟩
abbrev S1x256 : Shape := ⟨2, ![1, 256]⟩
abbrev S10x1x512 : Shape := ⟨3, ![10, 1, 512]⟩
abbrev S2560x1024 : Shape := ⟨2, ![2560, 1024]⟩
abbrev S10x256x1024 : Shape := ⟨3, ![10, 256, 1024]⟩
abbrev S128x1024 : Shape := ⟨2, ![128, 1024]⟩
abbrev S1x512x1024 : Shape := ⟨3, ![1, 512, 1024]⟩
abbrev S1x8x1024 : Shape := ⟨3, ![1, 8, 1024]⟩
abbrev S1x1x1024 : Shape := ⟨3, ![1, 1, 1024]⟩
abbrev S528x1024 : Shape := ⟨2, ![528, 1024]⟩
abbrev S512x1024 : Shape := ⟨2, ![512, 1024]⟩
abbrev S2x528x512 : Shape := ⟨3, ![2, 528, 512]⟩
abbrev S528x256 : Shape := ⟨2, ![528, 256]⟩
abbrev S8x1024 : Shape := ⟨2, ![8, 1024]⟩
abbrev S8 : Shape := ⟨1, ![8]⟩
abbrev S8x1 : Shape := ⟨2, ![8, 1]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S528x512 : Shape := ⟨2, ![528, 512]⟩
abbrev S1x528x512 : Shape := ⟨3, ![1, 528, 512]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩
abbrev S1x256x1024 : Shape := ⟨3, ![1, 256, 1024]⟩
abbrev S256x1024 : Shape := ⟨2, ![256, 1024]⟩
abbrev S512x512 : Shape := ⟨2, ![512, 512]⟩
abbrev S512x256 : Shape := ⟨2, ![512, 256]⟩
abbrev S512x128 : Shape := ⟨2, ![512, 128]⟩

abbrev nBuf : Space → Nat
  | .hbm => 51
  | .vmem => 28
  | .smem => 0
  | _ => 0

abbrev bufTy : (tb : Table) → Fin (tcTables nBuf tb) → BufTy
  | .hbm, ⟨0, _⟩ => ⟨S16x4096x1024, .f32⟩
  | .hbm, ⟨1, _⟩ => ⟨S24x6144, .f32⟩
  | .hbm, ⟨2, _⟩ => ⟨S1024, .f32⟩
  | .hbm, ⟨3, _⟩ => ⟨S1024, .f32⟩
  | .hbm, ⟨4, _⟩ => ⟨S1024x5376, .f32⟩
  | .hbm, ⟨5, _⟩ => ⟨S3x5376, .f32⟩
  | .hbm, ⟨6, _⟩ => ⟨S5376, .f32⟩
  | .hbm, ⟨7, _⟩ => ⟨S2688x1024, .f32⟩
  | .hbm, ⟨8, _⟩ => ⟨S24x1x6144, .f32⟩
  | .hbm, ⟨9, _⟩ => ⟨S1x1024, .f32⟩
  | .hbm, ⟨10, _⟩ => ⟨S1x1024, .f32⟩
  | .hbm, ⟨11, _⟩ => ⟨S1024x5376, .bf16⟩
  | .hbm, ⟨12, _⟩ => ⟨S1024x2688, .bf16⟩
  | .hbm, ⟨13, _⟩ => ⟨S1024x2688, .bf16⟩
  | .hbm, ⟨14, _⟩ => ⟨S1024x2560, .bf16⟩
  | .hbm, ⟨15, _⟩ => ⟨S1024x10x256, .bf16⟩
  | .hbm, ⟨16, _⟩ => ⟨S1024x2560, .bf16⟩
  | .hbm, ⟨17, _⟩ => ⟨S1024x10x256, .bf16⟩
  | .hbm, ⟨18, _⟩ => ⟨S1024x10x512, .bf16⟩
  | .hbm, ⟨19, _⟩ => ⟨S1024x128, .bf16⟩
  | .hbm, ⟨20, _⟩ => ⟨S1024x128, .bf16⟩
  | .hbm, ⟨21, _⟩ => ⟨S1024x256, .bf16⟩
  | .hbm, ⟨22, _⟩ => ⟨S10x1024x512, .bf16⟩
  | .hbm, ⟨23, _⟩ => ⟨S3x2688, .f32⟩
  | .hbm, ⟨24, _⟩ => ⟨S3x2688, .f32⟩
  | .hbm, ⟨25, _⟩ => ⟨S3x2560, .f32⟩
  | .hbm, ⟨26, _⟩ => ⟨S3x10x256, .f32⟩
  | .hbm, ⟨27, _⟩ => ⟨S3x2560, .f32⟩
  | .hbm, ⟨28, _⟩ => ⟨S3x10x256, .f32⟩
  | .hbm, ⟨29, _⟩ => ⟨S3x10x512, .f32⟩
  | .hbm, ⟨30, _⟩ => ⟨S3x128, .f32⟩
  | .hbm, ⟨31, _⟩ => ⟨S3x128, .f32⟩
  | .hbm, ⟨32, _⟩ => ⟨S3x256, .f32⟩
  | .hbm, ⟨33, _⟩ => ⟨S10x3x512, .f32⟩
  | .hbm, ⟨34, _⟩ => ⟨S1x5376, .f32⟩
  | .hbm, ⟨35, _⟩ => ⟨S1x2688, .f32⟩
  | .hbm, ⟨36, _⟩ => ⟨S1x2688, .f32⟩
  | .hbm, ⟨37, _⟩ => ⟨S1x2560, .f32⟩
  | .hbm, ⟨38, _⟩ => ⟨S1x10x256, .f32⟩
  | .hbm, ⟨39, _⟩ => ⟨S1x2560, .f32⟩
  | .hbm, ⟨40, _⟩ => ⟨S1x10x256, .f32⟩
  | .hbm, ⟨41, _⟩ => ⟨S1x10x512, .f32⟩
  | .hbm, ⟨42, _⟩ => ⟨S1x128, .f32⟩
  | .hbm, ⟨43, _⟩ => ⟨S1x128, .f32⟩
  | .hbm, ⟨44, _⟩ => ⟨S1x256, .f32⟩
  | .hbm, ⟨45, _⟩ => ⟨S10x1x512, .f32⟩
  | .hbm, ⟨46, _⟩ => ⟨S2688x1024, .bf16⟩
  | .hbm, ⟨47, _⟩ => ⟨S2560x1024, .bf16⟩
  | .hbm, ⟨48, _⟩ => ⟨S10x256x1024, .bf16⟩
  | .hbm, ⟨49, _⟩ => ⟨S128x1024, .bf16⟩
  | .hbm, ⟨50, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024, .f32⟩
  | .local _ .vmem, ⟨14, _⟩ => ⟨S10x1024x512, .bf16⟩
  | .local _ .vmem, ⟨15, _⟩ => ⟨S1024x256, .bf16⟩
  | .local _ .vmem, ⟨16, _⟩ => ⟨S10x3x512, .f32⟩
  | .local _ .vmem, ⟨17, _⟩ => ⟨S3x256, .f32⟩
  | .local _ .vmem, ⟨18, _⟩ => ⟨S10x1x512, .f32⟩
  | .local _ .vmem, ⟨19, _⟩ => ⟨S1x256, .f32⟩
  | .local _ .vmem, ⟨20, _⟩ => ⟨S10x256x1024, .bf16⟩
  | .local _ .vmem, ⟨21, _⟩ => ⟨S128x1024, .bf16⟩
  | .local _ .vmem, ⟨22, _⟩ => ⟨S1x512x1024, .f32⟩
  | .local _ .vmem, ⟨23, _⟩ => ⟨S1x512x1024, .f32⟩
  | .local _ .vmem, ⟨24, _⟩ => ⟨S528x1024, .bf16⟩
  | .local _ .vmem, ⟨25, _⟩ => ⟨S512x1024, .f32⟩
  | .local _ .vmem, ⟨26, _⟩ => ⟨S2x528x512, .f32⟩
  | .local _ .vmem, ⟨27, _⟩ => ⟨S528x256, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![16, 8], ![false, false]⟩

def k0_off1 (c0_i32_45 : BitVec 32) (c1_i32 : BitVec 32) : Fin 3 → Nat :=
  let c2_i32 : BitVec 32 := 2#32
  let v95 : BitVec 32 := Scalar.muli c2_i32 c0_i32_45
  let v96 : BitVec 32 := Scalar.addi v95 c1_i32
  let v98 : Index := Scalar.indexCast v96
  let c0_48 : Index := 0#32
  let c0_49 : Index := 0#32
  ![v98.toNat, 0, 0]
def k0_off2 (c0_i32_45 : BitVec 32) : Fin 3 → Nat :=
  let c2_i32 : BitVec 32 := 2#32
  let v95 : BitVec 32 := Scalar.muli c2_i32 c0_i32_45
  let v106 : Index := Scalar.indexCast v95
  let c0_55 : Index := 0#32
  let c0_56 : Index := 0#32
  ![v106.toNat, 0, 0]
def k0_off3 (c0_i32_45 : BitVec 32) : Fin 3 → Nat :=
  let c2_i32 : BitVec 32 := 2#32
  let v95 : BitVec 32 := Scalar.muli c2_i32 c0_i32_45
  let v109 : Index := Scalar.indexCast v95
  let c0_57 : Index := 0#32
  let c0_58 : Index := 0#32
  ![v109.toNat, 0, 0]
def k0_off4 (c0_i32_45 : BitVec 32) : Fin 3 → Nat :=
  let c2_i32 : BitVec 32 := 2#32
  let v95 : BitVec 32 := Scalar.muli c2_i32 c0_i32_45
  let v112 : Index := Scalar.indexCast v95
  let c0_59 : Index := 0#32
  let c0_60 : Index := 0#32
  ![v112.toNat, 0, 0]
def k0_off5 (c0_i32_45 : BitVec 32) : Fin 3 → Nat :=
  let c2_i32 : BitVec 32 := 2#32
  let v95 : BitVec 32 := Scalar.muli c2_i32 c0_i32_45
  let c1_i32_83 : BitVec 32 := 1#32
  let v167 : BitVec 32 := Scalar.addi v95 c1_i32_83
  let v168 : Index := Scalar.indexCast v167
  let c0_84 : Index := 0#32
  let c0_85 : Index := 0#32
  ![v168.toNat, 0, 0]
def k0_off6 (c0_i32_45 : BitVec 32) : Fin 3 → Nat :=
  let c2_i32 : BitVec 32 := 2#32
  let v95 : BitVec 32 := Scalar.muli c2_i32 c0_i32_45
  let c1_i32_83 : BitVec 32 := 1#32
  let v167 : BitVec 32 := Scalar.addi v95 c1_i32_83
  let v171 : Index := Scalar.indexCast v167
  let c0_86 : Index := 0#32
  let c0_87 : Index := 0#32
  ![v171.toNat, 0, 0]
def k0_off7 (c0_i32_45 : BitVec 32) : Fin 3 → Nat :=
  let c2_i32 : BitVec 32 := 2#32
  let v95 : BitVec 32 := Scalar.muli c2_i32 c0_i32_45
  let c1_i32_83 : BitVec 32 := 1#32
  let v167 : BitVec 32 := Scalar.addi v95 c1_i32_83
  let v174 : Index := Scalar.indexCast v167
  let c0_88 : Index := 0#32
  let c0_89 : Index := 0#32
  ![v174.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S10x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S10x3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S10x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S10x256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S16x4096x1024 : Shape := ⟨3, ![16, 4096, 1024]⟩
abbrev S24x6144 : Shape := ⟨2, ![24, 6144]⟩
abbrev S1024 : Shape := ⟨1, ![1024]⟩
abbrev S1024x5376 : Shape := ⟨2, ![1024, 5376]⟩
abbrev S3x5376 : Shape := ⟨2, ![3, 5376]⟩
abbrev S5376 : Shape := ⟨1, ![5376]⟩
abbrev S2688x1024 : Shape := ⟨2, ![2688, 1024]⟩
abbrev S16x6144 : Shape := ⟨2, ![16, 6144]⟩
abbrev S16x1024 : Shape := ⟨2, ![16, 1024]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5376 : Shape := ⟨3, ![16, 4096, 5376]⟩
abbrev S16x4098x5376 : Shape := ⟨3, ![16, 4098, 5376]⟩
abbrev S1x5376 : Shape := ⟨2, ![1, 5376]⟩
abbrev S1x1x5376 : Shape := ⟨3, ![1, 1, 5376]⟩
abbrev S16x4096x2688 : Shape := ⟨3, ![16, 4096, 2688]⟩

abbrev nBuf : Space → Nat
  | .hbm => 108
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S24x6144, .f32⟩
  | .hbm, ⟨2, _⟩ => ⟨S1024, .f32⟩
  | .hbm, ⟨3, _⟩ => ⟨S1024, .f32⟩
  | .hbm, ⟨4, _⟩ => ⟨S1024x5376, .f32⟩
  | .hbm, ⟨5, _⟩ => ⟨S3x5376, .f32⟩
  | .hbm, ⟨6, _⟩ => ⟨S5376, .f32⟩
  | .hbm, ⟨7, _⟩ => ⟨S2688x1024, .f32⟩
  | .hbm, ⟨8, _⟩ => ⟨S16x6144, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x4096x1024, .f32⟩
  | .hbm, ⟨19, _⟩ => ⟨S_, .f32⟩
  | .hbm, ⟨20, _⟩ => ⟨S16x4096, .f32⟩
  | .hbm, ⟨21, _⟩ => ⟨S16x4096x1, .f32⟩
  | .hbm, ⟨22, _⟩ => ⟨S_, .f32⟩
  | .hbm, ⟨23, _⟩ => ⟨S16x4096x1, .f32⟩
  | .hbm, ⟨24, _⟩ => ⟨S16x4096x1, .f32⟩
  | .hbm, ⟨25, _⟩ => ⟨S_, .f32⟩
  | .hbm, ⟨26, _⟩ => ⟨S16x4096x1, .f32⟩
  | .hbm, ⟨27, _⟩ => ⟨S16x4096x1, .f32⟩
  | .hbm, ⟨28, _⟩ => ⟨S16x4096x1, .f32⟩
  | .hbm, ⟨29, _⟩ => ⟨S16x4096x1024, .f32⟩
  | .hbm, ⟨30, _⟩ => ⟨S16x4096x1024, .f32⟩
  | .hbm, ⟨31, _⟩ => ⟨S1x1x1024, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x1x1024, .f32⟩
  | .hbm, ⟨36, _⟩ => ⟨S16x1x1024, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x5376, .f32⟩
  | .hbm, ⟨42, _⟩ => ⟨S_, .i32⟩
  | .hbm, ⟨43, _⟩ => ⟨S_, .f32⟩
  | .hbm, ⟨44, _⟩ => ⟨S16x4098x5376, .f32⟩
  | .hbm, ⟨45, _⟩ => ⟨S16x4096x5376, .f32⟩
  | .hbm, ⟨46, _⟩ => ⟨S1x5376, .f32⟩
  | .hbm, ⟨47, _⟩ => ⟨S5376, .f32⟩
  | .hbm, ⟨48, _⟩ => ⟨S1x1x5376, .f32⟩
  | .hbm, ⟨49, _⟩ => ⟨S16x4096x5376, .f32⟩
  | .hbm, ⟨50, _⟩ => ⟨S16x4096x5376, .f32⟩
  | .hbm, ⟨51, _⟩ => ⟨S16x4096x5376, .f32⟩
  | .hbm, ⟨52, _⟩ => ⟨S1x5376, .f32⟩
  | .hbm, ⟨53, _⟩ => ⟨S5376, .f32⟩
  | .hbm, ⟨54, _⟩ => ⟨S1x1x5376, .f32⟩
  | .hbm, ⟨55, _⟩ => ⟨S16x4096x5376, .f32⟩
  | .hbm, ⟨56, _⟩ => ⟨S16x4096x5376, .f32⟩
  | .hbm, ⟨57, _⟩ => ⟨S16x4096x5376, .f32⟩
  | .hbm, ⟨58, _⟩ => ⟨S16x4096x5376, .f32⟩
  | .hbm, ⟨59, _⟩ => ⟨S1x5376, .f32⟩
  | .hbm, ⟨60, _⟩ => ⟨S5376, .f32⟩
  | .hbm, ⟨61, _⟩ => ⟨S1x1x5376, .f32⟩
  | .hbm, ⟨62, _⟩ => ⟨S16x4096x5376, .f32⟩
  | .hbm, ⟨63, _⟩ => ⟨S16x4096x5376, .f32⟩
  | .hbm, ⟨64, _⟩ => ⟨S16x4096x5376, .f32⟩
  | .hbm, ⟨65, _⟩ => ⟨S1x1x5376, .f32⟩
  | .hbm, ⟨66, _⟩ => ⟨S16x4096x5376, .f32⟩
  | .hbm, ⟨67, _⟩ => ⟨S16x4096x5376, .f32⟩
  | .hbm, ⟨68, _⟩ => ⟨S16x4096x2688, .f32⟩
  | .hbm, ⟨69, _⟩ => ⟨S16x4096x2688, .f32⟩
  | .hbm, ⟨70, _⟩ => ⟨S16x4096x2688, .f32⟩
  | .hbm, ⟨71, _⟩ => ⟨S16x4096x2688, .f32⟩
  | .hbm, ⟨72, _⟩ => ⟨S_, .f32⟩
  | .hbm, ⟨73, _⟩ => ⟨S16x4096x2688, .f32⟩
  | .hbm, ⟨74, _⟩ => ⟨S16x4096x2688, .f32⟩
  | .hbm, ⟨75, _⟩ => ⟨S16x4096x2688, .f32⟩
  | .hbm, ⟨76, _⟩ => ⟨S_, .f32⟩
  | .hbm, ⟨77, _⟩ => ⟨S16x4096x2688, .f32⟩
  | .hbm, ⟨78, _⟩ => ⟨S16x4096x2688, .f32⟩
  | .hbm, ⟨79, _⟩ => ⟨S16x4096x2688, .f32⟩
  | .hbm, ⟨80, _⟩ => ⟨S_, .f32⟩
  | .hbm, ⟨81, _⟩ => ⟨S16x4096x2688, .f32⟩
  | .hbm, ⟨82, _⟩ => ⟨S16x4096x2688, .f32⟩
  | .hbm, ⟨83, _⟩ => ⟨S_, .f32⟩
  | .hbm, ⟨84, _⟩ => ⟨S16x4096x2688, .f32⟩
  | .hbm, ⟨85, _⟩ => ⟨S16x4096x2688, .f32⟩
  | .hbm, ⟨86, _⟩ => ⟨S16x4096x2688, .f32⟩
  | .hbm, ⟨87, _⟩ => ⟨S16x4096x2688, .f32⟩
  | .hbm, ⟨88, _⟩ => ⟨S16x4096x1024, .f32⟩
  | .hbm, ⟨89, _⟩ => ⟨S16x4096x1024, .f32⟩
  | .hbm, ⟨90, _⟩ => ⟨S_, .f32⟩
  | .hbm, ⟨91, _⟩ => ⟨S16x4096, .f32⟩
  | .hbm, ⟨92, _⟩ => ⟨S16x4096x1, .f32⟩
  | .hbm, ⟨93, _⟩ => ⟨S_, .f32⟩
  | .hbm, ⟨94, _⟩ => ⟨S16x4096x1, .f32⟩
  | .hbm, ⟨95, _⟩ => ⟨S16x4096x1, .f32⟩
  | .hbm, ⟨96, _⟩ => ⟨S_, .f32⟩
  | .hbm, ⟨97, _⟩ => ⟨S16x4096x1, .f32⟩
  | .hbm, ⟨98, _⟩ => ⟨S16x4096x1, .f32⟩
  | .hbm, ⟨99, _⟩ => ⟨S16x4096x1, .f32⟩
  | .hbm, ⟨100, _⟩ => ⟨S16x4096x1024, .f32⟩
  | .hbm, ⟨101, _⟩ => ⟨S16x4096x1024, .f32⟩
  | .hbm, ⟨102, _⟩ => ⟨S1x1x1024, .f32⟩
  | .hbm, ⟨103, _⟩ => ⟨S16x4096x1024, .f32⟩
  | .hbm, ⟨104, _⟩ => ⟨S16x4096x1024, .f32⟩
  | .hbm, ⟨105, _⟩ => ⟨S16x4096x1024, .f32⟩
  | .hbm, ⟨106, _⟩ => ⟨S16x4096x1024, .f32⟩
  | .hbm, ⟨107, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call0_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_4 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_5 : Ref sig .tc := ⟨.hbm, 80, rfl⟩
abbrev main_v64 : Ref sig .tc := ⟨.hbm, 81, rfl⟩
abbrev main_v65 : Ref sig .tc := ⟨.hbm, 82, rfl⟩
abbrev main_cst_6 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_7 : Ref sig .tc := ⟨.hbm, 90, rfl⟩
abbrev main_v72 : Ref sig .tc := ⟨.hbm, 91, rfl⟩
abbrev main_v73 : Ref sig .tc := ⟨.hbm, 92, rfl⟩
abbrev main_cst_8 : Ref sig .tc := ⟨.hbm, 93, rfl⟩
abbrev main_v74 : Ref sig .tc := ⟨.hbm, 94, rfl⟩
abbrev main_v75 : Ref sig .tc := ⟨.hbm, 95, rfl⟩
abbrev main_cst_9 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩

abbrev nD : Nat := 1
abbrev τ : Topo := Topo.v7x

variable {F : FTy → Type} [FloatOps F]
-- ==== Kernel3.lean ====
abbrev S24x1024 : Shape := ⟨2, ![24, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x24x6144 : Shape := ⟨3, ![4, 24, 6144]⟩
abbrev S1x1024x1024 : Shape := ⟨3, ![1, 1024, 1024]⟩
abbrev S1x1x1024 : Shape := ⟨3, ![1, 1, 1024]⟩
abbrev S1x24x1024 : Shape := ⟨3, ![1, 24, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x24x6144, .f32⟩
  | .local _ .vmem, ⟨0, _⟩ => ⟨S24x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x24x1024, .f32⟩
  | .local _ .vmem, ⟨6, _⟩ => ⟨S1x24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S24x1024 : Shape := ⟨2, ![24, 1024]⟩
abbrev S4x1024x6144 : Shape := ⟨3, ![4, 1024, 6144]⟩
abbrev S4x6144 : Shape := ⟨2, ![4, 6144]⟩
abbrev S_ : Shape := ⟨0, ![]⟩
abbrev S4x6144x24 : Shape := ⟨3, ![4, 6144, 24]⟩
abbrev S4x24x6144 : Shape := ⟨3, ![4, 24, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S4x1024x6144, .f32⟩
  | .hbm, ⟨2, _⟩ => ⟨S4x6144, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S4x6144x24, .f32⟩
  | .hbm, ⟨13, _⟩ => ⟨S4x24x6144, .f32⟩
  | .hbm, ⟨14, _⟩ => ⟨S4x1x6144, .f32⟩
  | .hbm, ⟨15, _⟩ => ⟨S4x24x6144, .f32⟩
  | .hbm, ⟨16, _⟩ => ⟨S4x24x6144, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel4.lean ====
abbrev S16x4096x1024 : Shape := ⟨3, ![16, 4096, 1024]⟩
abbrev S24x6144 : Shape := ⟨2, ![24, 6144]⟩
abbrev S1024 : Shape := ⟨1, ![1024]⟩
abbrev S1024x1280 : Shape := ⟨2, ![1024, 1280]⟩
abbrev S4096x32 : Shape := ⟨2, ![4096, 32]⟩
abbrev S24x1x6144 : Shape := ⟨3, ![24, 1, 6144]⟩
abbrev S4096x128 : Shape := ⟨2, ![4096, 128]⟩
abbrev S1x1024 : Shape := ⟨2, ![1, 1024]⟩
abbrev S1024x1024 : Shape := ⟨2, ![1024, 1024]⟩
abbrev S1024x128 : Shape := ⟨2, ![1024, 128]⟩
abbrev S1024x2x1x64 : Shape := ⟨4, ![1024, 2, 1, 64]⟩
abbrev S1024x2x2x64 : Shape := ⟨4, ![1024, 2, 2, 64]⟩
abbrev S1024x256 : Shape := ⟨2, ![1024, 256]⟩
abbrev S1024x1408 : Shape := ⟨2, ![1024, 1408]⟩
abbrev S16x4096x512 : Shape := ⟨3, ![16, 4096, 512]⟩
abbrev S16x4096x256 : Shape := ⟨3, ![16, 4096, 256]⟩
abbrev S16x32x160x128 : Shape := ⟨4, ![16, 32, 160, 128]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S1x1024x256 : Shape := ⟨3, ![1, 1024, 256]⟩
abbrev S1x8x160x128 : Shape := ⟨4, ![1, 8, 160, 128]⟩
abbrev S1024x1 : Shape := ⟨2, ![1024, 1]⟩
abbrev S1024x512 : Shape := ⟨2, ![1024, 512]⟩
abbrev S1x1024x128 : Shape := ⟨3, ![1, 1024, 128]⟩
abbrev S16x128 : Shape := ⟨2, ![16, 128]⟩
abbrev S128x128 : Shape := ⟨2, ![128, 128]⟩
abbrev S64x128 : Shape := ⟨2, ![64, 128]⟩
abbrev S160x128 : Shape := ⟨2, ![160, 128]⟩
abbrev S1x1x160x128 : Shape := ⟨4, ![1, 1, 160, 128]⟩

abbrev nBuf : Space → Nat
  | .hbm => 24
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S24x6144, .f32⟩
  | .hbm, ⟨2, _⟩ => ⟨S1024, .f32⟩
  | .hbm, ⟨3, _⟩ => ⟨S1024x1280, .f32⟩
  | .hbm, ⟨4, _⟩ => ⟨S4096x32, .f32⟩
  | .hbm, ⟨5, _⟩ => ⟨S4096x32, .f32⟩
  | .hbm, ⟨6, _⟩ => ⟨S24x1x6144, .f32⟩
  | .hbm, ⟨7, _⟩ => ⟨S4096x128, .f32⟩
  | .hbm, ⟨8, _⟩ => ⟨S4096x32, .f32⟩
  | .hbm, ⟨9, _⟩ => ⟨S4096x32, .f32⟩
  | .hbm, ⟨10, _⟩ => ⟨S4096x128, .f32⟩
  | .hbm, ⟨11, _⟩ => ⟨S1x1024, .f32⟩
  | .hbm, ⟨12, _⟩ => ⟨S1024x1024, .f32⟩
  | .hbm, ⟨13, _⟩ => ⟨S1024x128, .f32⟩
  | .hbm, ⟨14, _⟩ => ⟨S1024x2x1x64, .f32⟩
  | .hbm, ⟨15, _⟩ => ⟨S1024x2x2x64, .f32⟩
  | .hbm, ⟨16, _⟩ => ⟨S1024x256, .f32⟩
  | .hbm, ⟨17, _⟩ => ⟨S1024x128, .f32⟩
  | .hbm, ⟨18, _⟩ => ⟨S1024x1408, .f32⟩
  | .hbm, ⟨19, _⟩ => ⟨S1024x1408, .bf16⟩
  | .hbm, ⟨20, _⟩ => ⟨S16x4096x512, .f32⟩
  | .hbm, ⟨21, _⟩ => ⟨S16x4096x512, .bf16⟩
  | .hbm, ⟨22, _⟩ => ⟨S16x4096x256, .bf16⟩
  | .hbm, ⟨23, _⟩ => ⟨S16x32x160x128, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1408, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .bf16⟩
  | .local _ .vmem, ⟨15, _⟩ => ⟨S1x1024x512, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x8x160x128, .bf16⟩
  | .local _ .vmem, ⟨19, _⟩ => ⟨S1x8x160x128, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x160x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S16x4096x1024 : Shape := ⟨3, ![16, 4096, 1024]⟩
abbrev S24x6144 : Shape := ⟨2, ![24, 6144]⟩
abbrev S1024 : Shape := ⟨1, ![1024]⟩
abbrev S1024x1280 : Shape := ⟨2, ![1024, 1280]⟩
abbrev S4096x32 : Shape := ⟨2, ![4096, 32]⟩
abbrev S16x6144 : Shape := ⟨2, ![16, 6144]⟩
abbrev S16x1024 : Shape := ⟨2, ![16, 1024]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x1280 : Shape := ⟨3, ![16, 4096, 1280]⟩
abbrev S16x4096x512 : Shape := ⟨3, ![16, 4096, 512]⟩
abbrev S16x4096x8x64 : Shape := ⟨4, ![16, 4096, 8, 64]⟩
abbrev S1x4096x1x32 : Shape := ⟨4, ![1, 4096, 1, 32]⟩
abbrev S16x4096x8x32 : Shape := ⟨4, ![16, 4096, 8, 32]⟩
abbrev S16x4096x128 : Shape := ⟨3, ![16, 4096, 128]⟩
abbrev S16x4096x2x64 : Shape := ⟨4, ![16, 4096, 2, 64]⟩
abbrev S16x4096x2x32 : Shape := ⟨4, ![16, 4096, 2, 32]⟩
abbrev S16x32x128x2x64 : Shape := ⟨5, ![16, 32, 128, 2, 64]⟩
abbrev S16x32x2x64x128 : Shape := ⟨5, ![16, 32, 2, 64, 128]⟩
abbrev S16x4096x2x128 : Shape := ⟨4, ![16, 4096, 2, 128]⟩
abbrev S16x32x2x16x128 : Shape := ⟨5, ![16, 32, 2, 16, 128]⟩
abbrev S16x32x2x80x128 : Shape := ⟨5, ![16, 32, 2, 80, 128]⟩
abbrev S16x4096x256 : Shape := ⟨3, ![16, 4096, 256]⟩
abbrev S16x32x160x128 : Shape := ⟨4, ![16, 32, 160, 128]⟩

abbrev nBuf : Space → Nat
  | .hbm => 90
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S24x6144, .f32⟩
  | .hbm, ⟨2, _⟩ => ⟨S1024, .f32⟩
  | .hbm, ⟨3, _⟩ => ⟨S1024x1280, .f32⟩
  | .hbm, ⟨4, _⟩ => ⟨S4096x32, .f32⟩
  | .hbm, ⟨5, _⟩ => ⟨S4096x32, .f32⟩
  | .hbm, ⟨6, _⟩ => ⟨S16x6144, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1x1024, .f32⟩
  | .hbm, ⟨14, _⟩ => ⟨S16x1x1024, .f32⟩
  | .hbm, ⟨15, _⟩ => ⟨S16x4096x1024, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S_, .f32⟩
  | .hbm, ⟨20, _⟩ => ⟨S16x4096x1, .f32⟩
  | .hbm, ⟨21, _⟩ => ⟨S16x4096x1, .f32⟩
  | .hbm, ⟨22, _⟩ => ⟨S_, .f32⟩
  | .hbm, ⟨23, _⟩ => ⟨S16x4096x1, .f32⟩
  | .hbm, ⟨24, _⟩ => ⟨S16x4096x1, .f32⟩
  | .hbm, ⟨25, _⟩ => ⟨S16x4096x1, .f32⟩
  | .hbm, ⟨26, _⟩ => ⟨S16x4096x1024, .f32⟩
  | .hbm, ⟨27, _⟩ => ⟨S16x4096x1024, .f32⟩
  | .hbm, ⟨28, _⟩ => ⟨S1x1x1024, .f32⟩
  | .hbm, ⟨29, _⟩ => ⟨S16x4096x1024, .f32⟩
  | .hbm, ⟨30, _⟩ => ⟨S16x4096x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x4096x1024, .f32⟩
  | .hbm, ⟨35, _⟩ => ⟨S16x4096x1024, .f32⟩
  | .hbm, ⟨36, _⟩ => ⟨S16x4096x1024, .f32⟩
  | .hbm, ⟨37, _⟩ => ⟨S16x4096x1024, .f32⟩
  | .hbm, ⟨38, _⟩ => ⟨S16x4096x1280, .f32⟩
  | .hbm, ⟨39, _⟩ => ⟨S16x4096x512, .f32⟩
  | .hbm, ⟨40, _⟩ => ⟨S16x4096x512, .f32⟩
  | .hbm, ⟨41, _⟩ => ⟨S16x4096x8x64, .f32⟩
  | .hbm, ⟨42, _⟩ => ⟨S1x4096x1x32, .f32⟩
  | .hbm, ⟨43, _⟩ => ⟨S1x4096x1x32, .f32⟩
  | .hbm, ⟨44, _⟩ => ⟨S16x4096x8x32, .f32⟩
  | .hbm, ⟨45, _⟩ => ⟨S16x4096x8x32, .f32⟩
  | .hbm, ⟨46, _⟩ => ⟨S16x4096x8x32, .f32⟩
  | .hbm, ⟨47, _⟩ => ⟨S16x4096x8x32, .f32⟩
  | .hbm, ⟨48, _⟩ => ⟨S16x4096x8x32, .f32⟩
  | .hbm, ⟨49, _⟩ => ⟨S16x4096x8x32, .f32⟩
  | .hbm, ⟨50, _⟩ => ⟨S16x4096x8x32, .f32⟩
  | .hbm, ⟨51, _⟩ => ⟨S16x4096x8x32, .f32⟩
  | .hbm, ⟨52, _⟩ => ⟨S16x4096x8x32, .f32⟩
  | .hbm, ⟨53, _⟩ => ⟨S16x4096x8x32, .f32⟩
  | .hbm, ⟨54, _⟩ => ⟨S16x4096x8x32, .f32⟩
  | .hbm, ⟨55, _⟩ => ⟨S16x4096x8x32, .f32⟩
  | .hbm, ⟨56, _⟩ => ⟨S16x4096x8x64, .f32⟩
  | .hbm, ⟨57, _⟩ => ⟨S_, .f32⟩
  | .hbm, ⟨58, _⟩ => ⟨S16x4096x8x64, .f32⟩
  | .hbm, ⟨59, _⟩ => ⟨S16x4096x8x64, .f32⟩
  | .hbm, ⟨60, _⟩ => ⟨S16x4096x128, .f32⟩
  | .hbm, ⟨61, _⟩ => ⟨S16x4096x2x64, .f32⟩
  | .hbm, ⟨62, _⟩ => ⟨S1x4096x1x32, .f32⟩
  | .hbm, ⟨63, _⟩ => ⟨S1x4096x1x32, .f32⟩
  | .hbm, ⟨64, _⟩ => ⟨S16x4096x2x32, .f32⟩
  | .hbm, ⟨65, _⟩ => ⟨S16x4096x2x32, .f32⟩
  | .hbm, ⟨66, _⟩ => ⟨S16x4096x2x32, .f32⟩
  | .hbm, ⟨67, _⟩ => ⟨S16x4096x2x32, .f32⟩
  | .hbm, ⟨68, _⟩ => ⟨S16x4096x2x32, .f32⟩
  | .hbm, ⟨69, _⟩ => ⟨S16x4096x2x32, .f32⟩
  | .hbm, ⟨70, _⟩ => ⟨S16x4096x2x32, .f32⟩
  | .hbm, ⟨71, _⟩ => ⟨S16x4096x2x32, .f32⟩
  | .hbm, ⟨72, _⟩ => ⟨S16x4096x2x32, .f32⟩
  | .hbm, ⟨73, _⟩ => ⟨S16x4096x2x32, .f32⟩
  | .hbm, ⟨74, _⟩ => ⟨S16x4096x2x32, .f32⟩
  | .hbm, ⟨75, _⟩ => ⟨S16x4096x2x32, .f32⟩
  | .hbm, ⟨76, _⟩ => ⟨S16x4096x2x64, .f32⟩
  | .hbm, ⟨77, _⟩ => ⟨S16x4096x128, .f32⟩
  | .hbm, ⟨78, _⟩ => ⟨S16x32x128x2x64, .f32⟩
  | .hbm, ⟨79, _⟩ => ⟨S16x32x2x64x128, .f32⟩
  | .hbm, ⟨80, _⟩ => ⟨S16x4096x2x128, .f32⟩
  | .hbm, ⟨81, _⟩ => ⟨S_, .f32⟩
  | .hbm, ⟨82, _⟩ => ⟨S16x32x2x16x128, .f32⟩
  | .hbm, ⟨83, _⟩ => ⟨S16x32x2x80x128, .f32⟩
  | .hbm, ⟨84, _⟩ => ⟨S16x4096x512, .f32⟩
  | .hbm, ⟨85, _⟩ => ⟨S16x4096x512, .bf16⟩
  | .hbm, ⟨86, _⟩ => ⟨S16x4096x256, .f32⟩
  | .hbm, ⟨87, _⟩ => ⟨S16x4096x256, .bf16⟩
  | .hbm, ⟨88, _⟩ => ⟨S16x32x160x128, .f32⟩
  | .hbm, ⟨89, _⟩ => ⟨S16x32x160x128, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_3 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_4 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩

abbrev nD : Nat := 1
abbrev τ : Topo := Topo.v7x

variable {F : FTy → Type} [FloatOps F]
-- ==== Proof.Words.lean ====
/-
  The words the software pipeline's loop carries, in closed form: before trip `k` each of the twelve carried words is a
  simple function of `k`, each condition of the trip is a comparison on `k`, and each slice of the trip is a named slot,
  cell or block of `k`. The launch's own literal slices are named the same way. 64 trips, three slots two blocks ahead
  for the two streamed inputs, two slots one block ahead for the gate row (which changes every fourth trip), two slots
  written one step behind for the result.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

set_option maxRecDepth 16384

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

/-! ## The carried words before trip `k` -/

/-- Streamed inputs issued so far, of each of the two. -/
def wIss (k : ℕ) : BitVec 32 := BitVec.ofNat 32 (min (k + 2) 64)
/-- The trip number, as every counter of finished steps holds it. -/
def wCnt (k : ℕ) : BitVec 32 := BitVec.ofNat 32 k
/-- One after the last trip, zero before: the counters of the two operands held whole. -/
def wEnd (k : ℕ) : BitVec 32 := BitVec.ofNat 32 (k / 64)
/-- Gate rows issued so far. -/
def wGis (k : ℕ) : BitVec 32 := BitVec.ofNat 32 (min (1 + k / 4) 16)
/-- Gate rows done with. -/
def wGat (k : ℕ) : BitVec 32 := BitVec.ofNat 32 (k / 4)
/-- Result blocks whose copy out has been waited for. -/
def wBeh (k : ℕ) : BitVec 32 := BitVec.ofNat 32 (k - 1)
/-- The batch entry of step `k`, back at zero after the last. -/
def wRow (k : ℕ) : BitVec 32 := BitVec.ofNat 32 (k / 4 % 16)
/-- The tile within the batch entry. -/
def wTil (k : ℕ) : BitVec 32 := BitVec.ofNat 32 (k % 4)

/-- The twelve together, in the order the loop carries them. -/
abbrev words (k : ℕ) : BitVec 32 × BitVec 32 × BitVec 32 × BitVec 32 × BitVec 32 × BitVec 32 × BitVec 32 × BitVec 32
    × BitVec 32 × BitVec 32 × BitVec 32 × BitVec 32 :=
  (wIss k, wCnt k, wEnd k, wIss k, wCnt k, wGis k, wGat k, wEnd k, wCnt k, wBeh k, wRow k, wTil k)

/-- The loop runs 64 trips. -/
theorem trips_eq : k0_t1_loop.trips = 64 := by decide
theorem trip_lt (k : Fin k0_t1_loop.trips) : k.val < 64 := Nat.lt_of_lt_of_eq k.isLt trips_eq

/-! ## The trip's conditions -/

theorem cond3_iff : ∀ k : Fin k0_t1_loop.trips, k0_cond3 k (wRow k.val) (wTil k.val) = 1#1 ↔ k.val + 2 < 64 := by decide +kernel
theorem cond4_iff : ∀ k : Fin k0_t1_loop.trips, k0_cond4 k (wRow k.val) (wTil k.val) = 1#1 ↔ k.val + 2 < 64 := by decide +kernel
theorem cond5_iff : ∀ k : Fin k0_t1_loop.trips, k0_cond5 k (wRow k.val) (wTil k.val) = 1#1 ↔ k.val % 4 = 3 ∧ k.val < 63 := by decide +kernel
theorem cond6_true : ∀ k : Fin k0_t1_loop.trips, k0_cond6 k (wRow k.val) (wTil k.val) = 1#1 := by decide +kernel
theorem cond7_true : ∀ k : Fin k0_t1_loop.trips, k0_cond7 k (wRow k.val) (wTil k.val) = 1#1 := by decide +kernel
theorem cond8_iff : ∀ k : Fin k0_t1_loop.trips, k0_cond8 k (wRow k.val) (wTil k.val) = 1#1 ↔ k.val % 4 = 0 := by decide +kernel
theorem cond13_true : ∀ k : Fin k0_t1_loop.trips, k0_cond13 k (wRow k.val) (wTil k.val) = 1#1 := by decide +kernel
theorem cond17_iff : ∀ k : Fin k0_t1_loop.trips, k0_cond17 k (wRow k.val) (wTil k.val) = 1#1 ↔ 1 ≤ k.val := by decide +kernel
theorem cond1_true : k0_cond1 = 1#1 := by decide +kernel
theorem cond2_true : k0_cond2 = 1#1 := by decide +kernel

/-! ## The trip's side conditions: every slice it takes is in range -/

theorem chk1 : ∀ k : Fin k0_t1_loop.trips, k0_chk1 k (wIss k.val) (wCnt k.val) (wIss k.val) (wCnt k.val) (wGis k.val) (wGat k.val)
    (wCnt k.val) (wBeh k.val) (wRow k.val) (wTil k.val) := by decide +kernel
theorem chk2 : ∀ k : Fin k0_t1_loop.trips, k0_chk2 (wCnt k.val) := by decide +kernel
theorem chk3 : ∀ k : Fin k0_t1_loop.trips, k0_chk3 (wCnt k.val) := by decide +kernel
theorem chk4 : ∀ k : Fin k0_t1_loop.trips, k0_chk4 (wGat k.val) := by decide +kernel
theorem chk5 : ∀ k : Fin k0_t1_loop.trips, k0_chk5 (wCnt k.val) := by decide +kernel
theorem chk7 : k0_chk7 (wTil 64) (wRow 64) := by decide +kernel
theorem chk6 : k0_chk6 (wBeh 64) := by decide +kernel

/-! ## Names: cells, slots and blocks -/

abbrev aM : Memref sig .tc .hbm S16x4096x1024 .bf16 := Memref.whole main_arg0
abbrev wM : Memref sig .tc .hbm S1024x1024 .bf16 := Memref.whole main_v2
abbrev xM : Memref sig .tc .hbm S16x4096x1024 .f32 := Memref.whole main_arg2
abbrev gM : Memref sig .tc .hbm S24x1x6144 .f32 := Memref.whole main_v0
abbrev pM : Memref sig .tc .hbm S1x1024 .f32 := Memref.whole main_v1
abbrev oM : Memref sig .tc .hbm S16x4096x1024 .f32 := Memref.whole main_v3
abbrev abM : Memref sig .tc .vmem S3x1x1024x1024 .bf16 := Memref.whole cc0_scoped0
abbrev wbM : Memref sig .tc .vmem S1024x1024 .bf16 := Memref.whole cc0_scoped2
abbrev xbM : Memref sig .tc .vmem S3x1x1024x1024 .f32 := Memref.whole cc0_scoped3
abbrev gbM : Memref sig .tc .vmem S2x1x1x1024 .f32 := Memref.whole cc0_scoped5
abbrev pbM : Memref sig .tc .vmem S1x1024 .f32 := Memref.whole cc0_scoped7
abbrev obM : Memref sig .tc .vmem S2x1x1024x1024 .f32 := Memref.whole cc0_scoped8

abbrev sem3Off (s : Fin 3) : Fin 1 → Nat := ![s.val]
theorem sem3Off_inb (s : Fin 3) : ∀ a, sem3Off s a + S1.size a ≤ S3.size a := by
  have := s.isLt; intro a; fin_cases a; show s.val + 1 ≤ 3; omega
abbrev sem2Off (s : Fin 2) : Fin 1 → Nat := ![s.val]
theorem sem2Off_inb (s : Fin 2) : ∀ a, sem2Off s a + S1.size a ≤ S2.size a := by
  have := s.isLt; intro a; fin_cases a; show s.val + 1 ≤ 2; omega
abbrev slot3Off (s : Fin 3) : Fin 4 → Nat := ![s.val, 0, 0, 0]
theorem slot3Off_inb (s : Fin 3) : ∀ a, slot3Off s a + S1x1x1024x1024.size a ≤ S3x1x1024x1024.size a := by
  revert s; decide
abbrev slot2Off (s : Fin 2) : Fin 4 → Nat := ![s.val, 0, 0, 0]
theorem slot2Off_inb (s : Fin 2) : ∀ a, slot2Off s a + S1x1x1024x1024.size a ≤ S2x1x1024x1024.size a := by
  revert s; decide
theorem slot2Off_inbG (s : Fin 2) : ∀ a, slot2Off s a + S1x1x1x1024.size a ≤ S2x1x1x1024.size a := by
  revert s; decide
abbrev blkOff (b : Fin 64) : Fin 3 → Nat := ![b.val / 4, 1024 * (b.val % 4), 0]
theorem blkOff_inb (b : Fin 64) : ∀ a, blkOff b a + S1x1024x1024.size a ≤ S16x4096x1024.size a := by
  revert b; decide +kernel
abbrev gateOff (q : Fin 16) : Fin 3 → Nat := ![q.val, 0, 2048]
theorem gateOff_inb (q : Fin 16) : ∀ a, gateOff q a + S1x1x1024.size a ≤ S24x1x6144.size a := by
  revert q; decide +kernel

/-- Slot `s`'s cell of the mixer output's ring, of the residual's, of the gate's and of the result's. -/
def aSem (s : Fin 3) : DmaSems sig S_ := (cc0_scoped1.slice (Rect.unit (s := S3) (sem3Off s) S1.size (sem3Off_inb s))).squeeze S_ squeezes_S1_S_
def xSem (s : Fin 3) : DmaSems sig S_ := (cc0_scoped4.slice (Rect.unit (s := S3) (sem3Off s) S1.size (sem3Off_inb s))).squeeze S_ squeezes_S1_S_
def gSem (s : Fin 2) : DmaSems sig S_ := (cc0_scoped6.slice (Rect.unit (s := S2) (sem2Off s) S1.size (sem2Off_inb s))).squeeze S_ squeezes_S1_S_
def oSem (s : Fin 2) : DmaSems sig S_ := (cc0_scoped9.slice (Rect.unit (s := S2) (sem2Off s) S1.size (sem2Off_inb s))).squeeze S_ squeezes_S1_S_

/-- Slot `s` of each ring, as the body slices and squeezes it. -/
def aSlot (s : Fin 3) : Memref sig .tc .vmem S1x1024x1024 .bf16 :=
  (abM.slice (Rect.unit (s := S3x1x1024x1024) (slot3Off s) S1x1x1024x1024.size (slot3Off_inb s)) (fun _ => rfl)).squeeze S1x1024x1024 squeezes_S1x1x1024x1024_S1x1024x1024
def xSlot (s : Fin 3) : Memref sig .tc .vmem S1x1024x1024 .f32 :=
  (xbM.slice (Rect.unit (s := S3x1x1024x1024) (slot3Off s) S1x1x1024x1024.size (slot3Off_inb s)) (fun _ => rfl)).squeeze S1x1024x1024 squeezes_S1x1x1024x1024_S1x1024x1024
def gSlot (s : Fin 2) : Memref sig .tc .vmem S1x1x1024 .f32 :=
  (gbM.slice (Rect.unit (s := S2x1x1x1024) (slot2Off s) S1x1x1x1024.size (slot2Off_inbG s)) (fun _ => rfl)).squeeze S1x1x1024 squeezes_S1x1x1x1024_S1x1x1024
def oSlot (s : Fin 2) : Memref sig .tc .vmem S1x1024x1024 .f32 :=
  (obM.slice (Rect.unit (s := S2x1x1024x1024) (slot2Off s) S1x1x1024x1024.size (slot2Off_inb s)) (fun _ => rfl)).squeeze S1x1024x1024 squeezes_S1x1x1024x1024_S1x1024x1024

/-- Block `b` of the mixer output, of the residual and of the result (rows `1024 (b % 4) …` of batch entry `b / 4`); gate row `q`. -/
def aBlk (b : Fin 64) : Memref sig .tc .hbm S1x1024x1024 .bf16 :=
  aM.slice (Rect.unit (s := S16x4096x1024) (blkOff b) S1x1024x1024.size (blkOff_inb b)) (fun _ => rfl)
def xBlk (b : Fin 64) : Memref sig .tc .hbm S1x1024x1024 .f32 :=
  xM.slice (Rect.unit (s := S16x4096x1024) (blkOff b) S1x1024x1024.size (blkOff_inb b)) (fun _ => rfl)
def oBlk (b : Fin 64) : Memref sig .tc .hbm S1x1024x1024 .f32 :=
  oM.slice (Rect.unit (s := S16x4096x1024) (blkOff b) S1x1024x1024.size (blkOff_inb b)) (fun _ => rfl)
def gBlk (q : Fin 16) : Memref sig .tc .hbm S1x1x1024 .f32 :=
  gM.slice (Rect.unit (s := S24x1x6144) (gateOff q) S1x1x1024.size (gateOff_inb q)) (fun _ => rfl)

instance (s : Fin 3) : ClosedOff (slot3Off s) := ⟨slot3Off s, rfl⟩
instance (s : Fin 2) : ClosedOff (slot2Off s) := ⟨slot2Off s, rfl⟩
instance (b : Fin 64) : ClosedOff (blkOff b) := ⟨blkOff b, rfl⟩
instance (q : Fin 16) : ClosedOff (gateOff q) := ⟨gateOff q, rfl⟩

section Congr

theorem aSem_congr {off : Fin 1 → Nat} {s : Fin 3} (e : off = sem3Off s) (hh) :
    (cc0_scoped1.slice (Rect.unit (s := S3) off S1.size hh)).squeeze S_ squeezes_S1_S_ = aSem s :=
  congrArg (fun A : DmaSems sig S1 => A.squeeze S_ squeezes_S1_S_) (SemArray.slice_unit_congr _ e _ _)
theorem xSem_congr {off : Fin 1 → Nat} {s : Fin 3} (e : off = sem3Off s) (hh) :
    (cc0_scoped4.slice (Rect.unit (s := S3) off S1.size hh)).squeeze S_ squeezes_S1_S_ = xSem s :=
  congrArg (fun A : DmaSems sig S1 => A.squeeze S_ squeezes_S1_S_) (SemArray.slice_unit_congr _ e _ _)
theorem gSem_congr {off : Fin 1 → Nat} {s : Fin 2} (e : off = sem2Off s) (hh) :
    (cc0_scoped6.slice (Rect.unit (s := S2) off S1.size hh)).squeeze S_ squeezes_S1_S_ = gSem s :=
  congrArg (fun A : DmaSems sig S1 => A.squeeze S_ squeezes_S1_S_) (SemArray.slice_unit_congr _ e _ _)
theorem oSem_congr {off : Fin 1 → Nat} {s : Fin 2} (e : off = sem2Off s) (hh) :
    (cc0_scoped9.slice (Rect.unit (s := S2) off S1.size hh)).squeeze S_ squeezes_S1_S_ = oSem s :=
  congrArg (fun A : DmaSems sig S1 => A.squeeze S_ squeezes_S1_S_) (SemArray.slice_unit_congr _ e _ _)
theorem aSlot_congr {off : Fin 4 → Nat} {s : Fin 3} (e : off = slot3Off s) (hh hs) :
    (abM.slice (Rect.unit (s := S3x1x1024x1024) off S1x1x1024x1024.size hh) hs).squeeze S1x1024x1024 squeezes_S1x1x1024x1024_S1x1024x1024 = aSlot s :=
  congrArg (fun M : Memref sig .tc .vmem S1x1x1024x1024 .bf16 => M.squeeze S1x1024x1024 squeezes_S1x1x1024x1024_S1x1024x1024) (Memref.slice_unit_congr _ e _ _ _ _)
theorem xSlot_congr {off : Fin 4 → Nat} {s : Fin 3} (e : off = slot3Off s) (hh hs) :
    (xbM.slice (Rect.unit (s := S3x1x1024x1024) off S1x1x1024x1024.size hh) hs).squeeze S1x1024x1024 squeezes_S1x1x1024x1024_S1x1024x1024 = xSlot s :=
  congrArg (fun M : Memref sig .tc .vmem S1x1x1024x1024 .f32 => M.squeeze S1x1024x1024 squeezes_S1x1x1024x1024_S1x1024x1024) (Memref.slice_unit_congr _ e _ _ _ _)
theorem gSlot_congr {off : Fin 4 → Nat} {s : Fin 2} (e : off = slot2Off s) (hh hs) :
    (gbM.slice (Rect.unit (s := S2x1x1x1024) off S1x1x1x1024.size hh) hs).squeeze S1x1x1024 squeezes_S1x1x1x1024_S1x1x1024 = gSlot s :=
  congrArg (fun M : Memref sig .tc .vmem S1x1x1x1024 .f32 => M.squeeze S1x1x1024 squeezes_S1x1x1x1024_S1x1x1024) (Memref.slice_unit_congr _ e _ _ _ _)
theorem oSlot_congr {off : Fin 4 → Nat} {s : Fin 2} (e : off = slot2Off s) (hh hs) :
    (obM.slice (Rect.unit (s := S2x1x1024x1024) off S1x1x1024x1024.size hh) hs).squeeze S1x1024x1024 squeezes_S1x1x1024x1024_S1x1024x1024 = oSlot s :=
  congrArg (fun M : Memref sig .tc .vmem S1x1x1024x1024 .f32 => M.squeeze S1x1024x1024 squeezes_S1x1x1024x1024_S1x1024x1024) (Memref.slice_unit_congr _ e _ _ _ _)
theorem aBlk_congr {off : Fin 3 → Nat} {b : Fin 64} (e : off = blkOff b) (hh hs) :
    aM.slice (Rect.unit (s := S16x4096x1024) off S1x1024x1024.size hh) hs = aBlk b := Memref.slice_unit_congr _ e _ _ _ (fun _ => rfl)
theorem xBlk_congr {off : Fin 3 → Nat} {b : Fin 64} (e : off = blkOff b) (hh hs) :
    xM.slice (Rect.unit (s := S16x4096x1024) off S1x1024x1024.size hh) hs = xBlk b := Memref.slice_unit_congr _ e _ _ _ (fun _ => rfl)
theorem oBlk_congr {off : Fin 3 → Nat} {b : Fin 64} (e : off = blkOff b) (hh hs) :
    oM.slice (Rect.unit (s := S16x4096x1024) off S1x1024x1024.size hh) hs = oBlk b := Memref.slice_unit_congr _ e _ _ _ (fun _ => rfl)
theorem gBlk_congr {off : Fin 3 → Nat} {q : Fin 16} (e : off = gateOff q) (hh hs) :
    gM.slice (Rect.unit (s := S24x1x6144) off S1x1x1024.size hh) hs = gBlk q := Memref.slice_unit_congr _ e _ _ _ (fun _ => rfl)

end Congr

/-! ## The offsets of trip `k`, in closed form -/

theorem off11_eq : ∀ k : Fin k0_t1_loop.trips, k.val + 2 < 64 → k0_off11 (wIss k.val) = sem3Off (sl 3 (k.val + 2)) := by decide +kernel
theorem off12_eq : ∀ k : Fin k0_t1_loop.trips, k.val + 2 < 64 → k0_off12 (wIss k.val) = slot3Off (sl 3 (k.val + 2)) := by decide +kernel
theorem off13_eq : ∀ k : Fin k0_t1_loop.trips, k.val + 2 < 64 → k0_off13 (wRow k.val) (wTil k.val) = blkOff (bk 64 (k.val + 2)) := by decide +kernel
theorem off14_eq : ∀ k : Fin k0_t1_loop.trips, k.val + 2 < 64 → k0_off14 (wIss k.val) = sem3Off (sl 3 (k.val + 2)) := by decide +kernel
theorem off15_eq : ∀ k : Fin k0_t1_loop.trips, k.val + 2 < 64 → k0_off15 (wIss k.val) = slot3Off (sl 3 (k.val + 2)) := by decide +kernel
theorem off16_eq : ∀ k : Fin k0_t1_loop.trips, k.val + 2 < 64 → k0_off16 (wRow k.val) (wTil k.val) = blkOff (bk 64 (k.val + 2)) := by decide +kernel
theorem off17_eq : ∀ k : Fin k0_t1_loop.trips, k.val % 4 = 3 → k.val < 63 → k0_off17 (wGis k.val) = sem2Off (sl 2 (k.val / 4 + 1)) := by decide +kernel
theorem off18_eq : ∀ k : Fin k0_t1_loop.trips, k.val % 4 = 3 → k.val < 63 → k0_off18 (wGis k.val) = slot2Off (sl 2 (k.val / 4 + 1)) := by decide +kernel
theorem off19_eq : ∀ k : Fin k0_t1_loop.trips, k.val % 4 = 3 → k.val < 63 → k0_off19 (wRow k.val) (wTil k.val) = gateOff (bk 16 (k.val / 4 + 1)) := by decide +kernel
theorem off20_eq : ∀ k : Fin k0_t1_loop.trips, k0_off20 (wCnt k.val) = sem3Off (sl 3 k.val) := by decide +kernel
theorem off21_eq : ∀ k : Fin k0_t1_loop.trips, k0_off21 (wCnt k.val) = slot3Off (sl 3 k.val) := by decide +kernel
theorem off22_eq : ∀ k : Fin k0_t1_loop.trips, k0_off22 (wRow k.val) (wTil k.val) = blkOff (bk 64 k.val) := by decide +kernel
theorem off23_eq : ∀ k : Fin k0_t1_loop.trips, k0_off23 (wCnt k.val) = sem3Off (sl 3 k.val) := by decide +kernel
theorem off24_eq : ∀ k : Fin k0_t1_loop.trips, k0_off24 (wCnt k.val) = slot3Off (sl 3 k.val) := by decide +kernel
theorem off25_eq : ∀ k : Fin k0_t1_loop.trips, k0_off25 (wRow k.val) (wTil k.val) = blkOff (bk 64 k.val) := by decide +kernel
theorem off26_eq : ∀ k : Fin k0_t1_loop.trips, k0_off26 (wGat k.val) = sem2Off (sl 2 (k.val / 4)) := by decide +kernel
theorem off27_eq : ∀ k : Fin k0_t1_loop.trips, k0_off27 (wGat k.val) = slot2Off (sl 2 (k.val / 4)) := by decide +kernel
theorem off28_eq : ∀ k : Fin k0_t1_loop.trips, k0_off28 (wRow k.val) = gateOff (bk 16 (k.val / 4)) := by decide +kernel
theorem off29_eq : ∀ k : Fin k0_t1_loop.trips, k0_off29 (wCnt k.val) = slot3Off (sl 3 k.val) := by decide +kernel
theorem off30_eq : ∀ k : Fin k0_t1_loop.trips, k0_off30 (wCnt k.val) = slot3Off (sl 3 k.val) := by decide +kernel
theorem off31_eq : ∀ k : Fin k0_t1_loop.trips, k0_off31 (wGat k.val) = slot2Off (sl 2 (k.val / 4)) := by decide +kernel
theorem off32_eq : ∀ k : Fin k0_t1_loop.trips, k0_off32 (wCnt k.val) = slot2Off (sl 2 k.val) := by decide +kernel
theorem off33_eq : ∀ k : Fin k0_t1_loop.trips, k0_off33 (wCnt k.val) = sem2Off (sl 2 k.val) := by decide +kernel
theorem off34_eq : ∀ k : Fin k0_t1_loop.trips, k0_off34 (wRow k.val) (wTil k.val) = blkOff (bk 64 k.val) := by decide +kernel
theorem off35_eq : ∀ k : Fin k0_t1_loop.trips, k0_off35 (wCnt k.val) = slot2Off (sl 2 k.val) := by decide +kernel
theorem off36_eq : ∀ k : Fin k0_t1_loop.trips, 1 ≤ k.val → k0_off36 (wBeh k.val) = sem2Off (sl 2 (k.val + 1)) := by decide +kernel
theorem off37_eq : ∀ k : Fin k0_t1_loop.trips, 1 ≤ k.val → k0_off37 (wRow k.val) (wTil k.val) = blkOff (bk 64 (k.val - 1)) := by decide +kernel
theorem off38_eq : ∀ k : Fin k0_t1_loop.trips, 1 ≤ k.val → k0_off38 (wBeh k.val) = slot2Off (sl 2 (k.val + 1)) := by decide +kernel
theorem off39_eq : k0_off39 (wBeh 64) = sem2Off 1 := by decide +kernel
theorem off40_eq : k0_off40 (wTil 64) (wRow 64) = blkOff 63 := by decide +kernel
theorem off41_eq : k0_off41 (wBeh 64) = slot2Off 1 := by decide +kernel

/-! ## The slices the body takes are the named ones -/

section Canon
variable (k : Fin k0_t1_loop.trips)

/-! The launch's, before the loop. -/
@[sl_canon] theorem aSemL0 (hh) : (cc0_scoped1.slice (Rect.unit (s := S3) k0_off1 S1.size hh)).squeeze S_ squeezes_S1_S_ = aSem 0 := aSem_congr (by decide +kernel) _
@[sl_canon] theorem xSemL0 (hh) : (cc0_scoped4.slice (Rect.unit (s := S3) k0_off1 S1.size hh)).squeeze S_ squeezes_S1_S_ = xSem 0 := xSem_congr (by decide +kernel) _
@[sl_canon] theorem gSemL0 (hh) : (cc0_scoped6.slice (Rect.unit (s := S2) k0_off3 S1.size hh)).squeeze S_ squeezes_S1_S_ = gSem 0 := gSem_congr (by decide +kernel) _
@[sl_canon] theorem aSemL1 (hh) : (cc0_scoped1.slice (Rect.unit (s := S3) k0_off5 S1.size hh)).squeeze S_ squeezes_S1_S_ = aSem 1 := aSem_congr (by decide +kernel) _
@[sl_canon] theorem xSemL1 (hh) : (cc0_scoped4.slice (Rect.unit (s := S3) k0_off8 S1.size hh)).squeeze S_ squeezes_S1_S_ = xSem 1 := xSem_congr (by decide +kernel) _
@[sl_canon] theorem aSlotL0 (hh hs) : (abM.slice (Rect.unit (s := S3x1x1024x1024) k0_off2 S1x1x1024x1024.size hh) hs).squeeze S1x1024x1024 squeezes_S1x1x1024x1024_S1x1024x1024 = aSlot 0 := aSlot_congr (by decide +kernel) _ _
@[sl_canon] theorem xSlotL0 (hh hs) : (xbM.slice (Rect.unit (s := S3x1x1024x1024) k0_off2 S1x1x1024x1024.size hh) hs).squeeze S1x1024x1024 squeezes_S1x1x1024x1024_S1x1024x1024 = xSlot 0 := xSlot_congr (by decide +kernel) _ _
@[sl_canon] theorem gSlotL0 (hh hs) : (gbM.slice (Rect.unit (s := S2x1x1x1024) k0_off4 S1x1x1x1024.size hh) hs).squeeze S1x1x1024 squeezes_S1x1x1x1024_S1x1x1024 = gSlot 0 := gSlot_congr (by decide +kernel) _ _
@[sl_canon] theorem aSlotL1 (hh hs) : (abM.slice (Rect.unit (s := S3x1x1024x1024) k0_off6 S1x1x1024x1024.size hh) hs).squeeze S1x1024x1024 squeezes_S1x1x1024x1024_S1x1024x1024 = aSlot 1 := aSlot_congr (by decide +kernel) _ _
@[sl_canon] theorem xSlotL1 (hh hs) : (xbM.slice (Rect.unit (s := S3x1x1024x1024) k0_off9 S1x1x1024x1024.size hh) hs).squeeze S1x1024x1024 squeezes_S1x1x1024x1024_S1x1024x1024 = xSlot 1 := xSlot_congr (by decide +kernel) _ _
@[sl_canon] theorem aBlkL0 (hh hs) : aM.slice (Rect.unit (s := S16x4096x1024) ![0, 0, 0] S1x1024x1024.size hh) hs = aBlk 0 := aBlk_congr (by decide +kernel) _ _
@[sl_canon] theorem xBlkL0 (hh hs) : xM.slice (Rect.unit (s := S16x4096x1024) ![0, 0, 0] S1x1024x1024.size hh) hs = xBlk 0 := xBlk_congr (by decide +kernel) _ _
@[sl_canon] theorem gBlkL0 (hh hs) : gM.slice (Rect.unit (s := S24x1x6144) ![0, 0, 2048] S1x1x1024.size hh) hs = gBlk 0 := gBlk_congr (by decide +kernel) _ _
@[sl_canon] theorem aBlkL1 (hh hs) : aM.slice (Rect.unit (s := S16x4096x1024) k0_off7 S1x1024x1024.size hh) hs = aBlk 1 := aBlk_congr (by decide +kernel) _ _
@[sl_canon] theorem xBlkL1 (hh hs) : xM.slice (Rect.unit (s := S16x4096x1024) k0_off10 S1x1024x1024.size hh) hs = xBlk 1 := xBlk_congr (by decide +kernel) _ _

/-! A trip's. -/
@[sl_canon] theorem aSemI (h : k.val + 2 < 64) (hh) : (cc0_scoped1.slice (Rect.unit (s := S3) (k0_off11 (wIss k.val)) S1.size hh)).squeeze S_ squeezes_S1_S_ = aSem (sl 3 (k.val + 2)) := aSem_congr (off11_eq k h) _
@[sl_canon] theorem aSlotI (h : k.val + 2 < 64) (hh hs) : (abM.slice (Rect.unit (s := S3x1x1024x1024) (k0_off12 (wIss k.val)) S1x1x1024x1024.size hh) hs).squeeze S1x1024x1024 squeezes_S1x1x1024x1024_S1x1024x1024 = aSlot (sl 3 (k.val + 2)) := aSlot_congr (off12_eq k h) _ _
@[sl_canon] theorem aBlkI (h : k.val + 2 < 64) (hh hs) : aM.slice (Rect.unit (s := S16x4096x1024) (k0_off13 (wRow k.val) (wTil k.val)) S1x1024x1024.size hh) hs = aBlk (bk 64 (k.val + 2)) := aBlk_congr (off13_eq k h) _ _
@[sl_canon] theorem xSemI (h : k.val + 2 < 64) (hh) : (cc0_scoped4.slice (Rect.unit (s := S3) (k0_off14 (wIss k.val)) S1.size hh)).squeeze S_ squeezes_S1_S_ = xSem (sl 3 (k.val + 2)) := xSem_congr (off14_eq k h) _
@[sl_canon] theorem xSlotI (h : k.val + 2 < 64) (hh hs) : (xbM.slice (Rect.unit (s := S3x1x1024x1024) (k0_off15 (wIss k.val)) S1x1x1024x1024.size hh) hs).squeeze S1x1024x1024 squeezes_S1x1x1024x1024_S1x1024x1024 = xSlot (sl 3 (k.val + 2)) := xSlot_congr (off15_eq k h) _ _
@[sl_canon] theorem xBlkI (h : k.val + 2 < 64) (hh hs) : xM.slice (Rect.unit (s := S16x4096x1024) (k0_off16 (wRow k.val) (wTil k.val)) S1x1024x1024.size hh) hs = xBlk (bk 64 (k.val + 2)) := xBlk_congr (off16_eq k h) _ _
@[sl_canon] theorem gSemI (h : k.val % 4 = 3) (h' : k.val < 63) (hh) : (cc0_scoped6.slice (Rect.unit (s := S2) (k0_off17 (wGis k.val)) S1.size hh)).squeeze S_ squeezes_S1_S_ = gSem (sl 2 (k.val / 4 + 1)) := gSem_congr (off17_eq k h h') _
@[sl_canon] theorem gSlotI (h : k.val % 4 = 3) (h' : k.val < 63) (hh hs) : (gbM.slice (Rect.unit (s := S2x1x1x1024) (k0_off18 (wGis k.val)) S1x1x1x1024.size hh) hs).squeeze S1x1x1024 squeezes_S1x1x1x1024_S1x1x1024 = gSlot (sl 2 (k.val / 4 + 1)) := gSlot_congr (off18_eq k h h') _ _
@[sl_canon] theorem gBlkI (h : k.val % 4 = 3) (h' : k.val < 63) (hh hs) : gM.slice (Rect.unit (s := S24x1x6144) (k0_off19 (wRow k.val) (wTil k.val)) S1x1x1024.size hh) hs = gBlk (bk 16 (k.val / 4 + 1)) := gBlk_congr (off19_eq k h h') _ _
@[sl_canon] theorem aSemW (hh) : (cc0_scoped1.slice (Rect.unit (s := S3) (k0_off20 (wCnt k.val)) S1.size hh)).squeeze S_ squeezes_S1_S_ = aSem (sl 3 k.val) := aSem_congr (off20_eq k) _
@[sl_canon] theorem aSlotW (hh hs) : (abM.slice (Rect.unit (s := S3x1x1024x1024) (k0_off21 (wCnt k.val)) S1x1x1024x1024.size hh) hs).squeeze S1x1024x1024 squeezes_S1x1x1024x1024_S1x1024x1024 = aSlot (sl 3 k.val) := aSlot_congr (off21_eq k) _ _
@[sl_canon] theorem aBlkW (hh hs) : aM.slice (Rect.unit (s := S16x4096x1024) (k0_off22 (wRow k.val) (wTil k.val)) S1x1024x1024.size hh) hs = aBlk (bk 64 k.val) := aBlk_congr (off22_eq k) _ _
@[sl_canon] theorem xSemW (hh) : (cc0_scoped4.slice (Rect.unit (s := S3) (k0_off23 (wCnt k.val)) S1.size hh)).squeeze S_ squeezes_S1_S_ = xSem (sl 3 k.val) := xSem_congr (off23_eq k) _
@[sl_canon] theorem xSlotW (hh hs) : (xbM.slice (Rect.unit (s := S3x1x1024x1024) (k0_off24 (wCnt k.val)) S1x1x1024x1024.size hh) hs).squeeze S1x1024x1024 squeezes_S1x1x1024x1024_S1x1024x1024 = xSlot (sl 3 k.val) := xSlot_congr (off24_eq k) _ _
@[sl_canon] theorem xBlkW (hh hs) : xM.slice (Rect.unit (s := S16x4096x1024) (k0_off25 (wRow k.val) (wTil k.val)) S1x1024x1024.size hh) hs = xBlk (bk 64 k.val) := xBlk_congr (off25_eq k) _ _
@[sl_canon] theorem gSemW (hh) : (cc0_scoped6.slice (Rect.unit (s := S2) (k0_off26 (wGat k.val)) S1.size hh)).squeeze S_ squeezes_S1_S_ = gSem (sl 2 (k.val / 4)) := gSem_congr (off26_eq k) _
@[sl_canon] theorem gSlotW (hh hs) : (gbM.slice (Rect.unit (s := S2x1x1x1024) (k0_off27 (wGat k.val)) S1x1x1x1024.size hh) hs).squeeze S1x1x1024 squeezes_S1x1x1x1024_S1x1x1024 = gSlot (sl 2 (k.val / 4)) := gSlot_congr (off27_eq k) _ _
@[sl_canon] theorem gBlkW (hh hs) : gM.slice (Rect.unit (s := S24x1x6144) (k0_off28 (wRow k.val)) S1x1x1024.size hh) hs = gBlk (bk 16 (k.val / 4)) := gBlk_congr (off28_eq k) _ _
@[sl_canon] theorem aSlotR (hh hs) : (abM.slice (Rect.unit (s := S3x1x1024x1024) (k0_off29 (wCnt k.val)) S1x1x1024x1024.size hh) hs).squeeze S1x1024x1024 squeezes_S1x1x1024x1024_S1x1024x1024 = aSlot (sl 3 k.val) := aSlot_congr (off29_eq k) _ _
@[sl_canon] theorem xSlotR (hh hs) : (xbM.slice (Rect.unit (s := S3x1x1024x1024) (k0_off30 (wCnt k.val)) S1x1x1024x1024.size hh) hs).squeeze S1x1024x1024 squeezes_S1x1x1024x1024_S1x1024x1024 = xSlot (sl 3 k.val) := xSlot_congr (off30_eq k) _ _
@[sl_canon] theorem gSlotR (hh hs) : (gbM.slice (Rect.unit (s := S2x1x1x1024) (k0_off31 (wGat k.val)) S1x1x1x1024.size hh) hs).squeeze S1x1x1024 squeezes_S1x1x1x1024_S1x1x1024 = gSlot (sl 2 (k.val / 4)) := gSlot_congr (off31_eq k) _ _
@[sl_canon] theorem oSlotS (hh hs) : (obM.slice (Rect.unit (s := S2x1x1024x1024) (k0_off32 (wCnt k.val)) S1x1x1024x1024.size hh) hs).squeeze S1x1024x1024 squeezes_S1x1x1024x1024_S1x1024x1024 = oSlot (sl 2 k.val) := oSlot_congr (off32_eq k) _ _
@[sl_canon] theorem oSemI (hh) : (cc0_scoped9.slice (Rect.unit (s := S2) (k0_off33 (wCnt k.val)) S1.size hh)).squeeze S_ squeezes_S1_S_ = oSem (sl 2 k.val) := oSem_congr (off33_eq k) _
@[sl_canon] theorem oBlkI (hh hs) : oM.slice (Rect.unit (s := S16x4096x1024) (k0_off34 (wRow k.val) (wTil k.val)) S1x1024x1024.size hh) hs = oBlk (bk 64 k.val) := oBlk_congr (off34_eq k) _ _
@[sl_canon] theorem oSlotI (hh hs) : (obM.slice (Rect.unit (s := S2x1x1024x1024) (k0_off35 (wCnt k.val)) S1x1x1024x1024.size hh) hs).squeeze S1x1024x1024 squeezes_S1x1x1024x1024_S1x1024x1024 = oSlot (sl 2 k.val) := oSlot_congr (off35_eq k) _ _
@[sl_canon] theorem oSemW (h : 1 ≤ k.val) (hh) : (cc0_scoped9.slice (Rect.unit (s := S2) (k0_off36 (wBeh k.val)) S1.size hh)).squeeze S_ squeezes_S1_S_ = oSem (sl 2 (k.val + 1)) := oSem_congr (off36_eq k h) _
@[sl_canon] theorem oBlkW (h : 1 ≤ k.val) (hh hs) : oM.slice (Rect.unit (s := S16x4096x1024) (k0_off37 (wRow k.val) (wTil k.val)) S1x1024x1024.size hh) hs = oBlk (bk 64 (k.val - 1)) := oBlk_congr (off37_eq k h) _ _
@[sl_canon] theorem oSlotW (h : 1 ≤ k.val) (hh hs) : (obM.slice (Rect.unit (s := S2x1x1024x1024) (k0_off38 (wBeh k.val)) S1x1x1024x1024.size hh) hs).squeeze S1x1024x1024 squeezes_S1x1x1024x1024_S1x1024x1024 = oSlot (sl 2 (k.val + 1)) := oSlot_congr (off38_eq k h) _ _

/-! The last copy out's, after the loop. -/
@[sl_canon] theorem oSemE (hh) : (cc0_scoped9.slice (Rect.unit (s := S2) (k0_off39 (wBeh 64)) S1.size hh)).squeeze S_ squeezes_S1_S_ = oSem 1 := oSem_congr off39_eq _
@[sl_canon] theorem oBlkE (hh hs) : oM.slice (Rect.unit (s := S16x4096x1024) (k0_off40 (wTil 64) (wRow 64)) S1x1024x1024.size hh) hs = oBlk 63 := oBlk_congr off40_eq _ _
@[sl_canon] theorem oSlotE (hh hs) : (obM.slice (Rect.unit (s := S2x1x1024x1024) (k0_off41 (wBeh 64)) S1x1x1024x1024.size hh) hs).squeeze S1x1024x1024 squeezes_S1x1x1024x1024_S1x1024x1024 = oSlot 1 := oSlot_congr off41_eq _ _

end Canon

end Cert.Proof.Outproj

end
-- ==== Proof.Pieces.lean ====
/-
  What the software pipeline holds between trips, piece by piece: a block at home, a slot free, in flight or holding what
  landed, the result's blocks as launched and as written; and the value each step computes.
-/
module

public import proofs.«01_k».proof.Proof.Words
public import Idealize.ShloMosaic.Lib.VecWindow

@[expose] public section

set_option maxRecDepth 16384

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

/-- The ghost state: the launch's own, and the counters a copy in flight is recorded by. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none
theorem entails_of_eq {P Q : sProp 𝕄} (e : P = Q) : P ⊢ Q := e ▸ .rfl

/-! ## The pieces -/

section Pieces
variable (c : Dev nD)

abbrev aCell (s : Fin 3) : sProp 𝕄 := semVal ((c : Thread nD τ), SemLoc.dma (aSem s).sem) 0
abbrev xCell (s : Fin 3) : sProp 𝕄 := semVal ((c : Thread nD τ), SemLoc.dma (xSem s).sem) 0
abbrev gCell (s : Fin 2) : sProp 𝕄 := semVal ((c : Thread nD τ), SemLoc.dma (gSem s).sem) 0
abbrev oCell (s : Fin 2) : sProp 𝕄 := semVal ((c : Thread nD τ), SemLoc.dma (oSem s).sem) 0

/-- A memref's elements held at contents `f`. -/
abbrev held {sp : Space} {s : Shape} {dt : EltTy} (M : Memref sig .tc sp s dt) (f : Buf (Elt F) (M.view.loc (c : Thread nD τ))) : sProp 𝕄 :=
  M.view.loc (c : Thread nD τ) ↦[M.view.set]{fullShare} f

/-- What a copy of block `B` (of contents `X`) leaves in slot `S` over `f`. -/
abbrev landed {sp sp' : Space} {s : Shape} {dt : EltTy} (S : Memref sig .tc sp s dt) (B : Memref sig .tc sp' s dt)
    (X : Buf (Elt F) (B.view.loc (c : Thread nD τ))) (f : Buf (Elt F) (S.view.loc (c : Thread nD τ))) : Buf (Elt F) (S.view.loc (c : Thread nD τ)) :=
  S.view.writes (Elt F) f [⟨Rect.whole s, ReadAs.same.apply (B.view.read (Elt F) X)⟩]

end Pieces

variable (c : Dev nD)
  (XA : Buf (Elt F) (aM.view.loc (c : Thread nD τ))) (XX : Buf (Elt F) (xM.view.loc (c : Thread nD τ)))
  (XG : Buf (Elt F) (gM.view.loc (c : Thread nD τ)))
  (XO : Buf (Elt F) (oM.view.loc (c : Thread nD τ)))
  (fw : Buf (Elt F) (wbM.view.loc (c : Thread nD τ))) (fp : Buf (Elt F) (pbM.view.loc (c : Thread nD τ)))

abbrev aHome (b : Fin 64) : sProp 𝕄 := held c (aBlk b) XA
abbrev xHome (b : Fin 64) : sProp 𝕄 := held c (xBlk b) XX
abbrev gHome (q : Fin 16) : sProp 𝕄 := held c (gBlk q) XG

abbrev NA : ℕ := 65536
abbrev NX : ℕ := 131072
abbrev NG : ℕ := 128
abbrev aFlight (s : Fin 3) (b : Fin 64) (f : Buf (Elt F) ((aSlot s).view.loc (c : Thread nD τ))) : sProp 𝕄 :=
  Transfers.Flight countersEmb (c : Thread nD τ) (SemLoc.dma (aSem s).sem) () NA iprop(held c (aSlot s) (landed c (aSlot s) (aBlk b) XA f) ∗ aHome c XA b)
abbrev xFlight (s : Fin 3) (b : Fin 64) (f : Buf (Elt F) ((xSlot s).view.loc (c : Thread nD τ))) : sProp 𝕄 :=
  Transfers.Flight countersEmb (c : Thread nD τ) (SemLoc.dma (xSem s).sem) () NX iprop(held c (xSlot s) (landed c (xSlot s) (xBlk b) XX f) ∗ xHome c XX b)
abbrev gFlight (s : Fin 2) (q : Fin 16) (f : Buf (Elt F) ((gSlot s).view.loc (c : Thread nD τ))) : sProp 𝕄 :=
  Transfers.Flight countersEmb (c : Thread nD τ) (SemLoc.dma (gSem s).sem) () NG iprop(held c (gSlot s) (landed c (gSlot s) (gBlk q) XG f) ∗ gHome c XG q)

/-- The block step `k` computes: the mixer output's block times the weight, normalized, gained, gated, added to the residual's. -/
abbrev outB (k : ℕ) : FVec F S1x1024x1024 .f32 :=
  k0_pay4 (k0_pay1 ((aBlk (bk 64 k)).view.read (Elt F) XA) (wbM.view.readAt (Elt F) (Rect.unit (s := S1024x1024) ![0, 0] S1024x1024.size inb_S1024x1024_S1024x1024_0_0).toLoadRect fw))
    (k0_pay2 ((xBlk (bk 64 k)).view.read (Elt F) XX)) (k0_pay3 ((gBlk (bk 16 (k / 4))).view.read (Elt F) XG))
    (pbM.view.readAt (Elt F) (Rect.unit (s := S1x1024) ![0, 0] S1x1024.size inb_S1x1024_S1x1024_0_0).toLoadRect fp)

/-- The result's block `b` as launched, and with value `w` written. -/
abbrev oHome (b : Fin 64) : sProp 𝕄 := held c (oBlk b) XO
abbrev oDone (b : Fin 64) (w : FVec F S1x1024x1024 .f32) : sProp 𝕄 := held c (oBlk b) ((oBlk b).view.writes (Elt F) XO [⟨Rect.whole S1x1024x1024, w⟩])
abbrev oFlight (s : Fin 2) (b : Fin 64) (w : FVec F S1x1024x1024 .f32) (f : Buf (Elt F) ((oSlot s).view.loc (c : Thread nD τ))) : sProp 𝕄 :=
  Transfers.Flight countersEmb (c : Thread nD τ) (SemLoc.dma (oSem s).sem) () NX iprop(oDone c XO b w ∗ held c (oSlot s) f)

/-- A slot held at anything. -/
abbrev aFree (s : Fin 3) : sProp 𝕄 := iprop(aCell c s ∗ ∃ f, held c (aSlot s) f)
abbrev xFree (s : Fin 3) : sProp 𝕄 := iprop(xCell c s ∗ ∃ f, held c (xSlot s) f)
abbrev gFree (s : Fin 2) : sProp 𝕄 := iprop(gCell c s ∗ ∃ f, held c (gSlot s) f)
abbrev oFree (s : Fin 2) : sProp 𝕄 := iprop(oCell c s ∗ ∃ f, held c (oSlot s) f)
/-- A slot in flight with a block, issued over anything. -/
abbrev aFly (s : Fin 3) (b : Fin 64) : sProp 𝕄 := iprop(∃ f, aFlight c XA s b f)
abbrev xFly (s : Fin 3) (b : Fin 64) : sProp 𝕄 := iprop(∃ f, xFlight c XX s b f)
abbrev gFly (s : Fin 2) (q : Fin 16) : sProp 𝕄 := iprop(∃ f, gFlight c XG s q f)
abbrev oFly (s : Fin 2) (k : ℕ) : sProp 𝕄 := iprop(∃ f, oFlight c XO s (bk 64 k) (outB c XA XX XG fw fp k) f)
/-- The gate slot holding row `q`. -/
abbrev gKept (s : Fin 2) (q : Fin 16) : sProp 𝕄 := iprop(∃ f, held c (gSlot s) (landed c (gSlot s) (gBlk q) XG f))
/-- What no trip changes: the weight and the gain, held whole; what the core owes. -/
abbrev base : sProp 𝕄 := iprop(held c wbM fw ∗ held c pbM fp ∗ ∃ W, owes (c : Thread nD τ) 0 W)

/-- What a trip that issues touches of the two streamed rings, before and after. -/
abbrev aIn (k : ℕ) : sProp 𝕄 := iprop(aHome c XA (bk 64 (k + 2)) ∗ aFly c XA (sl 3 k) (bk 64 k) ∗ aFree c (sl 3 (k + 2)))
abbrev aOut (k : ℕ) : sProp 𝕄 := iprop(aHome c XA (bk 64 k) ∗ aFly c XA (sl 3 (k + 2)) (bk 64 (k + 2)) ∗ aFree c (sl 3 k))
abbrev xIn (k : ℕ) : sProp 𝕄 := iprop(xHome c XX (bk 64 (k + 2)) ∗ xFly c XX (sl 3 k) (bk 64 k) ∗ xFree c (sl 3 (k + 2)))
abbrev xOut (k : ℕ) : sProp 𝕄 := iprop(xHome c XX (bk 64 k) ∗ xFly c XX (sl 3 (k + 2)) (bk 64 (k + 2)) ∗ xFree c (sl 3 k))
/-- What every trip touches of the result's ring, and what all but the first also drains. -/
abbrev oIn (k : ℕ) : sProp 𝕄 := iprop(oHome c XO (bk 64 k) ∗ oFree c (sl 2 k))
abbrev oOld (k : ℕ) : sProp 𝕄 := oFly c XA XX XG XO fw fp (sl 2 (k + 1)) (k - 1)
abbrev oGone (k : ℕ) : sProp 𝕄 := iprop(oDone c XO (bk 64 (k - 1)) (outB c XA XX XG fw fp (k - 1)) ∗ oFree c (sl 2 (k + 1)))

/-- A whole read of a slot just written whole reads what was written. -/
theorem read_landed {sp : Space} {s : Shape} {e : EltTy} (M : Memref sig .tc sp s e) (w : s.Idx → Elt F e) {off : Fin s.rank → ℕ} (inb : ∀ a, off a + s.size a ≤ s.size a) :
    M.view.readCov [⟨Rect.whole s, w⟩] (Rect.unit off s.size inb).toLoadRect = w :=
  View.readCov_full M.view inb (fun _ => by simp) w []

/-- A slot just stored whole reads what was stored. -/
theorem read_stored {sp : Space} {s : Shape} {e : EltTy} (M : Memref sig .tc sp s e) (f : M.view.ty.Contents (Elt F)) {off : Fin s.rank → ℕ} (inb : ∀ a, off a + s.size a ≤ s.size a)
    (w : s.Idx → Elt F e) : M.view.read (Elt F) (M.view.writes (Elt F) f [⟨Rect.unit off s.size inb, w⟩]) = w :=
  View.read_writes_full M.view f inb w []

/-- A copy out issued with the block the step computes is that step's. -/
theorem oFly_intro (s : Fin 2) (k : ℕ) (w : FVec F S1x1024x1024 .f32) (f : Buf (Elt F) ((oSlot s).view.loc (c : Thread nD τ))) (e : w = outB c XA XX XG fw fp k) :
    oFlight c XO s (bk 64 k) w f ⊢ oFly c XA XX XG XO fw fp s k := by
  subst e; iintro H; iexists f; iexact H

/-- The carried words, one by one. -/
theorem words_intro {k : ℕ} {a0 a1 a2 a3 a4 a5 a6 a7 a8 a9 a10 a11 : BitVec 32} (h0 : a0 = wIss k) (h1 : a1 = wCnt k) (h2 : a2 = wEnd k) (h3 : a3 = wIss k) (h4 : a4 = wCnt k) (h5 : a5 = wGis k) (h6 : a6 = wGat k) (h7 : a7 = wEnd k) (h8 : a8 = wCnt k) (h9 : a9 = wBeh k) (h10 : a10 = wRow k) (h11 : a11 = wTil k) :
    (a0, a1, a2, a3, a4, a5, a6, a7, a8, a9, a10, a11) = words k := by
  subst h0 h1 h2 h3 h4 h5 h6 h7 h8 h9 h10 h11; rfl

abbrev tripG (w1 w2 w3 c1 c2 c3 c4 c5 c6 c7 c8 c9 : BitVec 32) (k : Fin k0_t1_loop.trips) :
    Prog (TpuEff nD τ sig (Elt F) Λ₀ .tc) (BitVec 32 × BitVec 32 × BitVec 32 × BitVec 32 × BitVec 32 × BitVec 32 × BitVec 32 × BitVec 32 × BitVec 32 × BitVec 32 × BitVec 32 × BitVec 32) :=
  k0_t1_body (F := F) aM (Memref.isWhole_whole _) wM (Memref.isWhole_whole _) xM (Memref.isWhole_whole _) gM (Memref.isWhole_whole _)
    pM (Memref.isWhole_whole _) oM (Memref.isWhole_whole _) abM (Memref.isWhole_whole _) cc0_scoped1 wbM (Memref.isWhole_whole _)
    xbM (Memref.isWhole_whole _) cc0_scoped4 gbM (Memref.isWhole_whole _) cc0_scoped6 pbM (Memref.isWhole_whole _)
    obM (Memref.isWhole_whole _) cc0_scoped9 cc0_scoped10 cc0_scoped11 w1 w2 w3 c1 c2 c3 c4 c5 c6 c7 c8 c9 0#32 k (words k.val)

end Cert.Proof.Outproj

end
-- ==== Proof.Rings.lean ====
/-
  The four rings of the software pipeline between trips, and how one trip moves each: what the trip takes out of the ring
  before trip `k`, and how what it gives back makes the ring before trip `k + 1`.
-/
module

public import proofs.«01_k».proof.Proof.Pieces

@[expose] public section

set_option maxRecDepth 16384

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {M : Type _} [URA M]

/-! ## A ring of three slots, two blocks ahead -/

section Ahead
variable (home : Fin 64 → sProp M) (fly : Fin 3 → Fin 64 → sProp M) (free : Fin 3 → sProp M)

/-- Slot `j % 3` with block `j` on its way while that block exists. -/
def role3 (j : ℕ) : sProp M := if j < 64 then fly (sl 3 j) (bk 64 j) else free (sl 3 j)
/-- The ring before trip `k`. -/
def ring3 (k : ℕ) : sProp M := iprop(bigSep (Ring.homeSet 2 k) home ∗ role3 fly free k ∗ role3 fly free (k + 1) ∗ free (sl 3 (k + 2)))

theorem role3_lt {j : ℕ} (h : j < 64) : role3 fly free j = fly (sl 3 j) (bk 64 j) := if_pos h
theorem role3_ge {j : ℕ} (h : ¬ j < 64) : role3 fly free j = free (sl 3 j) := if_neg h
theorem sl3_turn (k : ℕ) : sl 3 (k + 1 + 2) = sl 3 k := Ring.sl_succ_add 3 k 2 rfl

/-- A trip that issues. -/
theorem ring3_issue (k : ℕ) (h : k + 2 < 64) :
    ring3 home fly free k ⊢ iprop((home (bk 64 (k + 2)) ∗ fly (sl 3 k) (bk 64 k) ∗ free (sl 3 (k + 2)))
      ∗ ((home (bk 64 k) ∗ fly (sl 3 (k + 2)) (bk 64 (k + 2)) ∗ free (sl 3 k)) -∗ ring3 home fly free (k + 1))) := by
  have e1 : bigSep (Ring.homeSet 2 k) home = iprop(home (bk 64 (k + 2)) ∗ bigSep ((Ring.homeSet 2 k).erase (bk 64 (k + 2))) home) := by
    conv_lhs => rw [Ring.homeSet_out 2 k h]
    exact bigSep_insert (Ring.bkL_not_mem_erase 2 k)
  have e2 : bigSep (Ring.homeSet 2 (k + 1)) home = iprop(home (bk 64 k) ∗ bigSep ((Ring.homeSet 2 k).erase (bk 64 (k + 2))) home) := by
    rw [Ring.homeSet_succ 2 k h]
    exact bigSep_insert (Ring.bk_not_mem_erase 2 k (by omega) (by decide))
  unfold ring3
  rw [e1, e2, role3_lt fly free (show k < 64 by omega), show k + 1 + 1 = k + 2 from rfl, role3_lt fly free h, sl3_turn]
  iintro ⟨⟨H2, Hrest⟩, Hf, Hn, Hs⟩
  isplitl [H2 Hf Hs]
  · isplitl [H2]; · iexact H2
    isplitl [Hf]; · iexact Hf
    iexact Hs
  iintro ⟨Hk, Hf', Hs'⟩
  isplitl [Hk Hrest]
  · isplitl [Hk]; · iexact Hk
    iexact Hrest
  isplitl [Hn]; · iexact Hn
  isplitl [Hf']; · iexact Hf'
  iexact Hs'

/-- A trip with nothing left to issue. -/
theorem ring3_tail (k : ℕ) (h : ¬ k + 2 < 64) (hk : k < 64) :
    ring3 home fly free k ⊢ iprop(fly (sl 3 k) (bk 64 k) ∗ ((home (bk 64 k) ∗ free (sl 3 k)) -∗ ring3 home fly free (k + 1))) := by
  have e2 : bigSep (Ring.homeSet 2 (k + 1)) home = iprop(home (bk 64 k) ∗ bigSep (Ring.homeSet 2 k) home) := by
    rw [Ring.homeSet_succ_tail 2 k (by omega) hk]
    exact bigSep_insert (Ring.bk_not_mem_homeSet 2 k hk (by decide))
  unfold ring3
  rw [e2, role3_lt fly free hk, show k + 1 + 1 = k + 2 from rfl, role3_ge fly free h, sl3_turn]
  iintro ⟨Hrest, Hf, Hn, Hs⟩
  isplitl [Hf]; · iexact Hf
  iintro ⟨Hk, Hs'⟩
  isplitl [Hk Hrest]
  · isplitl [Hk]; · iexact Hk
    iexact Hrest
  isplitl [Hn]; · iexact Hn
  isplitl [Hs]; · iexact Hs
  iexact Hs'

/-- After the last trip: every block home, the three slots free. -/
theorem ring3_end : ring3 home fly free 64 ⊢ iprop(bigSep Finset.univ home ∗ free 0 ∗ free 1 ∗ free 2) := by
  unfold ring3
  rw [Ring.homeSet_last 2 64 (by decide), role3_ge fly free (by decide), role3_ge fly free (by decide),
    show sl 3 64 = 1 from by decide, show sl 3 (64 + 1) = 2 from by decide, show sl 3 (64 + 2) = 0 from by decide]
  iintro ⟨H, H1, H2, H0⟩
  isplitl [H]; · iexact H
  isplitl [H0]; · iexact H0
  isplitl [H1]; · iexact H1
  iexact H2

end Ahead

/-! ## The gate's ring: one row for four trips -/

section Gate
variable (home : Fin 16 → sProp M) (fly kept : Fin 2 → Fin 16 → sProp M) (cell free : Fin 2 → sProp M)

/-- Before trip `k`: at the start of a batch entry its row is on its way, within one it is in its slot. -/
def ringG (k : ℕ) : sProp M :=
  if k < 64 then
    if k % 4 = 0 then iprop(bigSep (Finset.univ.erase (bk 16 (k / 4))) home ∗ fly (sl 2 (k / 4)) (bk 16 (k / 4)) ∗ free (sl 2 (k / 4 + 1)))
    else iprop(bigSep Finset.univ home ∗ (cell (sl 2 (k / 4)) ∗ kept (sl 2 (k / 4)) (bk 16 (k / 4))) ∗ free (sl 2 (k / 4 + 1)))
  else iprop(bigSep Finset.univ home ∗ free 0 ∗ free 1)

theorem ringG_start {k : ℕ} (h : k < 64) (h4 : k % 4 = 0) : ringG home fly kept cell free k
    = iprop(bigSep (Finset.univ.erase (bk 16 (k / 4))) home ∗ fly (sl 2 (k / 4)) (bk 16 (k / 4)) ∗ free (sl 2 (k / 4 + 1))) := by
  rw [ringG, if_pos h, if_pos h4]
theorem ringG_within {k : ℕ} (h : k < 64) (h4 : ¬ k % 4 = 0) : ringG home fly kept cell free k
    = iprop(bigSep Finset.univ home ∗ (cell (sl 2 (k / 4)) ∗ kept (sl 2 (k / 4)) (bk 16 (k / 4))) ∗ free (sl 2 (k / 4 + 1))) := by
  rw [ringG, if_pos h, if_neg h4]
theorem ringG_end : ringG home fly kept cell free 64 = iprop(bigSep Finset.univ home ∗ free 0 ∗ free 1) := if_neg (by decide)

theorem home_row (q : Fin 16) : bigSep Finset.univ home = iprop(home q ∗ bigSep (Finset.univ.erase q) home) :=
  Ring.bigSep_take (Finset.mem_univ q) home

/-- The first trip of a batch entry. -/
theorem ringG_wait (k : ℕ) (h : k < 64) (h4 : k % 4 = 0) :
    ringG home fly kept cell free k ⊢ iprop(fly (sl 2 (k / 4)) (bk 16 (k / 4))
      ∗ ((home (bk 16 (k / 4)) ∗ cell (sl 2 (k / 4)) ∗ kept (sl 2 (k / 4)) (bk 16 (k / 4))) -∗ ringG home fly kept cell free (k + 1))) := by
  rw [ringG_start home fly kept cell free h h4, ringG_within home fly kept cell free (show k + 1 < 64 by omega) (by omega),
    show (k + 1) / 4 = k / 4 by omega, home_row home (bk 16 (k / 4))]
  iintro ⟨Hr, Hf, Hs⟩
  isplitl [Hf]; · iexact Hf
  iintro ⟨Hh, Hc, Hk⟩
  isplitl [Hh Hr]
  · isplitl [Hh]; · iexact Hh
    iexact Hr
  isplitl [Hc Hk]
  · isplitl [Hc]; · iexact Hc
    iexact Hk
  iexact Hs

/-- A trip within a batch entry and not its last. -/
theorem ringG_mid (k : ℕ) (h : k < 64) (h0 : ¬ k % 4 = 0) (h3 : ¬ k % 4 = 3) :
    ringG home fly kept cell free k ⊢ iprop(kept (sl 2 (k / 4)) (bk 16 (k / 4))
      ∗ (kept (sl 2 (k / 4)) (bk 16 (k / 4)) -∗ ringG home fly kept cell free (k + 1))) := by
  rw [ringG_within home fly kept cell free h h0, ringG_within home fly kept cell free (show k + 1 < 64 by omega) (by omega),
    show (k + 1) / 4 = k / 4 by omega]
  iintro ⟨Hr, ⟨Hc, Hk⟩, Hs⟩
  isplitl [Hk]; · iexact Hk
  iintro Hk
  isplitl [Hr]; · iexact Hr
  isplitl [Hc Hk]
  · isplitl [Hc]; · iexact Hc
    iexact Hk
  iexact Hs

/-- The last trip of a batch entry but the last: the next row goes out, the present one's slot is free again. -/
theorem ringG_issue (hfree : ∀ s q, iprop(cell s ∗ kept s q) ⊢ free s) (k : ℕ) (h : k < 63) (h3 : k % 4 = 3) :
    ringG home fly kept cell free k ⊢ iprop((kept (sl 2 (k / 4)) (bk 16 (k / 4)) ∗ home (bk 16 (k / 4 + 1)) ∗ free (sl 2 (k / 4 + 1)))
      ∗ ((kept (sl 2 (k / 4)) (bk 16 (k / 4)) ∗ fly (sl 2 (k / 4 + 1)) (bk 16 (k / 4 + 1))) -∗ ringG home fly kept cell free (k + 1))) := by
  rw [ringG_within home fly kept cell free (show k < 64 by omega) (by omega), ringG_start home fly kept cell free (show k + 1 < 64 by omega) (by omega),
    show (k + 1) / 4 = k / 4 + 1 by omega, home_row home (bk 16 (k / 4 + 1)), show sl 2 (k / 4 + 1 + 1) = sl 2 (k / 4) from Ring.sl_add 2 _]
  iintro ⟨⟨Hh, Hr⟩, ⟨Hc, Hk⟩, Hs⟩
  isplitl [Hh Hk Hs]
  · isplitl [Hk]; · iexact Hk
    isplitl [Hh]; · iexact Hh
    iexact Hs
  iintro ⟨Hk, Hf⟩
  isplitl [Hr]; · iexact Hr
  isplitl [Hf]; · iexact Hf
  iapply (hfree (sl 2 (k / 4)) (bk 16 (k / 4)))
  isplitl [Hc]; · iexact Hc
  iexact Hk

/-- The very last trip. -/
theorem ringG_last (hfree : ∀ s q, iprop(cell s ∗ kept s q) ⊢ free s) :
    ringG home fly kept cell free 63 ⊢ iprop(kept (sl 2 (63 / 4)) (bk 16 (63 / 4))
      ∗ (kept (sl 2 (63 / 4)) (bk 16 (63 / 4)) -∗ ringG home fly kept cell free 64)) := by
  rw [ringG_within home fly kept cell free (by decide) (by decide), ringG_end,
    show sl 2 (63 / 4) = 1 from by decide, show sl 2 (63 / 4 + 1) = 0 from by decide]
  iintro ⟨Hr, ⟨Hc, Hk⟩, Hs⟩
  isplitl [Hk]; · iexact Hk
  iintro Hk
  isplitl [Hr]; · iexact Hr
  isplitl [Hs]; · iexact Hs
  iapply (hfree 1 (bk 16 (63 / 4)))
  isplitl [Hc]; · iexact Hc
  iexact Hk

end Gate

/-! ## The result's ring: two slots, one step behind -/

section Behind
variable (home : Fin 64 → sProp M) (done : Fin 64 → ℕ → sProp M) (fly : Fin 2 → ℕ → sProp M) (free : Fin 2 → sProp M)

/-- The slot the step before used. -/
def roleO (k : ℕ) : sProp M := if 1 ≤ k then fly (sl 2 (k + 1)) (k - 1) else free (sl 2 (k + 1))
/-- Before trip `k`: the blocks not yet written, the blocks written, the slot trip `k` will use, the slot in flight. -/
def ringO (k : ℕ) : sProp M :=
  iprop(bigSep (Ring.aheadSet k) home ∗ bigSep (Ring.behindSet 1 k) (fun b => done b b.val) ∗ free (sl 2 k) ∗ roleO fly free k)

/-- The first trip. -/
theorem ringO_first : ringO home done fly free 0 ⊢ iprop((home (bk 64 0) ∗ free (sl 2 0))
      ∗ (fly (sl 2 0) 0 -∗ ringO home done fly free 1)) := by
  have e1 : bigSep (Ring.aheadSet 0) home = iprop(home (bk 64 0) ∗ bigSep (Ring.aheadSet 1) home) := by
    rw [Ring.aheadSet_open 0 (by decide)]; exact bigSep_insert (Ring.bk_not_mem_aheadSet_succ 0 (by decide))
  unfold ringO roleO
  rw [e1, Ring.behindSet_boot 1 0 (by decide), Ring.behindSet_boot 1 1 (by decide), if_neg (by decide), if_pos (by decide),
    show sl 2 (1 + 1) = sl 2 0 from by decide, show 0 + 1 = 1 from rfl, show 1 - 1 = 0 from rfl]
  iintro ⟨⟨Hh, Hr⟩, Hb, Hs, Hs'⟩
  isplitl [Hh Hs]
  · isplitl [Hh]; · iexact Hh
    iexact Hs
  iintro Hf
  isplitl [Hr]; · iexact Hr
  isplitl [Hb]; · iexact Hb
  isplitl [Hs']; · iexact Hs'
  iexact Hf

/-- A later trip. -/
theorem ringO_step (k : ℕ) (h1 : 1 ≤ k) (hk : k < 64) :
    ringO home done fly free k ⊢ iprop(((home (bk 64 k) ∗ free (sl 2 k)) ∗ fly (sl 2 (k + 1)) (k - 1))
      ∗ ((fly (sl 2 k) k ∗ done (bk 64 (k - 1)) (k - 1) ∗ free (sl 2 (k + 1))) -∗ ringO home done fly free (k + 1))) := by
  have e1 : bigSep (Ring.aheadSet k) home = iprop(home (bk 64 k) ∗ bigSep (Ring.aheadSet (k + 1)) home) := by
    rw [Ring.aheadSet_open k hk]; exact bigSep_insert (Ring.bk_not_mem_aheadSet_succ k hk)
  have e2 : bigSep (Ring.behindSet 1 (k + 1)) (fun b : Fin 64 => done b b.val)
      = iprop(done (bk 64 (k - 1)) (k - 1) ∗ bigSep (Ring.behindSet 1 k) (fun b => done b b.val)) := by
    rw [Ring.behindSet_close 1 k h1 hk]
    refine (bigSep_insert (Ring.bk_not_mem_behindSet 1 k h1 hk)).trans ?_
    rw [Ring.bk_val (show k - 1 < 64 by omega)]
    rfl
  unfold ringO roleO
  rw [e1, e2, if_pos h1, if_pos (by omega), show sl 2 (k + 1 + 1) = sl 2 k from Ring.sl_add 2 k, show k + 1 - 1 = k from rfl]
  iintro ⟨⟨Hh, Hr⟩, Hb, Hs, Hf⟩
  isplitl [Hh Hs Hf]
  · isplitl [Hh Hs]
    · isplitl [Hh]; · iexact Hh
      iexact Hs
    iexact Hf
  iintro ⟨Hf, Hd, Hs⟩
  isplitl [Hr]; · iexact Hr
  isplitl [Hd Hb]
  · isplitl [Hd]; · iexact Hd
    iexact Hb
  isplitl [Hs]; · iexact Hs
  iexact Hf

/-- After the last trip: the last block on its way, the others written. -/
theorem ringO_end : ringO home done fly free 64 ⊢ iprop(fly 1 63 ∗ free 0
      ∗ ((done 63 63) -∗ bigSep Finset.univ (fun b => done b b.val))) := by
  have e : (Finset.univ : Finset (Fin 64)) = insert 63 (Ring.behindSet 1 64) := by decide
  have e2 : bigSep Finset.univ (fun b : Fin 64 => done b b.val)
      = iprop(done 63 63 ∗ bigSep (Ring.behindSet 1 64) (fun b => done b b.val)) := by
    rw [e]; exact bigSep_insert (by decide)
  unfold ringO roleO
  rw [if_pos (by decide), show sl 2 (64 + 1) = 1 from by decide, show sl 2 64 = 0 from by decide, e2]
  iintro ⟨-, Hb, Hs, Hf⟩
  isplitl [Hf]; · iexact Hf
  isplitl [Hs]; · iexact Hs
  iintro Hd
  isplitl [Hd]; · iexact Hd
  iexact Hb

end Behind

end Cert.Proof.Outproj

end
-- ==== Proof.TripFirst.lean ====
/-
  One trip of the software pipeline's loop, at a symbolic trip number, in the five shapes a trip has: the first; one that
  begins a batch entry (and waits for its gate row); one in the middle; one that issues the next gate row; and the last
  two, which issue nothing. Each starts from exactly the slots, cells and blocks it touches and says what it leaves there.
-/
module

public import proofs.«01_k».proof.Proof.Pieces

@[expose] public section

set_option maxRecDepth 16384

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (UU nD τ) ℕ
variable (c : Dev nD)
  (XA : Buf (Elt F) (aM.view.loc (c : Thread nD τ))) (XX : Buf (Elt F) (xM.view.loc (c : Thread nD τ)))
  (XG : Buf (Elt F) (gM.view.loc (c : Thread nD τ)))
  (XO : Buf (Elt F) (oM.view.loc (c : Thread nD τ)))
  (fw : Buf (Elt F) (wbM.view.loc (c : Thread nD τ))) (fp : Buf (Elt F) (pbM.view.loc (c : Thread nD τ)))

set_option maxHeartbeats 8000000 in
/-- The first trip: as the first of any batch entry, with nothing to drain. -/
theorem tripFirst (w1 w2 w3 c1 c2 c3 c4 c5 c6 c7 c8 c9 : BitVec 32) (k : Fin k0_t1_loop.trips) (hi : k.val + 2 < 64) (h1 : ¬ 1 ≤ k.val) (hg : k.val % 4 = 0) (hg' : ¬ (k.val % 4 = 3 ∧ k.val < 63)) :
    iprop(base c fw fp ∗ aIn c XA k.val ∗ xIn c XX k.val ∗ gFly c XG (sl 2 (k.val / 4)) (bk 16 (k.val / 4)) ∗ oIn c XO k.val)
     ⊢ wp frame (wpE (defs₀ (F := F)) 𝒱₀ (c : Thread nD τ) none) Set.univ (tripG w1 w2 w3 c1 c2 c3 c4 c5 c6 c7 c8 c9 k)
        (fun acc => iprop(⌜acc = words (k.val + 1)⌝ ∗ base c fw fp ∗ aOut c XA k.val ∗ xOut c XX k.val ∗ (gHome c XG (bk 16 (k.val / 4)) ∗ gCell c (sl 2 (k.val / 4)) ∗ gKept c XG (sl 2 (k.val / 4)) (bk 16 (k.val / 4))) ∗ oFly c XA XX XG XO fw fp (sl 2 k.val) k.val)) := by
  have hc6 := cond6_true k
  have hc7 := cond7_true k
  have hc13 := cond13_true k
  have hk1 := chk1 k
  have hk2 := chk2 k
  have hk3 := chk3 k
  have hk4 := chk4 k
  have hk5 := chk5 k
  have hc3 := (cond3_iff k).mpr hi
  have hc4 := (cond4_iff k).mpr hi
  have hc5 : ¬ _ := fun h => hg' ((cond5_iff k).mp h)
  have hc8 := (cond8_iff k).mpr hg
  have hc17 : ¬ _ := fun h => h1 ((cond17_iff k).mp h)
  iintro ⟨⟨HWB, HPB, ⟨%W, HW⟩⟩, ⟨Ha, ⟨%fa, HAf⟩, Hac, ⟨%ha, Has⟩⟩, ⟨Hx, ⟨%fx, HXf⟩, Hxc, ⟨%hx, Hxs⟩⟩, ⟨%fg, Hg⟩, ⟨Hd, Hoc, ⟨%ho, Hos⟩⟩⟩
  dsimp only [tripG, words]
  sl_unfold [k0_t1_body]
  sl_exec
  sl_step
  isplitr
  · ipureintro
    exact words_intro ((by decide +kernel : ∀ k : Fin k0_t1_loop.trips, tripFirst.sl.v194_r0 k = wIss (k.val + 1)) k)
      ((by decide +kernel : ∀ k : Fin k0_t1_loop.trips, tripFirst.sl.v321_r0 k = wCnt (k.val + 1)) k)
      ((by decide +kernel : ∀ k : Fin k0_t1_loop.trips, tripFirst.sl.v362_r0 k = wEnd (k.val + 1)) k)
      ((by decide +kernel : ∀ k : Fin k0_t1_loop.trips, tripFirst.sl.v194_r0 k = wIss (k.val + 1)) k)
      ((by decide +kernel : ∀ k : Fin k0_t1_loop.trips, tripFirst.sl.v321_r0 k = wCnt (k.val + 1)) k)
      ((by decide +kernel : ∀ k : Fin k0_t1_loop.trips, tripFirst.sl.v216_r0 k = wGis (k.val + 1)) k)
      ((by decide +kernel : ∀ k : Fin k0_t1_loop.trips, tripFirst.sl.v372_r0 k = wGat (k.val + 1)) k)
      ((by decide +kernel : ∀ k : Fin k0_t1_loop.trips, tripFirst.sl.v362_r0 k = wEnd (k.val + 1)) k)
      ((by decide +kernel : ∀ k : Fin k0_t1_loop.trips, tripFirst.sl.v321_r0 k = wCnt (k.val + 1)) k)
      ((by decide +kernel : ∀ k : Fin k0_t1_loop.trips, tripFirst.sl.v353_r0 k = wBeh (k.val + 1)) k)
      ((by decide +kernel : ∀ k : Fin k0_t1_loop.trips, tripFirst.sl.v160_r0 k = wRow (k.val + 1)) k)
      ((by decide +kernel : ∀ k : Fin k0_t1_loop.trips, tripFirst.sl.v156_r0 k = wTil (k.val + 1)) k)
  isplitl [HWB HPB HW]
  · isplitl [HWB]; · iexact HWB
    isplitl [HPB]; · iexact HPB
    iexists _; iexact HW
  isplitl [HAf_src Hac HAf HAf_dst]
  · isplitl [HAf_src]; · iexact HAf_src
    isplitl [Hac]; · iexists _; iexact Hac
    isplitl [HAf]; · iexact HAf
    iexists _; iexact HAf_dst
  isplitl [HXf_src Hxc HXf HXf_dst]
  · isplitl [HXf_src]; · iexact HXf_src
    isplitl [Hxc]; · iexists _; iexact Hxc
    isplitl [HXf]; · iexact HXf
    iexists _; iexact HXf_dst
  isplitl [Hg_src Hg Hg_dst]
  · isplitl [Hg_src]; · iexact Hg_src
    isplitl [Hg]; · iexact Hg
    iexists _; iexact Hg_dst
  have ea : tripFirst.sl.v259_r0 c XA k = (aBlk (bk 64 k.val)).view.read (Elt F) XA := read_landed _ _ _
  have ex : tripFirst.sl.v266_r0 c XX k = (xBlk (bk 64 k.val)).view.read (Elt F) XX := read_landed _ _ _
  have eg : tripFirst.sl.v270_r0 c XG k = (gBlk (bk 16 (k.val / 4))).view.read (Elt F) XG := read_landed _ _ _
  have e : tripFirst.sl.dma7 c XA XX XG fw fp k ho = outB c XA XX XG fw fp k.val :=
    (read_stored (oSlot (sl 2 k.val)) ho _ _).trans (by unfold tripFirst.sl.r tripFirst.sl.r_1 tripFirst.sl.r_2; rw [ea, ex, eg])
  iapply (oFly_intro c XA XX XG XO fw fp (sl 2 k.val) k.val _ _ e); iexact Hoc

end Cert.Proof.Outproj

end
-- ==== Proof.TripMid.lean ====
/-
  One trip of the software pipeline's loop, at a symbolic trip number, in the five shapes a trip has: the first; one that
  begins a batch entry (and waits for its gate row); one in the middle; one that issues the next gate row; and the last
  two, which issue nothing. Each starts from exactly the slots, cells and blocks it touches and says what it leaves there.
-/
module

public import proofs.«01_k».proof.Proof.Pieces

@[expose] public section

set_option maxRecDepth 16384

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (UU nD τ) ℕ
variable (c : Dev nD)
  (XA : Buf (Elt F) (aM.view.loc (c : Thread nD τ))) (XX : Buf (Elt F) (xM.view.loc (c : Thread nD τ)))
  (XG : Buf (Elt F) (gM.view.loc (c : Thread nD τ)))
  (XO : Buf (Elt F) (oM.view.loc (c : Thread nD τ)))
  (fw : Buf (Elt F) (wbM.view.loc (c : Thread nD τ))) (fp : Buf (Elt F) (pbM.view.loc (c : Thread nD τ)))

set_option maxHeartbeats 8000000 in
/-- A trip in the middle of a batch entry: two blocks issued, two waited for, one computed and sent out, the one before it drained. -/
theorem tripMid (w1 w2 w3 c1 c2 c3 c4 c5 c6 c7 c8 c9 : BitVec 32) (k : Fin k0_t1_loop.trips) (hi : k.val + 2 < 64) (h1 : 1 ≤ k.val) (hg : ¬ k.val % 4 = 0) (hg' : ¬ (k.val % 4 = 3 ∧ k.val < 63)) :
    iprop(base c fw fp ∗ aIn c XA k.val ∗ xIn c XX k.val ∗ gKept c XG (sl 2 (k.val / 4)) (bk 16 (k.val / 4)) ∗ oIn c XO k.val ∗ oOld c XA XX XG XO fw fp k.val)
     ⊢ wp frame (wpE (defs₀ (F := F)) 𝒱₀ (c : Thread nD τ) none) Set.univ (tripG w1 w2 w3 c1 c2 c3 c4 c5 c6 c7 c8 c9 k)
        (fun acc => iprop(⌜acc = words (k.val + 1)⌝ ∗ base c fw fp ∗ aOut c XA k.val ∗ xOut c XX k.val ∗ gKept c XG (sl 2 (k.val / 4)) (bk 16 (k.val / 4)) ∗ oFly c XA XX XG XO fw fp (sl 2 k.val) k.val ∗ oGone c XA XX XG XO fw fp k.val)) := by
  have hc6 := cond6_true k
  have hc7 := cond7_true k
  have hc13 := cond13_true k
  have hk1 := chk1 k
  have hk2 := chk2 k
  have hk3 := chk3 k
  have hk4 := chk4 k
  have hk5 := chk5 k
  have hc3 := (cond3_iff k).mpr hi
  have hc4 := (cond4_iff k).mpr hi
  have hc5 : ¬ _ := fun h => hg' ((cond5_iff k).mp h)
  have hc8 : ¬ _ := fun h => hg ((cond8_iff k).mp h)
  have hc17 := (cond17_iff k).mpr h1
  iintro ⟨⟨HWB, HPB, ⟨%W, HW⟩⟩, ⟨Ha, ⟨%fa, HAf⟩, Hac, ⟨%ha, Has⟩⟩, ⟨Hx, ⟨%fx, HXf⟩, Hxc, ⟨%hx, Hxs⟩⟩, ⟨%fg, Hg⟩, ⟨Hd, Hoc, ⟨%ho, Hos⟩⟩, ⟨%f9, HOf⟩⟩
  dsimp only [tripG, words]
  sl_unfold [k0_t1_body]
  sl_exec
  sl_step
  isplitr
  · ipureintro
    exact words_intro ((by decide +kernel : ∀ k : Fin k0_t1_loop.trips, tripMid.sl.v194_r0 k = wIss (k.val + 1)) k)
      ((by decide +kernel : ∀ k : Fin k0_t1_loop.trips, tripMid.sl.v321_r0 k = wCnt (k.val + 1)) k)
      ((by decide +kernel : ∀ k : Fin k0_t1_loop.trips, tripMid.sl.v362_r0 k = wEnd (k.val + 1)) k)
      ((by decide +kernel : ∀ k : Fin k0_t1_loop.trips, tripMid.sl.v194_r0 k = wIss (k.val + 1)) k)
      ((by decide +kernel : ∀ k : Fin k0_t1_loop.trips, tripMid.sl.v321_r0 k = wCnt (k.val + 1)) k)
      ((by decide +kernel : ∀ k : Fin k0_t1_loop.trips, tripMid.sl.v216_r0 k = wGis (k.val + 1)) k)
      ((by decide +kernel : ∀ k : Fin k0_t1_loop.trips, tripMid.sl.v372_r0 k = wGat (k.val + 1)) k)
      ((by decide +kernel : ∀ k : Fin k0_t1_loop.trips, tripMid.sl.v362_r0 k = wEnd (k.val + 1)) k)
      ((by decide +kernel : ∀ k : Fin k0_t1_loop.trips, tripMid.sl.v321_r0 k = wCnt (k.val + 1)) k)
      ((by decide +kernel : ∀ k : Fin k0_t1_loop.trips, tripMid.sl.v353_r0 k = wBeh (k.val + 1)) k)
      ((by decide +kernel : ∀ k : Fin k0_t1_loop.trips, tripMid.sl.v160_r0 k = wRow (k.val + 1)) k)
      ((by decide +kernel : ∀ k : Fin k0_t1_loop.trips, tripMid.sl.v156_r0 k = wTil (k.val + 1)) k)
  isplitl [HWB HPB HW]
  · isplitl [HWB]; · iexact HWB
    isplitl [HPB]; · iexact HPB
    iexists _; iexact HW
  isplitl [HAf_src Hac HAf HAf_dst]
  · isplitl [HAf_src]; · iexact HAf_src
    isplitl [Hac]; · iexists _; iexact Hac
    isplitl [HAf]; · iexact HAf
    iexists _; iexact HAf_dst
  isplitl [HXf_src Hxc HXf HXf_dst]
  · isplitl [HXf_src]; · iexact HXf_src
    isplitl [Hxc]; · iexists _; iexact Hxc
    isplitl [HXf]; · iexact HXf
    iexists _; iexact HXf_dst
  isplitl [Hg]; · iexists _; iexact Hg
  have ea : tripMid.sl.v259_r0 c XA k = (aBlk (bk 64 k.val)).view.read (Elt F) XA := read_landed _ _ _
  have ex : tripMid.sl.v266_r0 c XX k = (xBlk (bk 64 k.val)).view.read (Elt F) XX := read_landed _ _ _
  have eg : tripMid.sl.v270_r0 c XG k = (gBlk (bk 16 (k.val / 4))).view.read (Elt F) XG := read_landed _ _ _
  have e : tripMid.sl.dma7 c XA XX XG fw fp k ho = outB c XA XX XG fw fp k.val :=
    (read_stored (oSlot (sl 2 k.val)) ho _ _).trans (by unfold tripMid.sl.r tripMid.sl.r_1 tripMid.sl.r_2; rw [ea, ex, eg])
  isplitl [Hoc]
  · iapply (oFly_intro c XA XX XG XO fw fp (sl 2 k.val) k.val _ _ e); iexact Hoc
  isplitl [HOf_dst]; · iexact HOf_dst
  isplitl [HOf]; · iexact HOf
  iexists _; iexact HOf_src

end Cert.Proof.Outproj

end
-- ==== Proof.TripWait.lean ====
/-
  One trip of the software pipeline's loop, at a symbolic trip number, in the five shapes a trip has: the first; one that
  begins a batch entry (and waits for its gate row); one in the middle; one that issues the next gate row; and the last
  two, which issue nothing. Each starts from exactly the slots, cells and blocks it touches and says what it leaves there.
-/
module

public import proofs.«01_k».proof.Proof.Pieces

@[expose] public section

set_option maxRecDepth 16384

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (UU nD τ) ℕ
variable (c : Dev nD)
  (XA : Buf (Elt F) (aM.view.loc (c : Thread nD τ))) (XX : Buf (Elt F) (xM.view.loc (c : Thread nD τ)))
  (XG : Buf (Elt F) (gM.view.loc (c : Thread nD τ)))
  (XO : Buf (Elt F) (oM.view.loc (c : Thread nD τ)))
  (fw : Buf (Elt F) (wbM.view.loc (c : Thread nD τ))) (fp : Buf (Elt F) (pbM.view.loc (c : Thread nD τ)))

set_option maxHeartbeats 8000000 in
/-- The first trip of a later batch entry: its gate row is waited for. -/
theorem tripWait (w1 w2 w3 c1 c2 c3 c4 c5 c6 c7 c8 c9 : BitVec 32) (k : Fin k0_t1_loop.trips) (hi : k.val + 2 < 64) (h1 : 1 ≤ k.val) (hg : k.val % 4 = 0) (hg' : ¬ (k.val % 4 = 3 ∧ k.val < 63)) :
    iprop(base c fw fp ∗ aIn c XA k.val ∗ xIn c XX k.val ∗ gFly c XG (sl 2 (k.val / 4)) (bk 16 (k.val / 4)) ∗ oIn c XO k.val ∗ oOld c XA XX XG XO fw fp k.val)
     ⊢ wp frame (wpE (defs₀ (F := F)) 𝒱₀ (c : Thread nD τ) none) Set.univ (tripG w1 w2 w3 c1 c2 c3 c4 c5 c6 c7 c8 c9 k)
        (fun acc => iprop(⌜acc = words (k.val + 1)⌝ ∗ base c fw fp ∗ aOut c XA k.val ∗ xOut c XX k.val ∗ (gHome c XG (bk 16 (k.val / 4)) ∗ gCell c (sl 2 (k.val / 4)) ∗ gKept c XG (sl 2 (k.val / 4)) (bk 16 (k.val / 4))) ∗ oFly c XA XX XG XO fw fp (sl 2 k.val) k.val ∗ oGone c XA XX XG XO fw fp k.val)) := by
  have hc6 := cond6_true k
  have hc7 := cond7_true k
  have hc13 := cond13_true k
  have hk1 := chk1 k
  have hk2 := chk2 k
  have hk3 := chk3 k
  have hk4 := chk4 k
  have hk5 := chk5 k
  have hc3 := (cond3_iff k).mpr hi
  have hc4 := (cond4_iff k).mpr hi
  have hc5 : ¬ _ := fun h => hg' ((cond5_iff k).mp h)
  have hc8 := (cond8_iff k).mpr hg
  have hc17 := (cond17_iff k).mpr h1
  iintro ⟨⟨HWB, HPB, ⟨%W, HW⟩⟩, ⟨Ha, ⟨%fa, HAf⟩, Hac, ⟨%ha, Has⟩⟩, ⟨Hx, ⟨%fx, HXf⟩, Hxc, ⟨%hx, Hxs⟩⟩, ⟨%fg, Hg⟩, ⟨Hd, Hoc, ⟨%ho, Hos⟩⟩, ⟨%f9, HOf⟩⟩
  dsimp only [tripG, words]
  sl_unfold [k0_t1_body]
  sl_exec
  sl_step
  isplitr
  · ipureintro
    exact words_intro ((by decide +kernel : ∀ k : Fin k0_t1_loop.trips, tripWait.sl.v194_r0 k = wIss (k.val + 1)) k)
      ((by decide +kernel : ∀ k : Fin k0_t1_loop.trips, tripWait.sl.v321_r0 k = wCnt (k.val + 1)) k)
      ((by decide +kernel : ∀ k : Fin k0_t1_loop.trips, tripWait.sl.v362_r0 k = wEnd (k.val + 1)) k)
      ((by decide +kernel : ∀ k : Fin k0_t1_loop.trips, tripWait.sl.v194_r0 k = wIss (k.val + 1)) k)
      ((by decide +kernel : ∀ k : Fin k0_t1_loop.trips, tripWait.sl.v321_r0 k = wCnt (k.val + 1)) k)
      ((by decide +kernel : ∀ k : Fin k0_t1_loop.trips, tripWait.sl.v216_r0 k = wGis (k.val + 1)) k)
      ((by decide +kernel : ∀ k : Fin k0_t1_loop.trips, tripWait.sl.v372_r0 k = wGat (k.val + 1)) k)
      ((by decide +kernel : ∀ k : Fin k0_t1_loop.trips, tripWait.sl.v362_r0 k = wEnd (k.val + 1)) k)
      ((by decide +kernel : ∀ k : Fin k0_t1_loop.trips, tripWait.sl.v321_r0 k = wCnt (k.val + 1)) k)
      ((by decide +kernel : ∀ k : Fin k0_t1_loop.trips, tripWait.sl.v353_r0 k = wBeh (k.val + 1)) k)
      ((by decide +kernel : ∀ k : Fin k0_t1_loop.trips, tripWait.sl.v160_r0 k = wRow (k.val + 1)) k)
      ((by decide +kernel : ∀ k : Fin k0_t1_loop.trips, tripWait.sl.v156_r0 k = wTil (k.val + 1)) k)
  isplitl [HWB HPB HW]
  · isplitl [HWB]; · iexact HWB
    isplitl [HPB]; · iexact HPB
    iexists _; iexact HW
  isplitl [HAf_src Hac HAf HAf_dst]
  · isplitl [HAf_src]; · iexact HAf_src
    isplitl [Hac]; · iexists _; iexact Hac
    isplitl [HAf]; · iexact HAf
    iexists _; iexact HAf_dst
  isplitl [HXf_src Hxc HXf HXf_dst]
  · isplitl [HXf_src]; · iexact HXf_src
    isplitl [Hxc]; · iexists _; iexact Hxc
    isplitl [HXf]; · iexact HXf
    iexists _; iexact HXf_dst
  isplitl [Hg_src Hg Hg_dst]
  · isplitl [Hg_src]; · iexact Hg_src
    isplitl [Hg]; · iexact Hg
    iexists _; iexact Hg_dst
  have ea : tripWait.sl.v259_r0 c XA k = (aBlk (bk 64 k.val)).view.read (Elt F) XA := read_landed _ _ _
  have ex : tripWait.sl.v266_r0 c XX k = (xBlk (bk 64 k.val)).view.read (Elt F) XX := read_landed _ _ _
  have eg : tripWait.sl.v270_r0 c XG k = (gBlk (bk 16 (k.val / 4))).view.read (Elt F) XG := read_landed _ _ _
  have e : tripWait.sl.dma7 c XA XX XG fw fp k ho = outB c XA XX XG fw fp k.val :=
    (read_stored (oSlot (sl 2 k.val)) ho _ _).trans (by unfold tripWait.sl.r tripWait.sl.r_1 tripWait.sl.r_2; rw [ea, ex, eg])
  isplitl [Hoc]
  · iapply (oFly_intro c XA XX XG XO fw fp (sl 2 k.val) k.val _ _ e); iexact Hoc
  isplitl [HOf_dst]; · iexact HOf_dst
  isplitl [HOf]; · iexact HOf
  iexists _; iexact HOf_src

end Cert.Proof.Outproj

end
-- ==== Proof.TripIssue.lean ====
/-
  One trip of the software pipeline's loop, at a symbolic trip number, in the five shapes a trip has: the first; one that
  begins a batch entry (and waits for its gate row); one in the middle; one that issues the next gate row; and the last
  two, which issue nothing. Each starts from exactly the slots, cells and blocks it touches and says what it leaves there.
-/
module

public import proofs.«01_k».proof.Proof.Pieces

@[expose] public section

set_option maxRecDepth 16384

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (UU nD τ) ℕ
variable (c : Dev nD)
  (XA : Buf (Elt F) (aM.view.loc (c : Thread nD τ))) (XX : Buf (Elt F) (xM.view.loc (c : Thread nD τ)))
  (XG : Buf (Elt F) (gM.view.loc (c : Thread nD τ)))
  (XO : Buf (Elt F) (oM.view.loc (c : Thread nD τ)))
  (fw : Buf (Elt F) (wbM.view.loc (c : Thread nD τ))) (fp : Buf (Elt F) (pbM.view.loc (c : Thread nD τ)))

set_option maxHeartbeats 8000000 in
/-- The last trip of a batch entry but the last: the next gate row is issued. -/
theorem tripIssue (w1 w2 w3 c1 c2 c3 c4 c5 c6 c7 c8 c9 : BitVec 32) (k : Fin k0_t1_loop.trips) (hi : k.val + 2 < 64) (h1 : 1 ≤ k.val) (hg : ¬ k.val % 4 = 0) (hg3 : k.val % 4 = 3) (hg63 : k.val < 63) :
    iprop(base c fw fp ∗ aIn c XA k.val ∗ xIn c XX k.val ∗ (gKept c XG (sl 2 (k.val / 4)) (bk 16 (k.val / 4)) ∗ (gHome c XG (bk 16 (k.val / 4 + 1)) ∗ gFree c (sl 2 (k.val / 4 + 1)))) ∗ oIn c XO k.val ∗ oOld c XA XX XG XO fw fp k.val)
     ⊢ wp frame (wpE (defs₀ (F := F)) 𝒱₀ (c : Thread nD τ) none) Set.univ (tripG w1 w2 w3 c1 c2 c3 c4 c5 c6 c7 c8 c9 k)
        (fun acc => iprop(⌜acc = words (k.val + 1)⌝ ∗ base c fw fp ∗ aOut c XA k.val ∗ xOut c XX k.val ∗ gKept c XG (sl 2 (k.val / 4)) (bk 16 (k.val / 4)) ∗ gFly c XG (sl 2 (k.val / 4 + 1)) (bk 16 (k.val / 4 + 1)) ∗ oFly c XA XX XG XO fw fp (sl 2 k.val) k.val ∗ oGone c XA XX XG XO fw fp k.val)) := by
  have hc6 := cond6_true k
  have hc7 := cond7_true k
  have hc13 := cond13_true k
  have hk1 := chk1 k
  have hk2 := chk2 k
  have hk3 := chk3 k
  have hk4 := chk4 k
  have hk5 := chk5 k
  have hc3 := (cond3_iff k).mpr hi
  have hc4 := (cond4_iff k).mpr hi
  have hc5 := (cond5_iff k).mpr ⟨hg3, hg63⟩
  have hc8 : ¬ _ := fun h => hg ((cond8_iff k).mp h)
  have hc17 := (cond17_iff k).mpr h1
  iintro ⟨⟨HWB, HPB, ⟨%W, HW⟩⟩, ⟨Ha, ⟨%fa, HAf⟩, Hac, ⟨%ha, Has⟩⟩, ⟨Hx, ⟨%fx, HXf⟩, Hxc, ⟨%hx, Hxs⟩⟩, ⟨⟨%fg, Hg⟩, Hgh, Hgc, ⟨%hgs, Hgs⟩⟩, ⟨Hd, Hoc, ⟨%ho, Hos⟩⟩, ⟨%f9, HOf⟩⟩
  dsimp only [tripG, words]
  sl_unfold [k0_t1_body]
  sl_exec
  sl_step
  isplitr
  · ipureintro
    exact words_intro ((by decide +kernel : ∀ k : Fin k0_t1_loop.trips, tripIssue.sl.v194_r0 k = wIss (k.val + 1)) k)
      ((by decide +kernel : ∀ k : Fin k0_t1_loop.trips, tripIssue.sl.v321_r0 k = wCnt (k.val + 1)) k)
      ((by decide +kernel : ∀ k : Fin k0_t1_loop.trips, tripIssue.sl.v362_r0 k = wEnd (k.val + 1)) k)
      ((by decide +kernel : ∀ k : Fin k0_t1_loop.trips, tripIssue.sl.v194_r0 k = wIss (k.val + 1)) k)
      ((by decide +kernel : ∀ k : Fin k0_t1_loop.trips, tripIssue.sl.v321_r0 k = wCnt (k.val + 1)) k)
      ((by decide +kernel : ∀ k : Fin k0_t1_loop.trips, tripIssue.sl.v216_r0 k = wGis (k.val + 1)) k)
      ((by decide +kernel : ∀ k : Fin k0_t1_loop.trips, tripIssue.sl.v372_r0 k = wGat (k.val + 1)) k)
      ((by decide +kernel : ∀ k : Fin k0_t1_loop.trips, tripIssue.sl.v362_r0 k = wEnd (k.val + 1)) k)
      ((by decide +kernel : ∀ k : Fin k0_t1_loop.trips, tripIssue.sl.v321_r0 k = wCnt (k.val + 1)) k)
      ((by decide +kernel : ∀ k : Fin k0_t1_loop.trips, tripIssue.sl.v353_r0 k = wBeh (k.val + 1)) k)
      ((by decide +kernel : ∀ k : Fin k0_t1_loop.trips, tripIssue.sl.v160_r0 k = wRow (k.val + 1)) k)
      ((by decide +kernel : ∀ k : Fin k0_t1_loop.trips, tripIssue.sl.v156_r0 k = wTil (k.val + 1)) k)
  isplitl [HWB HPB HW]
  · isplitl [HWB]; · iexact HWB
    isplitl [HPB]; · iexact HPB
    iexists _; iexact HW
  isplitl [HAf_src Hac HAf HAf_dst]
  · isplitl [HAf_src]; · iexact HAf_src
    isplitl [Hac]; · iexists _; iexact Hac
    isplitl [HAf]; · iexact HAf
    iexists _; iexact HAf_dst
  isplitl [HXf_src Hxc HXf HXf_dst]
  · isplitl [HXf_src]; · iexact HXf_src
    isplitl [Hxc]; · iexists _; iexact Hxc
    isplitl [HXf]; · iexact HXf
    iexists _; iexact HXf_dst
  isplitl [Hg]; · iexists _; iexact Hg
  isplitl [Hgc]; · iexists _; iexact Hgc
  have ea : tripIssue.sl.v259_r0 c XA k = (aBlk (bk 64 k.val)).view.read (Elt F) XA := read_landed _ _ _
  have ex : tripIssue.sl.v266_r0 c XX k = (xBlk (bk 64 k.val)).view.read (Elt F) XX := read_landed _ _ _
  have eg : tripIssue.sl.v270_r0 c XG k = (gBlk (bk 16 (k.val / 4))).view.read (Elt F) XG := read_landed _ _ _
  have e : tripIssue.sl.dma7 c XA XX XG fw fp k ho = outB c XA XX XG fw fp k.val :=
    (read_stored (oSlot (sl 2 k.val)) ho _ _).trans (by unfold tripIssue.sl.r tripIssue.sl.r_1 tripIssue.sl.r_2; rw [ea, ex, eg])
  isplitl [Hoc]
  · iapply (oFly_intro c XA XX XG XO fw fp (sl 2 k.val) k.val _ _ e); iexact Hoc
  isplitl [HOf_dst]; · iexact HOf_dst
  isplitl [HOf]; · iexact HOf
  iexists _; iexact HOf_src

end Cert.Proof.Outproj

end
-- ==== Proof.TripTail.lean ====
/-
  One trip of the software pipeline's loop, at a symbolic trip number, in the five shapes a trip has: the first; one that
  begins a batch entry (and waits for its gate row); one in the middle; one that issues the next gate row; and the last
  two, which issue nothing. Each starts from exactly the slots, cells and blocks it touches and says what it leaves there.
-/
module

public import proofs.«01_k».proof.Proof.Pieces

@[expose] public section

set_option maxRecDepth 16384

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (UU nD τ) ℕ
variable (c : Dev nD)
  (XA : Buf (Elt F) (aM.view.loc (c : Thread nD τ))) (XX : Buf (Elt F) (xM.view.loc (c : Thread nD τ)))
  (XG : Buf (Elt F) (gM.view.loc (c : Thread nD τ)))
  (XO : Buf (Elt F) (oM.view.loc (c : Thread nD τ)))
  (fw : Buf (Elt F) (wbM.view.loc (c : Thread nD τ))) (fp : Buf (Elt F) (pbM.view.loc (c : Thread nD τ)))

set_option maxHeartbeats 8000000 in
/-- One of the last two trips: nothing left to issue. -/
theorem tripTail (w1 w2 w3 c1 c2 c3 c4 c5 c6 c7 c8 c9 : BitVec 32) (k : Fin k0_t1_loop.trips) (hi : ¬ k.val + 2 < 64) (h1 : 1 ≤ k.val) (hg : ¬ k.val % 4 = 0) (hg' : ¬ (k.val % 4 = 3 ∧ k.val < 63)) :
    iprop(base c fw fp ∗ aFly c XA (sl 3 k.val) (bk 64 k.val) ∗ xFly c XX (sl 3 k.val) (bk 64 k.val) ∗ gKept c XG (sl 2 (k.val / 4)) (bk 16 (k.val / 4)) ∗ oIn c XO k.val ∗ oOld c XA XX XG XO fw fp k.val)
     ⊢ wp frame (wpE (defs₀ (F := F)) 𝒱₀ (c : Thread nD τ) none) Set.univ (tripG w1 w2 w3 c1 c2 c3 c4 c5 c6 c7 c8 c9 k)
        (fun acc => iprop(⌜acc = words (k.val + 1)⌝ ∗ base c fw fp ∗ (aHome c XA (bk 64 k.val) ∗ aFree c (sl 3 k.val)) ∗ (xHome c XX (bk 64 k.val) ∗ xFree c (sl 3 k.val)) ∗ gKept c XG (sl 2 (k.val / 4)) (bk 16 (k.val / 4)) ∗ oFly c XA XX XG XO fw fp (sl 2 k.val) k.val ∗ oGone c XA XX XG XO fw fp k.val)) := by
  have hc6 := cond6_true k
  have hc7 := cond7_true k
  have hc13 := cond13_true k
  have hk1 := chk1 k
  have hk2 := chk2 k
  have hk3 := chk3 k
  have hk4 := chk4 k
  have hk5 := chk5 k
  have hc3 : ¬ _ := fun h => hi ((cond3_iff k).mp h)
  have hc4 : ¬ _ := fun h => hi ((cond4_iff k).mp h)
  have hc5 : ¬ _ := fun h => hg' ((cond5_iff k).mp h)
  have hc8 : ¬ _ := fun h => hg ((cond8_iff k).mp h)
  have hc17 := (cond17_iff k).mpr h1
  iintro ⟨⟨HWB, HPB, ⟨%W, HW⟩⟩, ⟨%fa, HAf⟩, ⟨%fx, HXf⟩, ⟨%fg, Hg⟩, ⟨Hd, Hoc, ⟨%ho, Hos⟩⟩, ⟨%f9, HOf⟩⟩
  dsimp only [tripG, words]
  sl_unfold [k0_t1_body]
  sl_exec
  sl_step
  isplitr
  · ipureintro
    exact words_intro ((by decide +kernel : ∀ k : Fin k0_t1_loop.trips, tripTail.sl.v194_r0 k = wIss (k.val + 1)) k)
      ((by decide +kernel : ∀ k : Fin k0_t1_loop.trips, tripTail.sl.v321_r0 k = wCnt (k.val + 1)) k)
      ((by decide +kernel : ∀ k : Fin k0_t1_loop.trips, tripTail.sl.v362_r0 k = wEnd (k.val + 1)) k)
      ((by decide +kernel : ∀ k : Fin k0_t1_loop.trips, tripTail.sl.v194_r0 k = wIss (k.val + 1)) k)
      ((by decide +kernel : ∀ k : Fin k0_t1_loop.trips, tripTail.sl.v321_r0 k = wCnt (k.val + 1)) k)
      ((by decide +kernel : ∀ k : Fin k0_t1_loop.trips, tripTail.sl.v216_r0 k = wGis (k.val + 1)) k)
      ((by decide +kernel : ∀ k : Fin k0_t1_loop.trips, tripTail.sl.v372_r0 k = wGat (k.val + 1)) k)
      ((by decide +kernel : ∀ k : Fin k0_t1_loop.trips, tripTail.sl.v362_r0 k = wEnd (k.val + 1)) k)
      ((by decide +kernel : ∀ k : Fin k0_t1_loop.trips, tripTail.sl.v321_r0 k = wCnt (k.val + 1)) k)
      ((by decide +kernel : ∀ k : Fin k0_t1_loop.trips, tripTail.sl.v353_r0 k = wBeh (k.val + 1)) k)
      ((by decide +kernel : ∀ k : Fin k0_t1_loop.trips, tripTail.sl.v160_r0 k = wRow (k.val + 1)) k)
      ((by decide +kernel : ∀ k : Fin k0_t1_loop.trips, tripTail.sl.v156_r0 k = wTil (k.val + 1)) k)
  isplitl [HWB HPB HW]
  · isplitl [HWB]; · iexact HWB
    isplitl [HPB]; · iexact HPB
    iexists _; iexact HW
  isplitl [HAf_src HAf HAf_dst]
  · isplitl [HAf_src]; · iexact HAf_src
    isplitl [HAf]; · iexact HAf
    iexists _; iexact HAf_dst
  isplitl [HXf_src HXf HXf_dst]
  · isplitl [HXf_src]; · iexact HXf_src
    isplitl [HXf]; · iexact HXf
    iexists _; iexact HXf_dst
  isplitl [Hg]; · iexists _; iexact Hg
  have ea : tripTail.sl.v259_r0 c XA k = (aBlk (bk 64 k.val)).view.read (Elt F) XA := read_landed _ _ _
  have ex : tripTail.sl.v266_r0 c XX k = (xBlk (bk 64 k.val)).view.read (Elt F) XX := read_landed _ _ _
  have eg : tripTail.sl.v270_r0 c XG k = (gBlk (bk 16 (k.val / 4))).view.read (Elt F) XG := read_landed _ _ _
  have e : tripTail.sl.dma7 c XA XX XG fw fp k ho = outB c XA XX XG fw fp k.val :=
    (read_stored (oSlot (sl 2 k.val)) ho _ _).trans (by unfold tripTail.sl.r tripTail.sl.r_1 tripTail.sl.r_2; rw [ea, ex, eg])
  isplitl [Hoc]
  · iapply (oFly_intro c XA XX XG XO fw fp (sl 2 k.val) k.val _ _ e); iexact Hoc
  isplitl [HOf_dst]; · iexact HOf_dst
  isplitl [HOf]; · iexact HOf
  iexists _; iexact HOf_src

end Cert.Proof.Outproj

end
-- ==== Proof.Loop.lean ====
/-
  The loop's invariant, by the rings; and the whole body of the pipelined kernel: the two whole operands copied in, the
  first blocks issued, the loop by its invariant, the last block's copy out waited for.
-/
module

public import proofs.«01_k».proof.Proof.Rings
public import proofs.«01_k».proof.Proof.TripFirst
public import proofs.«01_k».proof.Proof.TripMid
public import proofs.«01_k».proof.Proof.TripWait
public import proofs.«01_k».proof.Proof.TripIssue
public import proofs.«01_k».proof.Proof.TripTail

@[expose] public section

set_option maxRecDepth 16384

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (UU nD τ) ℕ
variable (c : Dev nD)
  (XA : Buf (Elt F) (aM.view.loc (c : Thread nD τ))) (XX : Buf (Elt F) (xM.view.loc (c : Thread nD τ)))
  (XG : Buf (Elt F) (gM.view.loc (c : Thread nD τ)))
  (XO : Buf (Elt F) (oM.view.loc (c : Thread nD τ)))
  (fw : Buf (Elt F) (wbM.view.loc (c : Thread nD τ))) (fp : Buf (Elt F) (pbM.view.loc (c : Thread nD τ)))

/-- Before trip `k`: the words, what no trip changes, the four rings. -/
def invAt (k : ℕ) (acc : BitVec 32 × BitVec 32 × BitVec 32 × BitVec 32 × BitVec 32 × BitVec 32 × BitVec 32 × BitVec 32 × BitVec 32 × BitVec 32 × BitVec 32 × BitVec 32) : sProp 𝕄 :=
  iprop(⌜acc = words k⌝ ∗ base c fw fp
    ∗ ring3 (aHome c XA) (aFly c XA) (aFree c) k
    ∗ ring3 (xHome c XX) (xFly c XX) (xFree c) k
    ∗ ringG (gHome c XG) (gFly c XG) (gKept c XG) (gCell c) (gFree c) k
    ∗ ringO (oHome c XO) (fun b n => oDone c XO b (outB c XA XX XG fw fp n)) (oFly c XA XX XG XO fw fp) (oFree c) k)

/-- A gate slot holding a row is a free slot. -/
theorem gFree_of_kept (s : Fin 2) (q : Fin 16) : iprop(gCell (F := F) c s ∗ gKept c XG s q) ⊢ gFree c s := by
  iintro ⟨Hc, ⟨%f, Hk⟩⟩
  isplitl [Hc]; · iexact Hc
  iexists _; iexact Hk

/-- The first trip keeps the invariant. -/
theorem stepFirst (w1 w2 w3 c1 c2 c3 c4 c5 c6 c7 c8 c9 : BitVec 32) (k : Fin k0_t1_loop.trips) (h0 : k.val = 0) :
    invAt c XA XX XG XO fw fp k.val (words k.val)
      ⊢ wp frame (wpE (defs₀ (F := F)) 𝒱₀ (c : Thread nD τ) none) Set.univ (tripG w1 w2 w3 c1 c2 c3 c4 c5 c6 c7 c8 c9 k) (invAt c XA XX XG XO fw fp (k.val + 1)) := by
  have hk := trip_lt k
  have hi : k.val + 2 < 64 := by omega
  obtain ⟨n, hn⟩ := k
  obtain rfl : n = 0 := h0
  unfold invAt
  iintro ⟨-, HB, HA, HX, HG, HO⟩
  ihave HA' := (ring3_issue (aHome c XA) (aFly c XA) (aFree c) 0 hi) $$ HA
  icases HA' with ⟨HA, HAk⟩
  ihave HX' := (ring3_issue (xHome c XX) (xFly c XX) (xFree c) 0 hi) $$ HX
  icases HX' with ⟨HX, HXk⟩
  ihave HG' := (ringG_wait (gHome c XG) (gFly c XG) (gKept c XG) (gCell c) (gFree c) 0 hk (by omega)) $$ HG
  icases HG' with ⟨HG, HGk⟩
  ihave HO' := (ringO_first (oHome c XO) (fun b n => oDone c XO b (outB c XA XX XG fw fp n)) (oFly c XA XX XG XO fw fp) (oFree c) ) $$ HO
  icases HO' with ⟨HO, HOk⟩
  iapply (wp_wand_r Idealize.ShloMosaic.frame (wpE (defs₀ (F := F)) 𝒱₀ (c : Thread nD τ) none) Set.univ)
  isplitl [HB HA HX HG HO]
  · iapply (tripFirst c XA XX XG XO fw fp w1 w2 w3 c1 c2 c3 c4 c5 c6 c7 c8 c9 ⟨0, hn⟩ (show 0 + 2 < 64 by omega) (show ¬ 1 ≤ 0 by omega) (show 0 % 4 = 0 from rfl) (show ¬ (0 % 4 = 3 ∧ 0 < 63) by omega))
    isplitl [HB]; · iexact HB
    isplitl [HA]; · iexact HA
    isplitl [HX]; · iexact HX
    isplitl [HG]; · iexact HG
    iexact HO
  · iintro %acc ⟨%e, HB, HA, HX, HG, HO⟩
    isplitr; · ipureintro; exact e
    isplitl [HB]; · iexact HB
    isplitl [HAk HA]; · iapply HAk; iexact HA
    isplitl [HXk HX]; · iapply HXk; iexact HX
    isplitl [HGk HG]; · iapply HGk; iexact HG
    iapply HOk; iexact HO

/-- So does the first trip of a later batch entry. -/
theorem stepWait (w1 w2 w3 c1 c2 c3 c4 c5 c6 c7 c8 c9 : BitVec 32) (k : Fin k0_t1_loop.trips) (h1 : 1 ≤ k.val) (hg : k.val % 4 = 0) :
    invAt c XA XX XG XO fw fp k.val (words k.val)
      ⊢ wp frame (wpE (defs₀ (F := F)) 𝒱₀ (c : Thread nD τ) none) Set.univ (tripG w1 w2 w3 c1 c2 c3 c4 c5 c6 c7 c8 c9 k) (invAt c XA XX XG XO fw fp (k.val + 1)) := by
  have hk := trip_lt k
  have hi : k.val + 2 < 64 := by omega
  unfold invAt
  iintro ⟨-, HB, HA, HX, HG, HO⟩
  ihave HA' := (ring3_issue (aHome c XA) (aFly c XA) (aFree c) k.val hi) $$ HA
  icases HA' with ⟨HA, HAk⟩
  ihave HX' := (ring3_issue (xHome c XX) (xFly c XX) (xFree c) k.val hi) $$ HX
  icases HX' with ⟨HX, HXk⟩
  ihave HG' := (ringG_wait (gHome c XG) (gFly c XG) (gKept c XG) (gCell c) (gFree c) k.val hk hg) $$ HG
  icases HG' with ⟨HG, HGk⟩
  ihave HO' := (ringO_step (oHome c XO) (fun b n => oDone c XO b (outB c XA XX XG fw fp n)) (oFly c XA XX XG XO fw fp) (oFree c) k.val h1 hk) $$ HO
  icases HO' with ⟨HO, HOk⟩
  iapply (wp_wand_r Idealize.ShloMosaic.frame (wpE (defs₀ (F := F)) 𝒱₀ (c : Thread nD τ) none) Set.univ)
  isplitl [HB HA HX HG HO]
  · iapply (tripWait c XA XX XG XO fw fp w1 w2 w3 c1 c2 c3 c4 c5 c6 c7 c8 c9 k hi h1 hg (by omega))
    isplitl [HB]; · iexact HB
    isplitl [HA]; · iexact HA
    isplitl [HX]; · iexact HX
    isplitl [HG]; · iexact HG
    icases HO with ⟨HO1, HO2⟩
    isplitl [HO1]; · iexact HO1
    iexact HO2
  · iintro %acc ⟨%e, HB, HA, HX, HG, HO1, HO2⟩
    isplitr; · ipureintro; exact e
    isplitl [HB]; · iexact HB
    isplitl [HAk HA]; · iapply HAk; iexact HA
    isplitl [HXk HX]; · iapply HXk; iexact HX
    isplitl [HGk HG]; · iapply HGk; iexact HG
    iapply HOk
    isplitl [HO1]; · iexact HO1
    iexact HO2

/-- So does a trip in the middle of one. -/
theorem stepMid (w1 w2 w3 c1 c2 c3 c4 c5 c6 c7 c8 c9 : BitVec 32) (k : Fin k0_t1_loop.trips) (hi : k.val + 2 < 64) (hg : ¬ k.val % 4 = 0) (hg' : ¬ k.val % 4 = 3) :
    invAt c XA XX XG XO fw fp k.val (words k.val)
      ⊢ wp frame (wpE (defs₀ (F := F)) 𝒱₀ (c : Thread nD τ) none) Set.univ (tripG w1 w2 w3 c1 c2 c3 c4 c5 c6 c7 c8 c9 k) (invAt c XA XX XG XO fw fp (k.val + 1)) := by
  have hk := trip_lt k
  have h1 : 1 ≤ k.val := by omega
  unfold invAt
  iintro ⟨-, HB, HA, HX, HG, HO⟩
  ihave HA' := (ring3_issue (aHome c XA) (aFly c XA) (aFree c) k.val hi) $$ HA
  icases HA' with ⟨HA, HAk⟩
  ihave HX' := (ring3_issue (xHome c XX) (xFly c XX) (xFree c) k.val hi) $$ HX
  icases HX' with ⟨HX, HXk⟩
  ihave HG' := (ringG_mid (gHome c XG) (gFly c XG) (gKept c XG) (gCell c) (gFree c) k.val hk hg hg') $$ HG
  icases HG' with ⟨HG, HGk⟩
  ihave HO' := (ringO_step (oHome c XO) (fun b n => oDone c XO b (outB c XA XX XG fw fp n)) (oFly c XA XX XG XO fw fp) (oFree c) k.val h1 hk) $$ HO
  icases HO' with ⟨HO, HOk⟩
  iapply (wp_wand_r Idealize.ShloMosaic.frame (wpE (defs₀ (F := F)) 𝒱₀ (c : Thread nD τ) none) Set.univ)
  isplitl [HB HA HX HG HO]
  · iapply (tripMid c XA XX XG XO fw fp w1 w2 w3 c1 c2 c3 c4 c5 c6 c7 c8 c9 k hi h1 hg (by omega))
    isplitl [HB]; · iexact HB
    isplitl [HA]; · iexact HA
    isplitl [HX]; · iexact HX
    isplitl [HG]; · iexact HG
    icases HO with ⟨HO1, HO2⟩
    isplitl [HO1]; · iexact HO1
    iexact HO2
  · iintro %acc ⟨%e, HB, HA, HX, HG, HO1, HO2⟩
    isplitr; · ipureintro; exact e
    isplitl [HB]; · iexact HB
    isplitl [HAk HA]; · iapply HAk; iexact HA
    isplitl [HXk HX]; · iapply HXk; iexact HX
    isplitl [HGk HG]; · iapply HGk; iexact HG
    iapply HOk
    isplitl [HO1]; · iexact HO1
    iexact HO2

/-- So does the last trip of one. -/
theorem stepIssue (w1 w2 w3 c1 c2 c3 c4 c5 c6 c7 c8 c9 : BitVec 32) (k : Fin k0_t1_loop.trips) (hg3 : k.val % 4 = 3) (hg63 : k.val < 63) :
    invAt c XA XX XG XO fw fp k.val (words k.val)
      ⊢ wp frame (wpE (defs₀ (F := F)) 𝒱₀ (c : Thread nD τ) none) Set.univ (tripG w1 w2 w3 c1 c2 c3 c4 c5 c6 c7 c8 c9 k) (invAt c XA XX XG XO fw fp (k.val + 1)) := by
  have hk := trip_lt k
  have hi : k.val + 2 < 64 := by omega
  have h1 : 1 ≤ k.val := by omega
  unfold invAt
  iintro ⟨-, HB, HA, HX, HG, HO⟩
  ihave HA' := (ring3_issue (aHome c XA) (aFly c XA) (aFree c) k.val hi) $$ HA
  icases HA' with ⟨HA, HAk⟩
  ihave HX' := (ring3_issue (xHome c XX) (xFly c XX) (xFree c) k.val hi) $$ HX
  icases HX' with ⟨HX, HXk⟩
  ihave HG' := (ringG_issue (gHome c XG) (gFly c XG) (gKept c XG) (gCell c) (gFree c) (gFree_of_kept c XG) k.val hg63 hg3) $$ HG
  icases HG' with ⟨HG, HGk⟩
  ihave HO' := (ringO_step (oHome c XO) (fun b n => oDone c XO b (outB c XA XX XG fw fp n)) (oFly c XA XX XG XO fw fp) (oFree c) k.val h1 hk) $$ HO
  icases HO' with ⟨HO, HOk⟩
  iapply (wp_wand_r Idealize.ShloMosaic.frame (wpE (defs₀ (F := F)) 𝒱₀ (c : Thread nD τ) none) Set.univ)
  isplitl [HB HA HX HG HO]
  · iapply (tripIssue c XA XX XG XO fw fp w1 w2 w3 c1 c2 c3 c4 c5 c6 c7 c8 c9 k hi h1 (by omega) hg3 hg63)
    isplitl [HB]; · iexact HB
    isplitl [HA]; · iexact HA
    isplitl [HX]; · iexact HX
    isplitl [HG]; · iexact HG
    icases HO with ⟨HO1, HO2⟩
    isplitl [HO1]; · iexact HO1
    iexact HO2
  · iintro %acc ⟨%e, HB, HA, HX, HG1, HG2, HO1, HO2⟩
    isplitr; · ipureintro; exact e
    isplitl [HB]; · iexact HB
    isplitl [HAk HA]; · iapply HAk; iexact HA
    isplitl [HXk HX]; · iapply HXk; iexact HX
    isplitl [HGk HG1 HG2]
    · iapply HGk
      isplitl [HG1]; · iexact HG1
      iexact HG2
    iapply HOk
    isplitl [HO1]; · iexact HO1
    iexact HO2

/-- So does the last but one. -/
theorem stepTail (w1 w2 w3 c1 c2 c3 c4 c5 c6 c7 c8 c9 : BitVec 32) (k : Fin k0_t1_loop.trips) (h62 : k.val = 62) :
    invAt c XA XX XG XO fw fp k.val (words k.val)
      ⊢ wp frame (wpE (defs₀ (F := F)) 𝒱₀ (c : Thread nD τ) none) Set.univ (tripG w1 w2 w3 c1 c2 c3 c4 c5 c6 c7 c8 c9 k) (invAt c XA XX XG XO fw fp (k.val + 1)) := by
  have hk := trip_lt k
  have hi : ¬ k.val + 2 < 64 := by omega
  have h1 : 1 ≤ k.val := by omega
  unfold invAt
  iintro ⟨-, HB, HA, HX, HG, HO⟩
  ihave HA' := (ring3_tail (aHome c XA) (aFly c XA) (aFree c) k.val hi hk) $$ HA
  icases HA' with ⟨HA, HAk⟩
  ihave HX' := (ring3_tail (xHome c XX) (xFly c XX) (xFree c) k.val hi hk) $$ HX
  icases HX' with ⟨HX, HXk⟩
  ihave HG' := (ringG_mid (gHome c XG) (gFly c XG) (gKept c XG) (gCell c) (gFree c) k.val hk (by omega) (by omega)) $$ HG
  icases HG' with ⟨HG, HGk⟩
  ihave HO' := (ringO_step (oHome c XO) (fun b n => oDone c XO b (outB c XA XX XG fw fp n)) (oFly c XA XX XG XO fw fp) (oFree c) k.val h1 hk) $$ HO
  icases HO' with ⟨HO, HOk⟩
  iapply (wp_wand_r Idealize.ShloMosaic.frame (wpE (defs₀ (F := F)) 𝒱₀ (c : Thread nD τ) none) Set.univ)
  isplitl [HB HA HX HG HO]
  · iapply (tripTail c XA XX XG XO fw fp w1 w2 w3 c1 c2 c3 c4 c5 c6 c7 c8 c9 k hi h1 (by omega) (by omega))
    isplitl [HB]; · iexact HB
    isplitl [HA]; · iexact HA
    isplitl [HX]; · iexact HX
    isplitl [HG]; · iexact HG
    icases HO with ⟨HO1, HO2⟩
    isplitl [HO1]; · iexact HO1
    iexact HO2
  · iintro %acc ⟨%e, HB, HA, HX, HG, HO1, HO2⟩
    isplitr; · ipureintro; exact e
    isplitl [HB]; · iexact HB
    isplitl [HAk HA]; · iapply HAk; iexact HA
    isplitl [HXk HX]; · iapply HXk; iexact HX
    isplitl [HGk HG]; · iapply HGk; iexact HG
    iapply HOk
    isplitl [HO1]; · iexact HO1
    iexact HO2

/-- So does the last. -/
theorem stepLast (w1 w2 w3 c1 c2 c3 c4 c5 c6 c7 c8 c9 : BitVec 32) (k : Fin k0_t1_loop.trips) (h63 : k.val = 63) :
    invAt c XA XX XG XO fw fp k.val (words k.val)
      ⊢ wp frame (wpE (defs₀ (F := F)) 𝒱₀ (c : Thread nD τ) none) Set.univ (tripG w1 w2 w3 c1 c2 c3 c4 c5 c6 c7 c8 c9 k) (invAt c XA XX XG XO fw fp (k.val + 1)) := by
  have hk := trip_lt k
  have hi : ¬ k.val + 2 < 64 := by omega
  have h1 : 1 ≤ k.val := by omega
  obtain ⟨n, hn⟩ := k
  obtain rfl : n = 63 := h63
  unfold invAt
  iintro ⟨-, HB, HA, HX, HG, HO⟩
  ihave HA' := (ring3_tail (aHome c XA) (aFly c XA) (aFree c) 63 hi hk) $$ HA
  icases HA' with ⟨HA, HAk⟩
  ihave HX' := (ring3_tail (xHome c XX) (xFly c XX) (xFree c) 63 hi hk) $$ HX
  icases HX' with ⟨HX, HXk⟩
  ihave HG' := (ringG_last (gHome c XG) (gFly c XG) (gKept c XG) (gCell c) (gFree c) (gFree_of_kept c XG)) $$ HG
  icases HG' with ⟨HG, HGk⟩
  ihave HO' := (ringO_step (oHome c XO) (fun b n => oDone c XO b (outB c XA XX XG fw fp n)) (oFly c XA XX XG XO fw fp) (oFree c) 63 h1 hk) $$ HO
  icases HO' with ⟨HO, HOk⟩
  iapply (wp_wand_r Idealize.ShloMosaic.frame (wpE (defs₀ (F := F)) 𝒱₀ (c : Thread nD τ) none) Set.univ)
  isplitl [HB HA HX HG HO]
  · iapply (tripTail c XA XX XG XO fw fp w1 w2 w3 c1 c2 c3 c4 c5 c6 c7 c8 c9 ⟨63, hn⟩ hi h1 (show ¬ 63 % 4 = 0 by omega) (show ¬ (63 % 4 = 3 ∧ 63 < 63) by omega))
    isplitl [HB]; · iexact HB
    isplitl [HA]; · iexact HA
    isplitl [HX]; · iexact HX
    isplitl [HG]; · iexact HG
    icases HO with ⟨HO1, HO2⟩
    isplitl [HO1]; · iexact HO1
    iexact HO2
  · iintro %acc ⟨%e, HB, HA, HX, HG, HO1, HO2⟩
    isplitr; · ipureintro; exact e
    isplitl [HB]; · iexact HB
    isplitl [HAk HA]; · iapply HAk; iexact HA
    isplitl [HXk HX]; · iapply HXk; iexact HX
    isplitl [HGk HG]; · iapply HGk; iexact HG
    iapply HOk
    isplitl [HO1]; · iexact HO1
    iexact HO2

set_option warn.classDefReducibility false in
/-- THE LOOP'S INVARIANT, as the loop's rule takes it. -/
def loopInv (w1 w2 w3 c1 c2 c3 c4 c5 c6 c7 c8 c9 : BitVec 32) (init : BitVec 32 × BitVec 32 × BitVec 32 × BitVec 32 × BitVec 32 × BitVec 32 × BitVec 32 × BitVec 32 × BitVec 32 × BitVec 32 × BitVec 32 × BitVec 32) :
    LoopInvTy_k0_t1 (F := F) Unit ℕ (UU nD τ) ℕ 𝒱₀ c none Set.univ aM (Memref.isWhole_whole _) wM (Memref.isWhole_whole _) xM (Memref.isWhole_whole _) gM (Memref.isWhole_whole _)
      pM (Memref.isWhole_whole _) oM (Memref.isWhole_whole _) abM (Memref.isWhole_whole _) cc0_scoped1 wbM (Memref.isWhole_whole _)
      xbM (Memref.isWhole_whole _) cc0_scoped4 gbM (Memref.isWhole_whole _) cc0_scoped6 pbM (Memref.isWhole_whole _)
      obM (Memref.isWhole_whole _) cc0_scoped9 cc0_scoped10 cc0_scoped11 w1 w2 w3 c1 c2 c3 c4 c5 c6 c7 c8 c9 0#32 init where
  inv k acc := invAt c XA XX XG XO fw fp k acc
  step k acc := by
    have hk := trip_lt k
    have key : invAt c XA XX XG XO fw fp k.val (words k.val)
        ⊢ wp frame (wpE (defs₀ (F := F)) 𝒱₀ (c : Thread nD τ) none) Set.univ (tripG w1 w2 w3 c1 c2 c3 c4 c5 c6 c7 c8 c9 k) (invAt c XA XX XG XO fw fp (k.val + 1)) := by
      by_cases h0 : k.val = 0
      · exact stepFirst c XA XX XG XO fw fp w1 w2 w3 c1 c2 c3 c4 c5 c6 c7 c8 c9 k h0
      by_cases h4 : k.val % 4 = 0
      · exact stepWait c XA XX XG XO fw fp w1 w2 w3 c1 c2 c3 c4 c5 c6 c7 c8 c9 k (by omega) h4
      by_cases h63 : k.val = 63
      · exact stepLast c XA XX XG XO fw fp w1 w2 w3 c1 c2 c3 c4 c5 c6 c7 c8 c9 k h63
      by_cases h62 : k.val = 62
      · exact stepTail c XA XX XG XO fw fp w1 w2 w3 c1 c2 c3 c4 c5 c6 c7 c8 c9 k h62
      by_cases h3 : k.val % 4 = 3
      · exact stepIssue c XA XX XG XO fw fp w1 w2 w3 c1 c2 c3 c4 c5 c6 c7 c8 c9 k h3 (by omega)
      · exact stepMid c XA XX XG XO fw fp w1 w2 w3 c1 c2 c3 c4 c5 c6 c7 c8 c9 k (by omega) h4 h3
    by_cases e : acc = words k.val
    · subst e; exact key
    · unfold invAt; iintro ⟨%e', -⟩; exact absurd e' e

end Cert.Proof.Outproj

end
-- ==== Proof.Body.lean ====
/-
  The whole body of the pipelined kernel: the two whole operands copied in, the first blocks issued, the loop by its
  invariant, the last block's copy out waited for.
-/
module

public import proofs.«01_k».proof.Proof.Loop

@[expose] public section

set_option maxRecDepth 16384

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (UU nD τ) ℕ
variable (c : Dev nD)
  (XA : Buf (Elt F) (aM.view.loc (c : Thread nD τ))) (XX : Buf (Elt F) (xM.view.loc (c : Thread nD τ)))
  (XG : Buf (Elt F) (gM.view.loc (c : Thread nD τ)))
  (XO : Buf (Elt F) (oM.view.loc (c : Thread nD τ)))
  (fw : Buf (Elt F) (wbM.view.loc (c : Thread nD τ))) (fp : Buf (Elt F) (pbM.view.loc (c : Thread nD τ)))

/-- The pipelined kernel's body, on the operands, the buffers and the counters the launch gives it. -/
abbrev bodyG : Prog (TpuEff nD τ sig (Elt F) Λ₀ .tc) PUnit :=
  cc0_mixer_outproj aM (Memref.isWhole_whole _) wM (Memref.isWhole_whole _) xM (Memref.isWhole_whole _) gM (Memref.isWhole_whole _)
    pM (Memref.isWhole_whole _) oM (Memref.isWhole_whole _) abM (Memref.isWhole_whole _) cc0_scoped1 wbM (Memref.isWhole_whole _)
    xbM (Memref.isWhole_whole _) cc0_scoped4 gbM (Memref.isWhole_whole _) cc0_scoped6 pbM (Memref.isWhole_whole _)
    obM (Memref.isWhole_whole _) cc0_scoped9 cc0_scoped10 cc0_scoped11

variable (XW : Buf (Elt F) (wM.view.loc (c : Thread nD τ))) (XP : Buf (Elt F) (pM.view.loc (c : Thread nD τ)))

abbrev wSem : DmaSems sig S_ := cc0_scoped10
abbrev pSem : DmaSems sig S_ := cc0_scoped11
abbrev wCell : sProp 𝕄 := semVal ((c : Thread nD τ), SemLoc.dma wSem.sem) 0
abbrev pCell : sProp 𝕄 := semVal ((c : Thread nD τ), SemLoc.dma pSem.sem) 0

/-- Step `k`'s block by the operands alone. -/
abbrev outW (k : ℕ) : FVec F S1x1024x1024 .f32 :=
  k0_pay4 (k0_pay1 ((aBlk (bk 64 k)).view.read (Elt F) XA) (wM.view.read (Elt F) XW))
    (k0_pay2 ((xBlk (bk 64 k)).view.read (Elt F) XX)) (k0_pay3 ((gBlk (bk 16 (k / 4))).view.read (Elt F) XG))
    (pM.view.read (Elt F) XP)

/-- What the body takes: the operands by their blocks, the result's blocks, every slot and buffer, every counter. -/
def PRE : sProp 𝕄 :=
  iprop((held c wM XW ∗ held c pM XP ∗ (∃ f, held c wbM f) ∗ (∃ f, held c pbM f) ∗ wCell c ∗ pCell c ∗ ∃ W, owes (c : Thread nD τ) 0 W)
    ∗ (bigSep Finset.univ (aHome c XA) ∗ aFree c 0 ∗ aFree c 1 ∗ aFree c 2)
    ∗ (bigSep Finset.univ (xHome c XX) ∗ xFree c 0 ∗ xFree c 1 ∗ xFree c 2)
    ∗ (bigSep Finset.univ (gHome c XG) ∗ gFree c 0 ∗ gFree c 1)
    ∗ (bigSep Finset.univ (oHome c XO) ∗ oFree c 0 ∗ oFree c 1))
/-- What it leaves: the same, the result's blocks at the steps' values. -/
def POST : sProp 𝕄 :=
  iprop((held c wM XW ∗ held c pM XP ∗ (∃ f, held c wbM f) ∗ (∃ f, held c pbM f) ∗ wCell c ∗ pCell c ∗ ∃ W, owes (c : Thread nD τ) 0 W)
    ∗ (bigSep Finset.univ (aHome c XA) ∗ aFree c 0 ∗ aFree c 1 ∗ aFree c 2)
    ∗ (bigSep Finset.univ (xHome c XX) ∗ xFree c 0 ∗ xFree c 1 ∗ xFree c 2)
    ∗ (bigSep Finset.univ (gHome c XG) ∗ gFree c 0 ∗ gFree c 1)
    ∗ (bigSep Finset.univ (fun b => oDone c XO b (outW c XA XX XG XW XP b.val)) ∗ oFree c 0 ∗ oFree c 1))

/-- Before the loop, two blocks of an operand apart from the rest. -/
theorem homes_two {M : Type _} [URA M] (home : Fin 64 → sProp M) :
    bigSep Finset.univ home = iprop(home 0 ∗ home 1 ∗ bigSep (Ring.homeSet 2 0) home) := by
  have e : (Finset.univ : Finset (Fin 64)) = insert 0 (insert 1 (Ring.homeSet (NB := 64) 2 0)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; rfl

/-- The ring of three before the first trip. -/
theorem ring3_zero {M : Type _} [URA M] (home : Fin 64 → sProp M) (fly : Fin 3 → Fin 64 → sProp M) (free : Fin 3 → sProp M) :
    ring3 home fly free 0 = iprop(bigSep (Ring.homeSet 2 0) home ∗ fly 0 0 ∗ fly 1 1 ∗ free 2) := by
  unfold ring3
  rw [role3_lt fly free (by decide), role3_lt fly free (by decide), show sl 3 0 = 0 from by decide, show sl 3 (0 + 1) = 1 from by decide,
    show sl 3 (0 + 2) = 2 from by decide, show bk 64 0 = 0 from by decide, show bk 64 (0 + 1) = 1 from by decide]
/-- The gate's ring before the first trip. -/
theorem ringG_zero {M : Type _} [URA M] (home : Fin 16 → sProp M) (fly kept : Fin 2 → Fin 16 → sProp M) (cell free : Fin 2 → sProp M) :
    ringG home fly kept cell free 0 = iprop(bigSep (Finset.univ.erase 0) home ∗ fly 0 0 ∗ free 1) := by
  rw [ringG_start home fly kept cell free (by decide) (by decide)]
  rw [show bk 16 (0 / 4) = 0 from by decide, show sl 2 (0 / 4) = 0 from by decide, show sl 2 (0 / 4 + 1) = 1 from by decide]
/-- The result's ring before the first trip. -/
theorem ringO_zero {M : Type _} [URA M] (home : Fin 64 → sProp M) (done : Fin 64 → ℕ → sProp M) (fly : Fin 2 → ℕ → sProp M) (free : Fin 2 → sProp M) :
    ringO home done fly free 0 = iprop(bigSep Finset.univ home ∗ emp ∗ free 0 ∗ free 1) := by
  unfold ringO roleO
  rw [if_neg (by decide), show sl 2 0 = 0 from by decide, show sl 2 (0 + 1) = 1 from by decide,
    show (Ring.aheadSet 0 : Finset (Fin 64)) = Finset.univ from by decide, show (Ring.behindSet 1 0 : Finset (Fin 64)) = ∅ from by decide, bigSep_empty]
  rfl

omit [FloatOps F] in
/-- A whole read of a buffer just landed whole reads what landed. -/
theorem readAt_writes {sp : Space} {s : Shape} {e : EltTy} (M : Memref sig .tc sp s e) (w : s.Idx → Elt F e) (f : M.view.ty.Contents (Elt F)) {off : Fin s.rank → ℕ}
    (inb : ∀ a, off a + s.size a ≤ s.size a) :
    M.view.readAt (Elt F) (Rect.unit off s.size inb).toLoadRect (M.view.writes (Elt F) f [⟨Rect.whole s, w⟩]) = w :=
  View.readAt_writes_full M.view f inb (fun _ => by simp) w []

set_option maxHeartbeats 8000000 in
set_option backward.isDefEq.respectTransparency.types false in
/-- THE WHOLE BODY: from the operands and every slot free, it ends with the operands as they were, every slot free, and
    each block of the result at its step's value. -/
theorem bodyRun (Q : PUnit → sProp 𝕄) :
    iprop(PRE c XA XX XG XO XW XP ∗ (POST c XA XX XG XO XW XP -∗ Q ⟨⟩))
      ⊢ wp frame (wpE (defs₀ (F := F)) 𝒱₀ (c : Thread nD τ) none) Set.univ bodyG Q := by
  unfold PRE POST
  rw [homes_two (aHome c XA), homes_two (xHome c XX), home_row (gHome c XG) 0]
  iintro ⟨⟨⟨HW, HP, ⟨%f0, Hwb⟩, ⟨%f1, Hpb⟩, Hwc, Hpc, ⟨%W, HO⟩⟩, ⟨⟨Ha0, Ha1, HA⟩, ⟨Hac0, ⟨%fa0, Has0⟩⟩, ⟨Hac1, ⟨%fa1, Has1⟩⟩, Haf⟩, ⟨⟨Hx0, Hx1, HX⟩, ⟨Hxc0, ⟨%fx0, Hxs0⟩⟩, ⟨Hxc1, ⟨%fx1, Hxs1⟩⟩, Hxf⟩, ⟨⟨Hg0, HG⟩, ⟨Hgc0, ⟨%fg0, Hgs0⟩⟩, Hgf⟩, HB⟩, Hk⟩
  sl_exec
  have e0 : ((2#32, 0#32, 0#32, 2#32, 0#32, 1#32, 0#32, 0#32, 0#32, 0#32, 0#32, 0#32) : BitVec 32 × BitVec 32 × BitVec 32 × BitVec 32 × BitVec 32 × BitVec 32 × BitVec 32 × BitVec 32 × BitVec 32 × BitVec 32 × BitVec 32 × BitVec 32) = words 0 :=
    words_intro (by decide) (by decide) (by decide) (by decide) (by decide) (by decide) (by decide) (by decide) (by decide) (by decide) (by decide) (by decide)
  have hout : ∀ k, outB c XA XX XG
      (wbM.view.writes (Elt F) wbM.view.junk [⟨Rect.whole S1024x1024, bodyRun.sl.dma0 c XW⟩])
      (pbM.view.writes (Elt F) pbM.view.junk [⟨Rect.whole S1x1024, bodyRun.sl.dma0_1 c XP⟩]) k = outW c XA XX XG XW XP k := fun k => by
    unfold outB outW
    rw [readAt_writes, readAt_writes]
    rfl
  have hen : invAt c XA XX XG XO (wbM.view.writes (Elt F) wbM.view.junk [⟨Rect.whole S1024x1024, bodyRun.sl.dma0 c XW⟩])
      (pbM.view.writes (Elt F) pbM.view.junk [⟨Rect.whole S1x1024, bodyRun.sl.dma0_1 c XP⟩]) 0 (words 0)
      ⊢ (loopInv c XA XX XG XO (wbM.view.writes (Elt F) wbM.view.junk [⟨Rect.whole S1024x1024, bodyRun.sl.dma0 c XW⟩])
      (pbM.view.writes (Elt F) pbM.view.junk [⟨Rect.whole S1x1024, bodyRun.sl.dma0_1 c XP⟩]) 1#32 2#32 2#32 0#32 0#32 0#32 0#32 0#32 0#32 0#32 0#32 0#32
        (2#32, 0#32, 0#32, 2#32, 0#32, 1#32, 0#32, 0#32, 0#32, 0#32, 0#32, 0#32)).inv 0 (2#32, 0#32, 0#32, 2#32, 0#32, 1#32, 0#32, 0#32, 0#32, 0#32, 0#32, 0#32) := by
    rw [e0]; exact .rfl
  ihave HL := (hen.trans (exec_loop Idealize.ShloMosaic.frame (wpE (defs₀ (F := F)) 𝒱₀ (c : Thread nD τ) none) Set.univ _ _ _ _ _ _ _)) $$ [Hwb Hpb HO HA Hac0 Hac1 Haf HX Hxc0 Hxc1 Hxf HG Hgc0 Hgf HB]
  · unfold invAt
    rw [ring3_zero, ring3_zero, ringG_zero, ringO_zero]
    isplitr; · ipureintro; rfl
    isplitl [Hwb Hpb HO]
    · isplitl [Hwb]; · iexact Hwb
      isplitl [Hpb]; · iexact Hpb
      iexists _; iexact HO
    isplitl [HA Hac0 Hac1 Haf]
    · isplitl [HA]; · iexact HA
      isplitl [Hac0]; · iexists fa0; iexact Hac0
      isplitl [Hac1]; · iexists fa1; iexact Hac1
      iexact Haf
    isplitl [HX Hxc0 Hxc1 Hxf]
    · isplitl [HX]; · iexact HX
      isplitl [Hxc0]; · iexists fx0; iexact Hxc0
      isplitl [Hxc1]; · iexists fx1; iexact Hxc1
      iexact Hxf
    isplitl [HG Hgc0 Hgf]
    · isplitl [HG]; · iexact HG
      isplitl [Hgc0]; · iexists fg0; iexact Hgc0
      iexact Hgf
    icases HB with ⟨HB, HB0, HB1⟩
    isplitl [HB]; · iexact HB
    isplitr; · iempintro
    isplitl [HB0]; · iexact HB0
    iexact HB1
  iapply HL
  iintro %acc HI
  ihave HI' := (show (loopInv c XA XX XG XO _ _ 1#32 2#32 2#32 0#32 0#32 0#32 0#32 0#32 0#32 0#32 0#32 0#32 _).inv _ acc ⊢ invAt c XA XX XG XO _ _ k0_t1_loop.trips acc from .rfl) $$ HI
  rw [trips_eq]
  unfold invAt
  icases HI' with ⟨%e, ⟨Hwb, Hpb, ⟨%W', HO⟩⟩, HA, HX, HG, HB⟩
  subst e
  have h7 := chk7
  have h6 := chk6
  ihave HA' := (ring3_end (aHome c XA) (aFly c XA) (aFree c)) $$ HA
  ihave HX' := (ring3_end (xHome c XX) (xFly c XX) (xFree c)) $$ HX
  ihave HG' := (entails_of_eq (ringG_end (gHome c XG) (gFly c XG) (gKept c XG) (gCell c) (gFree c))) $$ HG
  ihave HB' := (ringO_end (oHome c XO) (fun b n => oDone c XO b (outB c XA XX XG _ _ n)) (oFly c XA XX XG XO _ _) (oFree c)) $$ HB
  icases HB' with ⟨⟨%fo, HB1⟩, HB0, HBk⟩
  sl_exec
  sl_step
  iapply Hk
  isplitl [HW HP Hwb Hpb Hwc Hpc HO]
  · isplitl [HW]; · iexact HW
    isplitl [HP]; · iexact HP
    isplitl [Hwb]; · iexists _; iexact Hwb
    isplitl [Hpb]; · iexists _; iexact Hpb
    isplitl [Hwc]; · iexact Hwc
    isplitl [Hpc]; · iexact Hpc
    iexists _; iexact HO
  isplitl [HA']
  · iapply (entails_of_eq (congrArg (fun P => iprop(P ∗ aFree c 0 ∗ aFree c 1 ∗ aFree c 2)) (homes_two (aHome c XA)))); iexact HA'
  isplitl [HX']
  · iapply (entails_of_eq (congrArg (fun P => iprop(P ∗ xFree c 0 ∗ xFree c 1 ∗ xFree c 2)) (homes_two (xHome c XX)))); iexact HX'
  isplitl [HG']
  · iapply (entails_of_eq (congrArg (fun P => iprop(P ∗ gFree c 0 ∗ gFree c 1)) (home_row (gHome c XG) 0))); iexact HG'
  isplitl [HBk HB1_dst]
  · iapply (entails_of_eq (bigSep_congr fun b _ => congrArg (fun w => oDone c XO b w) (hout b.val)))
    iapply HBk; iexact HB1_dst
  isplitl [HB0]; · iexact HB0
  isplitl [HB1]; · iexact HB1
  iexists fo; iexact HB1_src

end Cert.Proof.Outproj

end
-- ==== Proof.Blocks.lean ====
/-
  The kernel's arrays by their blocks, its buffers by their slots; the result's blocks as one array.
-/
module

public import proofs.«01_k».proof.Proof.Body
public import Idealize.ShloMosaic.Lib.Pipeline.KitQuiescent
public import Idealize.ShloMosaic.Lib.Ring.WriteBehind

@[expose] public section

set_option maxRecDepth 16384

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (UU nD τ) ℕ
variable (c : Dev nD)
  (XA : Buf (Elt F) (aM.view.loc (c : Thread nD τ))) (XX : Buf (Elt F) (xM.view.loc (c : Thread nD τ)))
  (XG : Buf (Elt F) (gM.view.loc (c : Thread nD τ)))
  (XO : Buf (Elt F) (oM.view.loc (c : Thread nD τ)))
  (fw : Buf (Elt F) (wbM.view.loc (c : Thread nD τ))) (fp : Buf (Elt F) (pbM.view.loc (c : Thread nD τ)))

variable (XW : Buf (Elt F) (wM.view.loc (c : Thread nD τ))) (XP : Buf (Elt F) (pM.view.loc (c : Thread nD τ)))

section Launch

/-! ## The kernel's own semaphores -/

/-- The kernel's twelve semaphores: three and three for the two inputs' slots, two and two for the gate's and the result's, one each
    for the weight's copy and the gain's. -/
abbrev osem : Fin 12 → SemLoc sig := fun s => .dma (![(aSem 0).sem, (aSem 1).sem, (aSem 2).sem, (xSem 0).sem, (xSem 1).sem, (xSem 2).sem,
  (gSem 0).sem, (gSem 1).sem, (oSem 0).sem, (oSem 1).sem, wSem.sem, pSem.sem] s)
theorem ownSemFacts : Pipeline.OwnSemFacts (cfg0.spec) osem := by decide

/-! ## Element sets -/

abbrev SA (s : Fin 3) : Finset S3x1x1024x1024.Idx := (Rect.unit (s := S3x1x1024x1024) (slot3Off s) S1x1x1024x1024.size (slot3Off_inb s)).set
abbrev SG (s : Fin 2) : Finset S2x1x1x1024.Idx := (Rect.unit (s := S2x1x1x1024) (slot2Off s) S1x1x1x1024.size (slot2Off_inbG s)).set
abbrev SO (s : Fin 2) : Finset S2x1x1024x1024.Idx := (Rect.unit (s := S2x1x1024x1024) (slot2Off s) S1x1x1024x1024.size (slot2Off_inb s)).set
abbrev BX (b : Fin 64) : Finset S16x4096x1024.Idx := (Rect.unit (s := S16x4096x1024) (blkOff b) S1x1024x1024.size (blkOff_inb b)).set
abbrev BG (q : Fin 16) : Finset S24x1x6144.Idx := (Rect.unit (s := S24x1x6144) (gateOff q) S1x1x1024.size (gateOff_inb q)).set

theorem mem_SA (s : Fin 3) (y : S3x1x1024x1024.Idx) : y ∈ SA s ↔ (y 0).val = s.val := by
  rw [Rect.mem_set_unit]
  have h1 : (y 1).val < 1 := (y 1).isLt
  have h2 : (y 2).val < 1024 := (y 2).isLt
  have h3 : (y 3).val < 1024 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 1024; omega
    · show 0 ≤ (y 3).val ∧ (y 3).val < 0 + 1024; omega
theorem mem_SG (s : Fin 2) (y : S2x1x1x1024.Idx) : y ∈ SG s ↔ (y 0).val = s.val := by
  rw [Rect.mem_set_unit]
  have h1 : (y 1).val < 1 := (y 1).isLt
  have h2 : (y 2).val < 1 := (y 2).isLt
  have h3 : (y 3).val < 1024 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 1; omega
    · show 0 ≤ (y 3).val ∧ (y 3).val < 0 + 1024; omega
theorem mem_SO (s : Fin 2) (y : S2x1x1024x1024.Idx) : y ∈ SO s ↔ (y 0).val = s.val := by
  rw [Rect.mem_set_unit]
  have h1 : (y 1).val < 1 := (y 1).isLt
  have h2 : (y 2).val < 1024 := (y 2).isLt
  have h3 : (y 3).val < 1024 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 1024; omega
    · show 0 ≤ (y 3).val ∧ (y 3).val < 0 + 1024; omega
theorem mem_BX (b : Fin 64) (y : S16x4096x1024.Idx) : y ∈ BX b ↔ 4 * (y 0).val + (y 1).val / 1024 = b.val := by
  rw [Rect.mem_set_unit]
  have h0 : (y 0).val < 16 := (y 0).isLt
  have h1 : (y 1).val < 4096 := (y 1).isLt
  have h2 : (y 2).val < 1024 := (y 2).isLt
  have hb := b.isLt
  constructor
  · intro H
    have a0 : b.val / 4 ≤ (y 0).val ∧ (y 0).val < b.val / 4 + 1 := H 0
    have a1 : 1024 * (b.val % 4) ≤ (y 1).val ∧ (y 1).val < 1024 * (b.val % 4) + 1024 := H 1
    omega
  · intro H i; fin_cases i
    · show b.val / 4 ≤ (y 0).val ∧ (y 0).val < b.val / 4 + 1; omega
    · show 1024 * (b.val % 4) ≤ (y 1).val ∧ (y 1).val < 1024 * (b.val % 4) + 1024; omega
    · show 0 ≤ (y 2).val ∧ (y 2).val < 0 + 1024; omega
theorem SA_disjoint : ∀ s s' : Fin 3, s ≠ s' → Disjoint (SA s) (SA s') := by
  intro s s' hne; rw [Finset.disjoint_left]; intro y hy hy'; rw [mem_SA] at hy hy'; exact hne (Fin.ext (hy.symm.trans hy'))
theorem SA_cover : (Finset.univ : Finset (Fin 3)).biUnion SA = Finset.univ := by
  ext y; simp only [Finset.mem_biUnion, Finset.mem_univ, true_and, iff_true]; exact ⟨(y 0).cast (by decide), by rw [mem_SA]; rfl⟩
theorem SG_disjoint : ∀ s s' : Fin 2, s ≠ s' → Disjoint (SG s) (SG s') := by
  intro s s' hne; rw [Finset.disjoint_left]; intro y hy hy'; rw [mem_SG] at hy hy'; exact hne (Fin.ext (hy.symm.trans hy'))
theorem SG_cover : (Finset.univ : Finset (Fin 2)).biUnion SG = Finset.univ := by
  ext y; simp only [Finset.mem_biUnion, Finset.mem_univ, true_and, iff_true]; exact ⟨(y 0).cast (by decide), by rw [mem_SG]; rfl⟩
theorem SO_disjoint : ∀ s s' : Fin 2, s ≠ s' → Disjoint (SO s) (SO s') := by
  intro s s' hne; rw [Finset.disjoint_left]; intro y hy hy'; rw [mem_SO] at hy hy'; exact hne (Fin.ext (hy.symm.trans hy'))
theorem SO_cover : (Finset.univ : Finset (Fin 2)).biUnion SO = Finset.univ := by
  ext y; simp only [Finset.mem_biUnion, Finset.mem_univ, true_and, iff_true]; exact ⟨(y 0).cast (by decide), by rw [mem_SO]; rfl⟩
theorem BX_disjoint : ∀ b b' : Fin 64, b ≠ b' → Disjoint (BX b) (BX b') := by
  intro b b' hne; rw [Finset.disjoint_left]; intro y hy hy'; rw [mem_BX] at hy hy'; exact hne (Fin.ext (hy.symm.trans hy'))
/-- The block an element of the result lies in. -/
def blkNo (y : S16x4096x1024.Idx) : Fin 64 := ⟨4 * (y 0).val + (y 1).val / 1024, by
  have h0 : (y 0).val < 16 := (y 0).isLt
  have h1 : (y 1).val < 4096 := (y 1).isLt
  omega⟩
theorem BX_cover : (Finset.univ : Finset (Fin 64)).biUnion BX = Finset.univ := by
  ext y; simp only [Finset.mem_biUnion, Finset.mem_univ, true_and, iff_true]; exact ⟨blkNo y, by rw [mem_BX]; rfl⟩
theorem BG_disjoint : ∀ q q' : Fin 16, q ≠ q' → Disjoint (BG q) (BG q') := by
  intro q q' hne; rw [Finset.disjoint_left]; intro y hy hy'
  rw [Rect.mem_set_unit] at hy hy'
  have a0 : q.val ≤ (y 0).val ∧ (y 0).val < q.val + 1 := hy 0
  have a1 : q'.val ≤ (y 0).val ∧ (y 0).val < q'.val + 1 := hy' 0
  exact hne (Fin.ext (by omega))

omit [FloatOps F] in
theorem aSlot_set (s : Fin 3) : (aSlot s).view.set = SA s := (View.set_reshape _ _).trans (View.set_slice_whole _ _)
theorem xSlot_set (s : Fin 3) : (xSlot s).view.set = SA s := (View.set_reshape _ _).trans (View.set_slice_whole _ _)
theorem gSlot_set (s : Fin 2) : (gSlot s).view.set = SG s := (View.set_reshape _ _).trans (View.set_slice_whole _ _)
theorem oSlot_set (s : Fin 2) : (oSlot s).view.set = SO s := (View.set_reshape _ _).trans (View.set_slice_whole _ _)
theorem aBlk_set (b : Fin 64) : (aBlk b).view.set = BX b := View.set_slice_whole _ _
theorem xBlk_set (b : Fin 64) : (xBlk b).view.set = BX b := View.set_slice_whole _ _
theorem oBlk_set (b : Fin 64) : (oBlk b).view.set = BX b := View.set_slice_whole _ _
theorem gBlk_set (q : Fin 16) : (gBlk q).view.set = BG q := View.set_slice_whole _ _

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-! ## Arrays by their blocks -/

/-- The mixer's output whole is its blocks; the residual's; the result's, at any contents. -/
theorem a_eq : (((c : Thread nD τ).loc main_arg0) ↦{fullShare} XA : sProp 𝕄) = bigSep Finset.univ (aHome c XA) := by
  rw [Ring.pointsTo_blocks (ℓ := (c : Thread nD τ).loc main_arg0) BX BX_disjoint BX_cover]
  exact bigSep_congr fun b _ => by rw [← aBlk_set b]; rfl
theorem x_eq : (((c : Thread nD τ).loc main_arg2) ↦{fullShare} XX : sProp 𝕄) = bigSep Finset.univ (xHome c XX) := by
  rw [Ring.pointsTo_blocks (ℓ := (c : Thread nD τ).loc main_arg2) BX BX_disjoint BX_cover]
  exact bigSep_congr fun b _ => by rw [← xBlk_set b]; rfl
theorem o_eq : (((c : Thread nD τ).loc main_v3) ↦{fullShare} XO : sProp 𝕄) = bigSep Finset.univ (oHome c XO) := by
  rw [Ring.pointsTo_blocks (ℓ := (c : Thread nD τ).loc main_v3) BX BX_disjoint BX_cover]
  exact bigSep_congr fun b _ => by rw [← oBlk_set b]; rfl
/-- The conditioning's rows the kernel reads are some of that array. -/
theorem g_homes : (((c : Thread nD τ).loc main_v0) ↦{fullShare} XG : sProp 𝕄) ⊢ bigSep Finset.univ (gHome c XG) := by
  iintro H
  ihave H' := (pointsTo_split_subset (ℓ := (c : Thread nD τ).loc main_v0) (q := fullShare) (f := XG) (Finset.subset_univ (Finset.univ.biUnion BG))).1 $$ H
  icases H' with ⟨Hs, -⟩
  ihave HB := (entails_of_eq (pointsTo_biUnion (Ix := Unit) (Name := ℕ) (U := UU nD τ) (Lvl := ℕ) (ℓ := (c : Thread nD τ).loc main_v0) (q := fullShare) (f := XG) Finset.univ BG (fun i _ i' _ h => BG_disjoint i i' h))) $$ Hs
  iapply (entails_of_eq (bigSep_congr (Φ := fun q => (((c : Thread nD τ).loc main_v0) ↦[BG q]{fullShare} XG : sProp 𝕄)) fun q _ => by rw [← gBlk_set q]; rfl))
  iexact HB

theorem aHeld_eq (s : Fin 3) (f) : held c (aSlot s) f = (((c : Thread nD τ).loc cc0_scoped0) ↦[SA s]{fullShare} f : sProp 𝕄) :=
  congrArg (fun S => (_ ↦[S]{fullShare} f : sProp 𝕄)) (aSlot_set s)
/-- The slot buffers whole are their slots, each at anything, and back. -/
theorem aBuf_split : iprop(∃ f : Buf (Elt F) ((c : Thread nD τ).loc cc0_scoped0), ((c : Thread nD τ).loc cc0_scoped0) ↦{fullShare} f)
    ⊢ (bigSep Finset.univ (fun s => iprop(∃ f, held c (aSlot s) f)) : sProp 𝕄) :=
  Ring.pieces_split (ℓ := (c : Thread nD τ).loc cc0_scoped0) SA SA_disjoint SA_cover (fun s f => held c (aSlot s) f) (aHeld_eq c)
theorem aBuf_join (f₀ : Buf (Elt F) ((c : Thread nD τ).loc cc0_scoped0)) : bigSep Finset.univ (fun s => iprop(∃ f, held c (aSlot s) f))
    ⊢ (iprop(∃ f : Buf (Elt F) ((c : Thread nD τ).loc cc0_scoped0), ((c : Thread nD τ).loc cc0_scoped0) ↦{fullShare} f) : sProp 𝕄) :=
  Ring.pieces_join (ℓ := (c : Thread nD τ).loc cc0_scoped0) SA SA_disjoint SA_cover (fun s f => held c (aSlot s) f) (aHeld_eq c) f₀
theorem xHeld_eq (s : Fin 3) (f) : held c (xSlot s) f = (((c : Thread nD τ).loc cc0_scoped3) ↦[SA s]{fullShare} f : sProp 𝕄) :=
  congrArg (fun S => (_ ↦[S]{fullShare} f : sProp 𝕄)) (xSlot_set s)
theorem xBuf_split : iprop(∃ f : Buf (Elt F) ((c : Thread nD τ).loc cc0_scoped3), ((c : Thread nD τ).loc cc0_scoped3) ↦{fullShare} f)
    ⊢ (bigSep Finset.univ (fun s => iprop(∃ f, held c (xSlot s) f)) : sProp 𝕄) :=
  Ring.pieces_split (ℓ := (c : Thread nD τ).loc cc0_scoped3) SA SA_disjoint SA_cover (fun s f => held c (xSlot s) f) (xHeld_eq c)
theorem xBuf_join (f₀ : Buf (Elt F) ((c : Thread nD τ).loc cc0_scoped3)) : bigSep Finset.univ (fun s => iprop(∃ f, held c (xSlot s) f))
    ⊢ (iprop(∃ f : Buf (Elt F) ((c : Thread nD τ).loc cc0_scoped3), ((c : Thread nD τ).loc cc0_scoped3) ↦{fullShare} f) : sProp 𝕄) :=
  Ring.pieces_join (ℓ := (c : Thread nD τ).loc cc0_scoped3) SA SA_disjoint SA_cover (fun s f => held c (xSlot s) f) (xHeld_eq c) f₀
theorem gHeld_eq (s : Fin 2) (f) : held c (gSlot s) f = (((c : Thread nD τ).loc cc0_scoped5) ↦[SG s]{fullShare} f : sProp 𝕄) :=
  congrArg (fun S => (_ ↦[S]{fullShare} f : sProp 𝕄)) (gSlot_set s)
theorem gBuf_split : iprop(∃ f : Buf (Elt F) ((c : Thread nD τ).loc cc0_scoped5), ((c : Thread nD τ).loc cc0_scoped5) ↦{fullShare} f)
    ⊢ (bigSep Finset.univ (fun s => iprop(∃ f, held c (gSlot s) f)) : sProp 𝕄) :=
  Ring.pieces_split (ℓ := (c : Thread nD τ).loc cc0_scoped5) SG SG_disjoint SG_cover (fun s f => held c (gSlot s) f) (gHeld_eq c)
theorem gBuf_join (f₀ : Buf (Elt F) ((c : Thread nD τ).loc cc0_scoped5)) : bigSep Finset.univ (fun s => iprop(∃ f, held c (gSlot s) f))
    ⊢ (iprop(∃ f : Buf (Elt F) ((c : Thread nD τ).loc cc0_scoped5), ((c : Thread nD τ).loc cc0_scoped5) ↦{fullShare} f) : sProp 𝕄) :=
  Ring.pieces_join (ℓ := (c : Thread nD τ).loc cc0_scoped5) SG SG_disjoint SG_cover (fun s f => held c (gSlot s) f) (gHeld_eq c) f₀
theorem oHeld_eq (s : Fin 2) (f) : held c (oSlot s) f = (((c : Thread nD τ).loc cc0_scoped8) ↦[SO s]{fullShare} f : sProp 𝕄) :=
  congrArg (fun S => (_ ↦[S]{fullShare} f : sProp 𝕄)) (oSlot_set s)
theorem oBuf_split : iprop(∃ f : Buf (Elt F) ((c : Thread nD τ).loc cc0_scoped8), ((c : Thread nD τ).loc cc0_scoped8) ↦{fullShare} f)
    ⊢ (bigSep Finset.univ (fun s => iprop(∃ f, held c (oSlot s) f)) : sProp 𝕄) :=
  Ring.pieces_split (ℓ := (c : Thread nD τ).loc cc0_scoped8) SO SO_disjoint SO_cover (fun s f => held c (oSlot s) f) (oHeld_eq c)
theorem oBuf_join (f₀ : Buf (Elt F) ((c : Thread nD τ).loc cc0_scoped8)) : bigSep Finset.univ (fun s => iprop(∃ f, held c (oSlot s) f))
    ⊢ (iprop(∃ f : Buf (Elt F) ((c : Thread nD τ).loc cc0_scoped8), ((c : Thread nD τ).loc cc0_scoped8) ↦{fullShare} f) : sProp 𝕄) :=
  Ring.pieces_join (ℓ := (c : Thread nD τ).loc cc0_scoped8) SO SO_disjoint SO_cover (fun s f => held c (oSlot s) f) (oHeld_eq c) f₀

/-! ## The result as one array -/

/-- An element's place in its block. -/
def within (y : S16x4096x1024.Idx) : S1x1024x1024.Idx := fun a => ⟨(y a).val % S1x1024x1024.size a, Nat.mod_lt _ (by revert a; decide)⟩

/-- The result: each element at its block's step's value. -/
def outAll : Buf (Elt F) (oM.view.loc (c : Thread nD τ)) := fun y => outW c XA XX XG XW XP (blkNo y).val (within y)

theorem blkNo_eq (b : Fin 64) (y : S16x4096x1024.Idx) (h : y ∈ BX b) : blkNo y = b := Fin.ext ((mem_BX b y).1 h)
theorem within_eq (b : Fin 64) (i : S1x1024x1024.Idx) : within ((oBlk b).view.emb i) = i := by
  funext a
  refine Fin.ext ?_
  have hb := b.isLt
  have hi : (i a).val < S1x1024x1024.size a := (i a).isLt
  fin_cases a
  · show (b.val / 4 + 1 * (i 0).val) % 1 = (i 0).val
    have : (i 0).val < 1 := (i 0).isLt
    omega
  · show (1024 * (b.val % 4) + 1 * (i 1).val) % 1024 = (i 1).val
    have : (i 1).val < 1024 := (i 1).isLt
    omega
  · show (0 + 1 * (i 2).val) % 1024 = (i 2).val
    have : (i 2).val < 1024 := (i 2).isLt
    omega
/-- A block written whole reads what was written. -/
theorem read_whole {sp : Space} {s : Shape} {e : EltTy} (M : Memref sig .tc sp s e) (f : M.view.ty.Contents (Elt F)) (w : s.Idx → Elt F e) :
    M.view.read (Elt F) (M.view.writes (Elt F) f [⟨Rect.whole s, w⟩]) = w :=
  View.read_writes_full M.view f (off := fun _ => 0) (fun _ => by simp) w []
/-- A block written whole holds any contents that read the same on it. -/
theorem done_eq (M : Memref sig .tc .hbm S1x1024x1024 .f32) (f g : Buf (Elt F) (M.view.loc (c : Thread nD τ))) (w : S1x1024x1024.Idx → Elt F .f32)
    (h : M.view.read (Elt F) g = w) :
    held c M (M.view.writes (Elt F) f [⟨Rect.whole S1x1024x1024, w⟩]) = held c M g := by
  refine pointsTo_congr fun y hy => ?_
  rw [View.set, Finset.mem_map] at hy
  obtain ⟨i, -, rfl⟩ := hy
  have e := congrFun ((read_whole M f w).trans h.symm) i
  rw [View.read_apply, View.read_apply] at e
  exact (cast_inj _).1 e
theorem read_outAll (b : Fin 64) : (oBlk b).view.read (Elt F) (outAll c XA XX XG XW XP) = outW c XA XX XG XW XP b.val := by
  funext i
  have hB : blkNo ((oBlk b).view.emb i) = b := blkNo_eq b _ (oBlk_set b ▸ Finset.mem_map_of_mem _ (Finset.mem_univ i))
  show outW c XA XX XG XW XP (blkNo ((oBlk b).view.emb i)).val (within ((oBlk b).view.emb i)) = _
  rw [within_eq, hB]
theorem oDone_eq (b : Fin 64) : oDone c XO b (outW c XA XX XG XW XP b.val) = held c (oBlk b) (outAll c XA XX XG XW XP) :=
  done_eq c (oBlk b) XO _ _ (read_outAll c XA XX XG XW XP b)

/-- So the blocks at their steps' values are the result whole. -/
theorem o_done : bigSep Finset.univ (fun b => oDone c XO b (outW c XA XX XG XW XP b.val))
    = (((c : Thread nD τ).loc main_v3) ↦{fullShare} outAll c XA XX XG XW XP : sProp 𝕄) := by
  rw [o_eq]; exact bigSep_congr fun b _ => oDone_eq c XA XX XG XO XW XP b

end Launch

end Cert.Proof.Outproj

end
-- ==== Proof.Run.lean ====
/-
  The launch: the body's theorem under the program's one region, after its host operations; the run of the whole program.
-/
module

public import proofs.«01_k».proof.Proof.Blocks
public import proofs.«01_k».proof.Proof.Gen.KernelIdeal.Frame
public import Idealize.ShloMosaic.Lib.Pipeline.KitQuiescent
public import Idealize.ShloMosaic.Lib.Ring.WriteBehind

@[expose] public section

set_option maxRecDepth 16384

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Ring (sl bk)

variable {F : FTy → Type} [FloatOps F]

local notation "𝕄" => MT nD τ sig Unit (Elt F) ℕ (UU nD τ) ℕ
variable (c : Dev nD)
variable (m : (ℓ : Loc nD τ sig) → Buf (Elt F) ℓ) (ρ : Dev nD → PrngReg)

/-! ## The proof data: what is held before the one point and after it -/

/-- The array main memory holds at the kernel's launch: the arguments as launched, the three recast operands computed. -/
abbrev VV (b : Ref sig .tc) : Buf (Elt F) ((c : Thread nD τ).loc b) := Cert.KernelIdeal.Gen.V m c b
/-- What the kernel is given, for the body's theorem. -/
def pre : sProp 𝕄 := iprop((held c wM (VV c m main_v2) ∗ held c pM (VV c m main_v1))
    ∗ bigSep Finset.univ (aHome c (VV c m main_arg0)) ∗ bigSep Finset.univ (xHome c (VV c m main_arg2))
    ∗ bigSep Finset.univ (gHome c (VV c m main_v0)) ∗ bigSep Finset.univ (oHome c (VV c m main_v3)))
/-- The result, by the arrays at the kernel's launch. -/
def result : Buf (Elt F) (oM.view.loc (c : Thread nD τ)) :=
  outAll c (VV c m main_arg0) (VV c m main_arg2) (VV c m main_v0) (VV c m main_v2) (VV c m main_v1)
/-- What it leaves: the two streamed arguments as they were, the result computed. -/
def post : sProp 𝕄 := iprop(bigSep Finset.univ (aHome c (VV c m main_arg0)) ∗ bigSep Finset.univ (xHome c (VV c m main_arg2))
    ∗ (((c : Thread nD τ).loc main_v3) ↦{fullShare} result c m))
/-- The buffers and the counters the kernel works in. -/
def work : sProp 𝕄 := iprop(((∃ f, held c wbM f) ∗ (∃ f, held c pbM f) ∗ wCell c ∗ pCell c)
    ∗ (aFree c 0 ∗ aFree c 1 ∗ aFree c 2) ∗ (xFree c 0 ∗ xFree c 1 ∗ xFree c 2) ∗ (gFree c 0 ∗ gFree c 1) ∗ (oFree c 0 ∗ oFree c 1))

omit [FloatOps F] in
theorem bigSep_fin12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [(0 : Fin 12), 1, 2, 3, 4, 5, 6, 7, 8, 9, 10, 11] (by decide) (by decide) Φ

theorem wb_set : (wbM).view.set = Finset.univ := View.set_whole _
theorem wb_eq (f : Buf (Elt F) ((c : Thread nD τ).loc cc0_scoped2)) : (((c : Thread nD τ).loc cc0_scoped2) ↦{fullShare} f : sProp 𝕄) = held c wbM f :=
  (congrArg (fun S : Finset (Idx ((c : Thread nD τ).loc cc0_scoped2)) => (((c : Thread nD τ).loc cc0_scoped2) ↦[S]{fullShare} f : sProp 𝕄)) wb_set).symm
theorem pb_set : (pbM).view.set = Finset.univ := View.set_whole _
theorem pb_eq (f : Buf (Elt F) ((c : Thread nD τ).loc cc0_scoped7)) : (((c : Thread nD τ).loc cc0_scoped7) ↦{fullShare} f : sProp 𝕄) = held c pbM f :=
  (congrArg (fun S : Finset (Idx ((c : Thread nD τ).loc cc0_scoped7)) => (((c : Thread nD τ).loc cc0_scoped7) ↦[S]{fullShare} f : sProp 𝕄)) pb_set).symm
theorem w_set : (wM).view.set = Finset.univ := View.set_whole _
theorem w_eq (f : Buf (Elt F) ((c : Thread nD τ).loc main_v2)) : (((c : Thread nD τ).loc main_v2) ↦{fullShare} f : sProp 𝕄) = held c wM f :=
  (congrArg (fun S : Finset (Idx ((c : Thread nD τ).loc main_v2)) => (((c : Thread nD τ).loc main_v2) ↦[S]{fullShare} f : sProp 𝕄)) w_set).symm
theorem p_set : (pM).view.set = Finset.univ := View.set_whole _
theorem p_eq (f : Buf (Elt F) ((c : Thread nD τ).loc main_v1)) : (((c : Thread nD τ).loc main_v1) ↦{fullShare} f : sProp 𝕄) = held c pM f :=
  (congrArg (fun S : Finset (Idx ((c : Thread nD τ).loc main_v1)) => (((c : Thread nD τ).loc main_v1) ↦[S]{fullShare} f : sProp 𝕄)) p_set).symm

/-- The counters and the buffers at the launch are the kernel's own to work in; -/
theorem work_in : iprop(Pipeline.ownSems0 osem c ∗ Pipeline.scopedRest (cfg0.spec) c) ⊢ (work (F := F) c : sProp 𝕄) := by
  rw [scopedRest0_eq]
  unfold Pipeline.ownSems0 work
  rw [bigSep_fin12]
  iintro ⟨⟨C0, C1, C2, C3, C4, C5, C6, C7, C8, C9, C10, C11⟩, B0, ⟨%fw, B2⟩, B3, B5, ⟨%fp, B7⟩, B8⟩
  ihave A := ((aBuf_split c).trans (entails_of_eq (bigSep_fin3 _))) $$ B0
  icases A with ⟨A0, A1, A2⟩
  ihave X := ((xBuf_split c).trans (entails_of_eq (bigSep_fin3 _))) $$ B3
  icases X with ⟨X0, X1, X2⟩
  ihave G := ((gBuf_split c).trans (entails_of_eq (bigSep_fin2 _))) $$ B5
  icases G with ⟨G0, G1⟩
  ihave O := ((oBuf_split c).trans (entails_of_eq (bigSep_fin2 _))) $$ B8
  icases O with ⟨O0, O1⟩
  isplitl [B2 B7 C10 C11]
  · isplitl [B2]
    · iexists fw; iapply (entails_of_eq (wb_eq c fw)); iexact B2
    isplitl [B7]
    · iexists fp; iapply (entails_of_eq (pb_eq c fp)); iexact B7
    isplitl [C10]; · iexact C10
    iexact C11
  isplitl [C0 C1 C2 A0 A1 A2]
  · isplitl [C0 A0]; · isplitl [C0]; · iexact C0
                       iexact A0
    isplitl [C1 A1]; · isplitl [C1]; · iexact C1
                       iexact A1
    isplitl [C2]; · iexact C2
    iexact A2
  isplitl [C3 C4 C5 X0 X1 X2]
  · isplitl [C3 X0]; · isplitl [C3]; · iexact C3
                       iexact X0
    isplitl [C4 X1]; · isplitl [C4]; · iexact C4
                       iexact X1
    isplitl [C5]; · iexact C5
    iexact X2
  isplitl [C6 C7 G0 G1]
  · isplitl [C6 G0]; · isplitl [C6]; · iexact C6
                       iexact G0
    isplitl [C7]; · iexact C7
    iexact G1
  isplitl [C8 O0]; · isplitl [C8]; · iexact C8
                     iexact O0
  isplitl [C9]; · iexact C9
  iexact O1

/-- and given back at its end. -/
theorem work_out : (work (F := F) c : sProp 𝕄) ⊢ iprop(Pipeline.ownSems0 osem c ∗ Pipeline.scopedRest (cfg0.spec) c) := by
  rw [scopedRest0_eq]
  unfold Pipeline.ownSems0 work
  rw [bigSep_fin12]
  iintro ⟨⟨⟨%fw, B2⟩, ⟨%fp, B7⟩, C10, C11⟩, ⟨⟨C0, ⟨%fa0, A0⟩⟩, ⟨C1, A1⟩, ⟨C2, A2⟩⟩, ⟨⟨C3, ⟨%fx0, X0⟩⟩, ⟨C4, X1⟩, ⟨C5, X2⟩⟩, ⟨⟨C6, ⟨%fg0, G0⟩⟩, ⟨C7, G1⟩⟩, ⟨⟨C8, ⟨%fo0, O0⟩⟩, ⟨C9, O1⟩⟩⟩
  isplitl [C0 C1 C2 C3 C4 C5 C6 C7 C8 C9 C10 C11]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    iexact C11
  isplitl [A0 A1 A2]
  · iapply ((entails_of_eq (bigSep_fin3 _).symm).trans (aBuf_join c fa0))
    isplitl [A0]; · iexists _; iexact A0
    isplitl [A1]; · iexact A1
    iexact A2
  isplitl [B2]
  · iexists fw; iapply (entails_of_eq (wb_eq c fw).symm); iexact B2
  isplitl [X0 X1 X2]
  · iapply ((entails_of_eq (bigSep_fin3 _).symm).trans (xBuf_join c fx0))
    isplitl [X0]; · iexists _; iexact X0
    isplitl [X1]; · iexact X1
    iexact X2
  isplitl [G0 G1]
  · iapply ((entails_of_eq (bigSep_fin2 _).symm).trans (gBuf_join c fg0))
    isplitl [G0]; · iexists _; iexact G0
    iexact G1
  isplitl [B7]
  · iexists fp; iapply (entails_of_eq (pb_eq c fp).symm); iexact B7
  iapply ((entails_of_eq (bigSep_fin2 _).symm).trans (oBuf_join c fo0))
  isplitl [O0]; · iexists _; iexact O0
  iexact O1

def Φ (t : ℕ) : sProp 𝕄 := if t = 0 then iprop(pre c m ∗ work c) else iprop(post c m ∗ work c)

def dats (_ : Fin 1) (c : Dev nD) : Dat τ (Elt F) Unit ℕ (UU nD τ) ℕ cfg0 c where
  A w := w.elim0
  after w t := w.elim0
  Φ t := Φ c m t.val
  q _ := fullShare
  owed _ := 0

/-! ## The body obligation -/

theorem defs_tc : (defs₀ (F := F)) .tc cfg0.body = fun a => bodyG := rfl
theorem prog_eq (t : Fin cfg0.N) : (defs₀ (F := F)) .tc cfg0.body (cfg0.bodyArgs t (cfg0.slots t)) = bodyG :=
  (congrFun defs_tc _).trans rfl

set_option backward.isDefEq.respectTransparency.types false in
/-- The one point's body keeps the data. -/
theorem body_obligation : BodyObligation (dats (F := F) m 0 c) (defs₀ (F := F)) 𝒱₀ () Set.univ := fun t => by
  rw [show (Finset.univ : Finset (Fin cfg0.W)) = ∅ from rfl]
  simp only [bigSep_empty]
  have ht : t = t0_0 := fin_N0 t
  subst ht
  rw [show (dats m 0 c).Φ t0_0.castSucc = iprop(pre c m ∗ work c) from rfl, show (dats m 0 c).Φ t0_0.succ = iprop(post c m ∗ work c) from rfl]
  unfold Dat.owesAt Pipeline.owesWithin
  rw [show (dats m 0 c).owed t0_0.castSucc = 0 from rfl, show (dats m 0 c).owed t0_0.succ = 0 from rfl]
  sl_rw [prog_eq t0_0]
  unfold pre post work
  iintro ⟨⟨⟨⟨HW, HP⟩, HA, HX, HG, HO⟩, ⟨Hwb, Hpb, Hwc, Hpc⟩, FA, FX, FG, FO⟩, ⟨%W, -, HL⟩, -⟩
  iapply (bodyRun c (VV c m main_arg0) (VV c m main_arg2) (VV c m main_v0) (VV c m main_v3) (VV c m main_v2) (VV c m main_v1))
  unfold PRE POST
  isplitl [HW HP HA HX HG HO Hwb Hpb Hwc Hpc FA FX FG FO HL]
  · isplitl [HW HP Hwb Hpb Hwc Hpc HL]
    · isplitl [HW]; · iexact HW
      isplitl [HP]; · iexact HP
      isplitl [Hwb]; · iexact Hwb
      isplitl [Hpb]; · iexact Hpb
      isplitl [Hwc]; · iexact Hwc
      isplitl [Hpc]; · iexact Hpc
      iexists W; iexact HL
    isplitl [HA FA]; · isplitl [HA]; · iexact HA
                       iexact FA
    isplitl [HX FX]; · isplitl [HX]; · iexact HX
                       iexact FX
    isplitl [HG FG]; · isplitl [HG]; · iexact HG
                       iexact FG
    isplitl [HO]; · iexact HO
    iexact FO
  · iintro ⟨⟨-, -, Hwb, Hpb, Hwc, Hpc, ⟨%W', HL⟩⟩, ⟨HA, FA⟩, ⟨HX, FX⟩, ⟨-, FG⟩, ⟨HO, FO⟩⟩
    isplitl [HA HX HO Hwb Hpb Hwc Hpc FA FX FG FO]
    · isplitl [HA HX HO]
      · isplitl [HA]; · iexact HA
        isplitl [HX]; · iexact HX
        iapply (entails_of_eq (o_done c (VV c m main_arg0) (VV c m main_arg2) (VV c m main_v0) (VV c m main_v3) (VV c m main_v2) (VV c m main_v1)))
        iexact HO
      isplitl [Hwb Hpb Hwc Hpc]
      · isplitl [Hwb]; · iexact Hwb
        isplitl [Hpb]; · iexact Hpb
        isplitl [Hwc]; · iexact Hwc
        iexact Hpc
      isplitl [FA]; · iexact FA
      isplitl [FX]; · iexact FX
      isplitl [FG]; · iexact FG
      iexact FO
    isplitl [HL]
    · iexists W'; isplitr; · ipureintro; exact fun _ _ => Or.inl trivial
      iexact HL
    iempintro

/-! ## The run -/

def u₀ : UU nD τ := (initOf (Pipeline.cells cfgs cellOf_inj) (Pipeline.launchToks cfgs cellOf_inj), 1)
/-- The arguments the kernel does not touch, kept beside the region. -/
def kept₀ : sProp 𝕄 := iprop((((c : Thread nD τ).loc main_arg1) ↦{fullShare} VV c m main_arg1)
  ∗ (((c : Thread nD τ).loc main_arg3) ↦{fullShare} VV c m main_arg3) ∗ (((c : Thread nD τ).loc main_arg4) ↦{fullShare} VV c m main_arg4))
/-- The final memory: the five arguments as launched, the result computed. -/
def Final (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v3) = result c m

set_option backward.isDefEq.respectTransparency.types false in
/-- THE RUN, for any float values: from any memory with zero counters every weakly fair execution of the program terminates,
    and every final state has the arguments unchanged, the result at its computed contents and every counter at zero. -/
theorem run_main : θ_run defs (onTc (τ := τ) (main (F := F))) (s₀ m ρ) (fun r => (∀ c, Final m c r.2) ∧ r.2.sem = fun _ => 0) :=
  Pipeline.θ_run_region_kit_quiescent cfgs (dats m) () (0 : Fin 1) launch0 ownSemFacts EP defs₀ 𝒱₀ m ρ main
    (hbody := fun c => (body_obligation c m).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => VV c m b)
    (hmain := Pipeline.hmain_prefix cfgs 0 defs₀ 𝒱₀ m main hostOps0 hostOps0_sub hostOps0_fresh main_chain)
    (hA := fun _ w => w.elim0)
    (X := fun c => iprop(pre c m ∗ Pipeline.ownSems0 osem c)) (Y := fun c => post c m) (Z := fun c => kept₀ c m)
    (hX := fun c => by
      rw [unscopedRest0_eq]
      unfold pre kept₀
      iintro ⟨⟨H0, H1, H2, H3, H4, HV0, HV1, HV2, HV3⟩, HS, -, -, -⟩; imodintro
      ihave HG := (g_homes c (VV c m main_v0)) $$ HV0
      isplitr [H1 H3 H4]
      · isplitr [HS]
        · isplitl [HV1 HV2]
          · isplitl [HV2]
            · iapply (entails_of_eq (w_eq c _)); iexact HV2
            · iapply (entails_of_eq (p_eq c _)); iexact HV1
          isplitl [H0]; · iapply (entails_of_eq (a_eq c _)); iexact H0
          isplitl [H2]; · iapply (entails_of_eq (x_eq c _)); iexact H2
          isplitl [HG]; · iexact HG
          iapply (entails_of_eq (o_eq c _)); iexact HV3
        iexact HS
      isplitl [H1]; · iexact H1
      isplitl [H3]; · iexact H3
      iexact H4)
    (hin := fun c => by
      rw [show (dats m 0 c).Φ 0 = iprop(pre c m ∗ work c) from rfl]
      iintro ⟨⟨H, HS⟩, Hb⟩
      isplitl [H]; · iexact H
      iapply (work_in c)
      isplitl [HS]; · iexact HS
      iexact Hb)
    (hout := fun c => by
      rw [show (dats m 0 c).Φ (Fin.last cfg0.N) = iprop(post c m ∗ work c) from rfl]
      iintro ⟨H, HW⟩
      isplitl [H]; · iexact H
      iapply (work_out c); iexact HW)
    (QY := Final m)
    (hY := fun c s' => by
      unfold post kept₀ Final
      iintro ⟨⟨HA, HX, HO⟩, ⟨H1, H3, H4⟩, HSI⟩
      ihave H0 := (entails_of_eq (a_eq c (VV c m main_arg0)).symm) $$ HA
      ihave H2 := (entails_of_eq (x_eq c (VV c m main_arg2)).symm) $$ HX
      icombine HSI H0 gives %h0
      icombine HSI H1 gives %h1
      icombine HSI H2 gives %h2
      icombine HSI H3 gives %h3
      icombine HSI H4 gives %h4
      icombine HSI HO gives %h5
      imodintro
      isplitr
      · ipureintro
        exact ⟨⟨(Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c),
          (Buf.eq_of_forall_mem_univ h4).trans (V_main_arg4 m c)⟩, Buf.eq_of_forall_mem_univ h5⟩
      iexact HSI)
    (hQ := fun _ hh hz => ⟨fun c => (hh c).2, hz⟩)

end Cert.Proof.Outproj

end
-- ==== Proof.Value.lean ====
/-
  The value: at exact arithmetic, each element of what the kernel leaves is that element of the reference's result.
-/
module

public import proofs.«01_k».proof.Defs
public import proofs.«01_k».proof.Proof.Gen.ReferenceIdeal.Run
public import proofs.«01_k».proof.Proof.Run
public import Idealize.ShloMosaic.Lib.Pointwise
public import Idealize.ShloMosaic.Lib.StableHlo.ReadAt

@[expose] public section

set_option maxRecDepth 16384

noncomputable section

namespace Cert.Proof.Outproj

open Cert.KernelIdeal Cert.KernelIdeal.Gen
open Idealize.ShloMosaic
open Idealize.ShloMosaic.TcCoe Idealize.ShloMosaic.Tactic
open Idealize.SL.Sem
open Idealize.ShloMosaic.Ring (bk)

/-- The projected activation at batch entry `q`, row `t`, feature `l`. -/
def proj (A : Vec Ideal S16x4096x1024 .bf16) (W : Vec Ideal S1024x1024 .f32) (q : Fin 16) (t : Fin 4096) (l : Fin 1024) : EReal :=
  ∑ x : Fin 1024, A (ix3 q t x) * W (ix2 x l)

/-- The result at batch entry `q`, row `t`, feature `l`, as one formula over the five arguments: the residual plus the gate
    times the projected activation, divided by the root of its row's mean square and scaled. -/
def goal (A : Vec Ideal S16x4096x1024 .bf16) (W : Vec Ideal S1024x1024 .f32) (X : Vec Ideal S16x4096x1024 .f32)
    (M : Vec Ideal S24x6144 .f32) (P : Vec Ideal S1024 .f32) (q : Fin 16) (t : Fin 4096) (l : Fin 1024) : EReal :=
  X (ix3 q t l) + M (ix2 ⟨q.val, by omega⟩ ⟨2048 + l.val, by omega⟩)
    * (proj A W q t l * Ideal.rsqrt (Ideal.div (∑ x : Fin 1024, proj A W q t x * proj A W q t x) (Ideal.ofBits FTy.f32 0x44800000#32)
        + Ideal.ofBits FTy.f32 0x358637BD#32) * P (ix1 l))

/-- One element of a step's block, over what the step reads. -/
theorem block_apply (A : Vec Ideal S1x1024x1024 .bf16) (W : Vec Ideal S1024x1024 .bf16) (X : Vec Ideal S1x1024x1024 .f32)
    (G : Vec Ideal S1x1x1024 .f32) (P : Vec Ideal S1x1024 .f32) (r l : Fin 1024) :
    k0_pay4 (k0_pay1 A W) (k0_pay2 X) (k0_pay3 G) P (ix3 0 r l)
      = X (ix3 0 r l) + G (ix3 0 0 l)
        * ((∑ x : Fin 1024, A (ix3 0 r x) * W (ix2 x l))
          * Ideal.rsqrt (Ideal.div (∑ x : Fin 1024, (∑ y : Fin 1024, A (ix3 0 r y) * W (ix2 y x)) * ∑ y : Fin 1024, A (ix3 0 r y) * W (ix2 y x))
              (Ideal.ofBits FTy.f32 0x44800000#32) + Ideal.ofBits FTy.f32 0x358637BD#32) * P (ix2 0 l)) := by
  pointwise [k0_pay1, k0_pay2, k0_pay3, k0_pay4]

/-- Where a block's element lies in its array. -/
theorem blk_idx (b : Fin 64) (r k : Fin 1024) : (aBlk b).view.emb (ix3 0 r k)
    = (ix3 ⟨b.val / 4, by omega⟩ ⟨1024 * (b.val % 4) + r.val, by omega⟩ k : S16x4096x1024.Idx) := by
  funext a
  refine Fin.ext ?_
  fin_cases a
  · show b.val / 4 + 1 * 0 = b.val / 4; omega
  · show 1024 * (b.val % 4) + 1 * r.val = 1024 * (b.val % 4) + r.val; omega
  · show 0 + 1 * k.val = k.val; omega

/-- Where a gate row's element lies in the modulation array. -/
theorem gate_idx (q : Fin 16) (k : Fin 1024) : (gBlk q).view.emb (ix3 0 0 k)
    = (ix3 ⟨q.val, by omega⟩ 0 ⟨2048 + k.val, by omega⟩ : S24x1x6144.Idx) := by
  funext a
  refine Fin.ext ?_
  fin_cases a
  · show q.val + 1 * 0 = q.val; omega
  · show 0 + 1 * 0 = 0; omega
  · show 2048 + 1 * k.val = 2048 + k.val; omega

section
variable (b : Fin 64) (q : Fin 16) (r k : Fin 1024)

/-- A block of the mixer output, read. -/
theorem aBlk_at (X : Vec Ideal S16x4096x1024 .bf16) : (aBlk b).view.read (Elt Ideal) X (ix3 0 r k)
    = X (ix3 ⟨b.val / 4, by omega⟩ ⟨1024 * (b.val % 4) + r.val, by omega⟩ k) := congrArg X (blk_idx b r k)
/-- A block of the residual, read. -/
theorem xBlk_at (X : Vec Ideal S16x4096x1024 .f32) : (xBlk b).view.read (Elt Ideal) X (ix3 0 r k)
    = X (ix3 ⟨b.val / 4, by omega⟩ ⟨1024 * (b.val % 4) + r.val, by omega⟩ k) := congrArg X (blk_idx b r k)
/-- A gate row, read. -/
theorem gBlk_at (X : Vec Ideal S24x1x6144 .f32) : (gBlk q).view.read (Elt Ideal) X (ix3 0 0 k)
    = X (ix3 ⟨q.val, by omega⟩ 0 ⟨2048 + k.val, by omega⟩) := congrArg X (gate_idx q k)
end

variable (c : Dev nD) (m : (ℓ : Loc nD τ sig) → Buf (Elt Ideal) ℓ)

/-- The modulation rows as the kernel is given them: the argument, reshaped. -/
theorem v0_apply (q : Fin 24) (j : Fin 6144) : (VV c m main_v0 : Vec Ideal S24x1x6144 .f32) (ix3 q 0 j)
    = (m ((c : Thread nD τ).loc main_arg3) : Vec Ideal S24x6144 .f32) (ix2 q j) := by
  unfold VV V
  after_reads_at
/-- The norm's scale as the kernel is given it: the argument as a row. -/
theorem v1_apply (j : Fin 1024) : (VV c m main_v1 : Vec Ideal S1x1024 .f32) (ix2 0 j)
    = (m ((c : Thread nD τ).loc main_arg4) : Vec Ideal S1024 .f32) (ix1 j) := by
  unfold VV V
  after_reads_at
/-- The weights as the kernel is given them: the argument, its conversion exact here. -/
theorem v2_apply (i j : Fin 1024) : (VV c m main_v2 : Vec Ideal S1024x1024 .bf16) (ix2 i j)
    = (m ((c : Thread nD τ).loc main_arg1) : Vec Ideal S1024x1024 .f32) (ix2 i j) := by
  unfold VV V
  after_reads_at

/-- The kernel's result is the formula. -/
theorem result_apply (q : Fin 16) (t : Fin 4096) (l : Fin 1024) :
    (result c m : Vec Ideal S16x4096x1024 .f32) (ix3 q t l)
      = goal (m ((c : Thread nD τ).loc main_arg0)) (m ((c : Thread nD τ).loc main_arg1)) (m ((c : Thread nD τ).loc main_arg2))
          (m ((c : Thread nD τ).loc main_arg3)) (m ((c : Thread nD τ).loc main_arg4)) q t l := by
  have hb : bk 64 (blkNo (ix3 q t l)).val = (⟨4 * q.val + t.val / 1024, by omega⟩ : Fin 64) := by
    refine Fin.ext ?_
    show (4 * q.val + t.val / 1024) % 64 = _
    exact Nat.mod_eq_of_lt (by omega)
  have hg : bk 16 ((blkNo (ix3 q t l)).val / 4) = q := by
    refine Fin.ext ?_
    show (4 * q.val + t.val / 1024) / 4 % 16 = _
    omega
  have hw : within (ix3 q t l) = ix3 0 ⟨t.val % 1024, by omega⟩ l := by
    funext a
    refine Fin.ext ?_
    fin_cases a
    · show q.val % 1 = 0; omega
    · rfl
    · show l.val % 1024 = l.val; omega
  have hq : (4 * q.val + t.val / 1024) / 4 = q.val := by omega
  have ht : 1024 * ((4 * q.val + t.val / 1024) % 4) + t.val % 1024 = t.val := by omega
  show outW c _ _ _ _ _ (blkNo (ix3 q t l)).val (within (ix3 q t l)) = _
  unfold outW
  rw [hb, hg, hw, block_apply]
  simp only [aBlk_at, xBlk_at, gBlk_at, hq, ht]
  unfold goal proj
  simp only [← v2_apply c m, ← v1_apply c m, ← v0_apply c m]
  rw [← V_main_arg0 m c, ← V_main_arg2 m c]
  rfl

/-- The reference's result is the formula. -/
theorem reference_apply (A : FVec Ideal S16x4096x1024 .bf16) (W : FVec Ideal S1024x1024 .f32) (X : FVec Ideal S16x4096x1024 .f32)
    (M : FVec Ideal S24x6144 .f32) (P : FVec Ideal S1024 .f32) (q : Fin 16) (t : Fin 4096) (l : Fin 1024) :
    (addf (F := Ideal) X (mulf (broadcastInDim Cert.ReferenceIdeal.S16x4096x1024 ![0, 1, 2] Cert.ReferenceIdeal.Gen.bcast_S16x1x1024_S16x4096x1024_0_1_2 (broadcastInDim Cert.ReferenceIdeal.S16x1x1024 ![0, 2] Cert.ReferenceIdeal.Gen.bcast_S16x1024_S16x1x1024_0_2 (extractStridedSlice Cert.ReferenceIdeal.S16x1024 ![0, 2048] (extractStridedSlice Cert.ReferenceIdeal.S16x6144 ![0, 0] M Cert.ReferenceIdeal.Gen.slices_S24x6144_S16x6144_0_0) Cert.ReferenceIdeal.Gen.slices_S16x6144_S16x1024_0_2048))) (mulf (mulf (Host.dotGeneral Cert.ReferenceIdeal.dot_S16x4096x1024_S1024x1024_S16x4096x1024_2_0_01_1_n_n none (extf .f32 A Cert.ReferenceIdeal.Gen.bitsLt_bf16_f32) W) (broadcastInDim Cert.ReferenceIdeal.S16x4096x1024 ![0, 1, 2] Cert.ReferenceIdeal.Gen.bcast_S16x4096x1_S16x4096x1024_0_1_2 (Host.rsqrt (addf (Host.divf (broadcastInDim Cert.ReferenceIdeal.S16x4096x1 ![0, 1] Cert.ReferenceIdeal.Gen.bcast_S16x4096_S16x4096x1_0_1 (Host.reduceAdd (mulf (Host.dotGeneral Cert.ReferenceIdeal.dot_S16x4096x1024_S1024x1024_S16x4096x1024_2_0_01_1_n_n none (extf .f32 A Cert.ReferenceIdeal.Gen.bitsLt_bf16_f32) W) (Host.dotGeneral Cert.ReferenceIdeal.dot_S16x4096x1024_S1024x1024_S16x4096x1024_2_0_01_1_n_n none (extf .f32 A Cert.ReferenceIdeal.Gen.bitsLt_bf16_f32) W)) (constant Cert.ReferenceIdeal.S_ .f32 0x00000000#32) Cert.ReferenceIdeal.Gen.reducesTo_S16x4096x1024_S16x4096_d2 Cert.ReferenceIdeal.Gen.h_S_)) (broadcastInDim Cert.ReferenceIdeal.S16x4096x1 ![] Cert.ReferenceIdeal.Gen.bcast_S_S16x4096x1 (constant Cert.ReferenceIdeal.S_ .f32 0x44800000#32))) (broadcastInDim Cert.ReferenceIdeal.S16x4096x1 ![] Cert.ReferenceIdeal.Gen.bcast_S_S16x4096x1 (constant Cert.ReferenceIdeal.S_ .f32 0x358637BD#32)))))) (broadcastInDim Cert.ReferenceIdeal.S16x4096x1024 ![0, 1, 2] Cert.ReferenceIdeal.Gen.bcast_S1x1x1024_S16x4096x1024_0_1_2 (broadcastInDim Cert.ReferenceIdeal.S1x1x1024 ![2] Cert.ReferenceIdeal.Gen.bcast_S1024_S1x1x1024_2 P)))) : FVec Ideal S16x4096x1024 .f32) (ix3 q t l)
      = goal A W X M P q t l := by
  unfold goal proj
  pointwise

open Cert.ReferenceIdeal.Value in
/-- At exact arithmetic the kernel and the reference end with the same result. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => result c m, ?_, ?_⟩
  · exact (θ_run Cert.KernelIdeal.defs _ _).mono (fun _ h c => ⟨(h.1 c).2, (h.1 c).1⟩) (run_main (F := Ideal) m ρ)
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [h0, h1, h2, h3, h4]
  funext i
  obtain ⟨q, t, l, rfl⟩ : ∃ (q : Fin 16) (t : Fin 4096) (l : Fin 1024), i = ix3 q t l := ⟨i 0, i 1, i 2, eq_ix3 i⟩
  exact (reference_apply _ _ _ _ _ q t l).trans (result_apply c m q t l).symm

end Cert.Proof.Outproj

end
-- ==== Proof.FfnFrame.lean ====
module

public import proofs.«01_k».proof.Defs
public import proofs.«01_k».proof.Proof.Gen.Kernel2
public import proofs.«01_k».proof.Proof.Gen.Kernel2Ideal
public import proofs.«01_k».proof.Proof.Gen.Kernel2Ideal.Frame

/-! The feed-forward kernel as printed and its reading over the extended reals are the same text, read at any values.
    Their call, their body table and their @main are equal, so the one run of `Kernel2Ideal` serves both frames. -/

@[expose] public section

set_option maxRecDepth 16384

noncomputable section

namespace Cert.Proof.Ffn

open Idealize.ShloMosaic Idealize.ShloMosaic.TcCoe Idealize.SL.Sem

/-- The call's function: one text in both programs. -/
theorem call_eq : @Kernel2.cc0_conv_ffn Bits _ _ = @Kernel2Ideal.cc0_conv_ffn Bits _ _ := rfl

set_option maxHeartbeats 8000000 in
/-- The table of kernel bodies, at its one label. -/
theorem bodies_eq : Kernel2.defs₀ (F := Bits) = Kernel2Ideal.defs₀ (F := Bits) := by
  unfold Kernel2.defs₀ Kernel2Ideal.defs₀
  refine congrArg Defs.onTc (funext fun l => funext fun x => ?_)
  match l, x with
  | 0, (t, s) => rfl

set_option maxHeartbeats 8000000 in
/-- The whole table: the bodies and the pipeline around them. -/
theorem defs_eq : Kernel2.defs (F := Bits) = Kernel2Ideal.defs (F := Bits) := by
  have h : Kernel2.defs (F := Bits) = Pipeline.defs Kernel2.pcfgs (Kernel2.defs₀ (F := Bits)) := by unfold Kernel2.defs; rfl
  rw [h, bodies_eq]
  unfold Kernel2Ideal.defs
  rfl

set_option maxHeartbeats 8000000 in
/-- The host lines and the call. -/
theorem main_eq : Kernel2.main (F := Bits) = Kernel2Ideal.main (F := Bits) := rfl

/-- A run of an equal program is a run of the kernel as printed. -/
theorem run_of_eq {D} {M} (hD : Kernel2.defs (F := Bits) = D) (hM : Kernel2.main (F := Bits) = M) {s} {Q}
    (h : θ_run D (onTc (τ := Kernel2.τ) M) s Q) : θ_run Kernel2.defs (onTc (τ := Kernel2.τ) (Kernel2.main (F := Bits))) s Q := by
  subst hD hM
  exact h

set_option maxHeartbeats 8000000 in
/-- The feed-forward kernel as printed, on the machine's own floats: it runs, keeps its eight arguments and leaves every
    semaphore at zero. -/
theorem frame_kernel2 : Cert.quiescent_Kernel2 (hKernel2 := Cert.Kernel2.Gen.facts) := fun m ρ _ =>
  run_of_eq defs_eq main_eq (Cert.Kernel2Ideal.Gen.frame (F := Bits) m ρ)

end Cert.Proof.Ffn

end
-- ==== Proof.FfnPoint.lean ====
module

public import proofs.«01_k».proof.Proof.Gen.Kernel2Ideal.Skeleton
public import Idealize.ShloMosaic.Lib.Pointwise

@[expose] public section

set_option maxRecDepth 16384

noncomputable section

namespace Cert.Proof.Ffn

open Cert.Kernel2Ideal Cert.Kernel2Ideal.Gen
open Idealize.ShloMosaic
open Idealize.ShloMosaic.TcCoe Idealize.ShloMosaic.Tactic
open Idealize.SL.Sem

/-- Entry `l` of a row `x`, divided by the root of the row's mean square and scaled by `g`. -/
def nrm (x : Fin 1024 → EReal) (g : Fin 1024 → EReal) (l : Fin 1024) : EReal :=
  x l * Ideal.rsqrt (Ideal.div (∑ d : Fin 1024, x d * x d) (Ideal.ofBits FTy.f32 0x44800000#32)
    + Ideal.ofBits FTy.f32 0x358637BD#32) * g l

/-- Entry `l` of a row `x`, normalized, modulated by `sc` and shifted by `sh`. -/
def pre (x g sc sh : Fin 1024 → EReal) (l : Fin 1024) : EReal :=
  nrm x g l * (1 + sc l) + sh l

/-- The activation of the gated half times the linear half. -/
def gated (a b : EReal) : EReal :=
  a * (Ideal.ofBits FTy.f32 0x3F000000#32 * (1
    + Ideal.tanh (Ideal.ofBits FTy.f32 0x3F4C422A#32 * (a + Ideal.ofBits FTy.f32 0x3D372713#32 * (a * (a * a)))))) * b

/-- The convolution of one chunk of the up-projected rows, at row `s` of the tile and channel `j`. -/
def conv (u : Vec Ideal S1x528x512 .f32) (cw : Vec Ideal S1x3x512 .f32) (cb : Vec Ideal S1x1x512 .f32) (s : Fin 512) (j : Fin 512) : EReal :=
  u (ix3 0 ⟨7 + s.val, by omega⟩ j) * cw (ix3 0 0 j) + u (ix3 0 ⟨8 + s.val, by omega⟩ j) * cw (ix3 0 1 j)
    + u (ix3 0 ⟨9 + s.val, by omega⟩ j) * cw (ix3 0 2 j) + cb (ix3 0 0 j)

/-- The convolution of the tail chunk. -/
def convT (u : Vec Ideal S528x256 .f32) (cw : Vec Ideal S3x256 .f32) (cb : Vec Ideal S1x256 .f32) (s : Fin 512) (j : Fin 256) : EReal :=
  u (ix2 ⟨7 + s.val, by omega⟩ j) * cw (ix2 0 j) + u (ix2 ⟨8 + s.val, by omega⟩ j) * cw (ix2 1 j)
    + u (ix2 ⟨9 + s.val, by omega⟩ j) * cw (ix2 2 j) + cb (ix2 0 j)

/-- One chunk's up projection. -/
theorem up_apply (h : Vec Ideal S528x1024 .bf16) (w : Vec Ideal S1x1024x512 .bf16) (r : Fin 528) (j : Fin 512) :
    k0_pay12 h w (ix3 0 r j) = ∑ d : Fin 1024, h (ix2 r d) * w (ix3 0 d j) := by
  pointwise [k0_pay12]

/-- The tail's up projection. -/
theorem upT_apply (h : Vec Ideal S528x1024 .bf16) (w : Vec Ideal S1024x256 .bf16) (r : Fin 528) (j : Fin 256) :
    k0_pay71 h w (ix2 r j) = ∑ d : Fin 1024, h (ix2 r d) * w (ix2 d j) := by
  pointwise [k0_pay71]

/-- One chunk added into the accumulator. -/
def step (acc : Vec Ideal S512x1024 .f32) (cw : Vec Ideal S1x3x512 .f32) (cb : Vec Ideal S1x1x512 .f32) (wd : Vec Ideal S1x256x1024 .bf16)
    (u : Vec Ideal S1x528x512 .f32) : Vec Ideal S512x1024 .f32 :=
  k0_pay17 acc (k0_pay15 wd) (k0_pay16 cw cb u) (constant S512x1024 .f32 0x00000000#32)

/-- One chunk added to the accumulator, at one element. -/
theorem step_apply (acc : Vec Ideal S512x1024 .f32) (cw : Vec Ideal S1x3x512 .f32) (cb : Vec Ideal S1x1x512 .f32)
    (wd : Vec Ideal S1x256x1024 .bf16) (u : Vec Ideal S1x528x512 .f32) (s : Fin 512) (l : Fin 1024) :
    step acc cw cb wd u (ix2 s l) = acc (ix2 s l)
      + ∑ j : Fin 256, gated (conv u cw cb s ⟨j.val, by omega⟩) (conv u cw cb s ⟨256 + j.val, by omega⟩) * wd (ix3 0 j l) := by
  unfold step gated conv
  pointwise [k0_pay15, k0_pay16, k0_pay17]
  simp only [show (8 + s.val + 528 - 1) % 528 = 7 + s.val by omega, show (8 + s.val + 528 - 527) % 528 = 9 + s.val by omega]

/-- A choice on the equality of two words. -/
theorem sel_eq (i k : BitVec 32) (a b : EReal) : Scalar.select (Scalar.cmpi .eq i k) a b = if i = k then a else b := by
  by_cases h : i = k
  · subst h; simp [Scalar.select, Scalar.cmpi, IntOp.cmpi]
  · have hb : (i == k) = false := by simpa using h
    simp [Scalar.select, Scalar.cmpi, IntOp.cmpi, h, hb]

/-- The rows before the tile. -/
theorem before_apply (i : BitVec 32) (g : Vec Ideal S1x1024 .f32) (sh sc : Vec Ideal S1x1x1024 .f32) (x : Vec Ideal S1x8x1024 .f32) (r : Fin 8) (d : Fin 1024) :
    k0_pay9 i (k0_pay5 g sh sc x) (ix2 r d) = if i = 0#32 then 0 else
      pre (fun d => x (ix3 0 r d)) (fun d => g (ix2 0 d)) (fun d => sc (ix3 0 0 d)) (fun d => sh (ix3 0 0 d)) d := by
  unfold pre nrm
  pointwise [k0_pay9, k0_pay5, k0_pay2, k0_pay3, k0_pay4]
  exact sel_eq _ _ _ _

/-- The rows after the tile. -/
theorem after_apply (i : BitVec 32) (g : Vec Ideal S1x1024 .f32) (sh sc : Vec Ideal S1x1x1024 .f32) (x : Vec Ideal S1x8x1024 .f32) (r : Fin 8) (d : Fin 1024) :
    k0_pay11 (k0_pay8 i (k0_pay2 g) (k0_pay3 sh) (k0_pay4 sc) (k0_pay6 x) (k0_pay7 x)) (ix2 r d) = if i = 7#32 then 0 else
      pre (fun d => x (ix3 0 r d)) (fun d => g (ix2 0 d)) (fun d => sc (ix3 0 0 d)) (fun d => sh (ix3 0 0 d)) d := by
  unfold pre nrm
  pointwise [k0_pay11, k0_pay8, k0_pay7, k0_pay6, k0_pay2, k0_pay3, k0_pay4]
  exact sel_eq _ _ _ _

/-- The tile's rows. -/
theorem tile_apply (g : Vec Ideal S1x1024 .f32) (sh sc : Vec Ideal S1x1x1024 .f32) (x : Vec Ideal S1x512x1024 .f32) (r : Fin 512) (d : Fin 1024) :
    k0_pay10 (k0_pay2 g) (k0_pay3 sh) (k0_pay4 sc) x (ix2 r d) =
      pre (fun d => x (ix3 0 r d)) (fun d => g (ix2 0 d)) (fun d => sc (ix3 0 0 d)) (fun d => sh (ix3 0 0 d)) d := by
  unfold pre nrm
  pointwise [k0_pay10, k0_pay2, k0_pay3, k0_pay4]

/-- The tile's result from the accumulator and the tail. -/
def fin (x : Vec Ideal S1x512x1024 .f32) (acc : Vec Ideal S512x1024 .f32) (cw : Vec Ideal S3x256 .f32) (cb : Vec Ideal S1x256 .f32)
    (wd : Vec Ideal S128x1024 .bf16) (u : Vec Ideal S528x256 .f32) (gate : Vec Ideal S1x1x1024 .f32) (g : Vec Ideal S1x1024 .f32) :
    Vec Ideal S1x512x1024 .f32 :=
  k0_pay1 (k0_pay79 x) (k0_pay80 acc (k0_pay75 wd) (k0_pay76 cw cb u) (k0_pay77 cw cb u) (k0_pay78 cw cb u) gate g)

/-- The accumulator plus the tail, at row `s` and feature `l`. -/
def down (acc : Vec Ideal S512x1024 .f32) (cw : Vec Ideal S3x256 .f32) (cb : Vec Ideal S1x256 .f32)
    (wd : Vec Ideal S128x1024 .bf16) (u : Vec Ideal S528x256 .f32) (s : Fin 512) (l : Fin 1024) : EReal :=
  acc (ix2 s l) + ∑ j : Fin 128, gated (convT u cw cb s ⟨j.val, by omega⟩) (convT u cw cb s ⟨128 + j.val, by omega⟩) * wd (ix2 j l)

/-- The accumulator plus the tail's product, as a block. -/
def sumBlock (acc : Vec Ideal S512x1024 .f32) (cw : Vec Ideal S3x256 .f32) (cb : Vec Ideal S1x256 .f32)
    (wd : Vec Ideal S128x1024 .bf16) (u : Vec Ideal S528x256 .f32) : FVec Ideal S512x1024 .f32 :=
  addf (F := Ideal) acc (matmul dot_S512x128_S128x1024_S512x1024_1_0_0_1_n_n none
    (truncf .bf16 (mulf (mulf (k0_pay77 cw cb u) (mulf (broadcast S512x128 (Scalar.ofBits .f32 0x3F000000#32)) (k0_pay78 cw cb u)))
      (extractStridedSlice S512x128 ![0, 128] (k0_pay76 cw cb u) slices_S512x256_o0_128_S512x128)) bitsLt_bf16_f32)
    (k0_pay75 wd) (constant S512x1024 .f32 0x00000000#32))

/-- The tail channels added to the accumulator, at one element. -/
theorem sumBlock_apply (acc : Vec Ideal S512x1024 .f32) (cw : Vec Ideal S3x256 .f32) (cb : Vec Ideal S1x256 .f32)
    (wd : Vec Ideal S128x1024 .bf16) (u : Vec Ideal S528x256 .f32) (s : Fin 512) (l : Fin 1024) :
    sumBlock acc cw cb wd u (ix2 s l) = down acc cw cb wd u s l := by
  unfold sumBlock down gated convT
  pointwise [k0_pay75, k0_pay76, k0_pay77, k0_pay78]
  simp only [show (8 + s.val + 528 - 1) % 528 = 7 + s.val by omega, show (8 + s.val + 528 - 527) % 528 = 9 + s.val by omega]

/-- The norm, the gate and the residual over a finished sum. -/
def close (x : Vec Ideal S1x512x1024 .f32) (y : FVec Ideal S512x1024 .f32) (gate : Vec Ideal S1x1x1024 .f32) (g : Vec Ideal S1x1024 .f32) :
    FVec Ideal S1x512x1024 .f32 :=
  k0_pay1 (k0_pay79 x) (mulf (F := Ideal) (broadcastTo S512x1024 (shapeCast S1x1024 gate shapeCasts_S1x1x1024_S1x1024) broadcasts_S1x1024_S512x1024)
    (mulf (mulf y (broadcastTo S512x1024 (rsqrt (addf (divf (shapeCast S512x1 (multiReduction .add [1] S512 (mulf y y) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
      (broadcastTo S512x1024 (shapeCast S1x1024 g shapeCasts_S1x1024_S1x1024) broadcasts_S1x1024_S512x1024)))

/-- The norm, the gate and the residual, at one element. -/
theorem close_apply (x : Vec Ideal S1x512x1024 .f32) (y : FVec Ideal S512x1024 .f32) (gate : Vec Ideal S1x1x1024 .f32) (g : Vec Ideal S1x1024 .f32) (s : Fin 512) (l : Fin 1024) :
    close x y gate g (ix3 0 s l) = x (ix3 0 s l) + gate (ix3 0 0 l) * nrm (fun d => y (ix2 s d)) (fun d => g (ix2 0 d)) l := by
  unfold close nrm
  pointwise [k0_pay1, k0_pay79]

/-- The block that the kernel stores, at one element: the tail, then the norm, the gate and the residual. -/
theorem fin_apply (x : Vec Ideal S1x512x1024 .f32) (acc : Vec Ideal S512x1024 .f32) (cw : Vec Ideal S3x256 .f32) (cb : Vec Ideal S1x256 .f32)
    (wd : Vec Ideal S128x1024 .bf16) (u : Vec Ideal S528x256 .f32) (gate : Vec Ideal S1x1x1024 .f32) (g : Vec Ideal S1x1024 .f32) (s : Fin 512) (l : Fin 1024) :
    fin x acc cw cb wd u gate g (ix3 0 s l)
      = x (ix3 0 s l) + gate (ix3 0 0 l) * nrm (down acc cw cb wd u s) (fun d => g (ix2 0 d)) l := by
  have h : fin x acc cw cb wd u gate g = close x (sumBlock acc cw cb wd u) gate g := rfl
  rw [h, close_apply]
  simp only [sumBlock_apply]

end Cert.Proof.Ffn

end
-- ==== Proof.FfnRef.lean ====
/-
  The feed-forward block's value as one formula over its eight arguments, and the reference's result as that formula.
-/
module

public import proofs.«01_k».proof.Proof.FfnPoint
public import proofs.«01_k».proof.Proof.Gen.Reference2Ideal.Run
public import Idealize.ShloMosaic.Lib.Pointwise

@[expose] public section

set_option maxRecDepth 16384

noncomputable section

namespace Cert.Proof.Ffn

open Cert.Reference2Ideal Cert.Reference2Ideal.Gen
open Idealize.ShloMosaic
open Idealize.ShloMosaic.TcCoe Idealize.ShloMosaic.Tactic
open Idealize.SL.Sem

section
variable (X : FVec Ideal S16x4096x1024 .f32) (M : FVec Ideal S24x6144 .f32) (P Q : FVec Ideal S1024 .f32)
  (U : FVec Ideal S1024x5376 .f32) (CW : FVec Ideal S3x5376 .f32) (CB : FVec Ideal S5376 .f32) (D : FVec Ideal S2688x1024 .f32)

/-- Row `t` of batch entry `q`, normalized and modulated. -/
def hid (q : Fin 16) (t : Fin 4096) (d : Fin 1024) : EReal :=
  pre (fun d => X (ix3 q t d)) (fun d => P (ix1 d)) (fun d => M (ix2 ⟨q.val, by omega⟩ ⟨4096 + d.val, by omega⟩))
    (fun d => M (ix2 ⟨q.val, by omega⟩ ⟨3072 + d.val, by omega⟩)) d

/-- The normalized rows with a zero row put before them and another after: row `n` is row `n - 1` of the sequence. -/
def hidP (q : Fin 16) (n : ℕ) (d : Fin 1024) : EReal :=
  if h : 1 ≤ n ∧ n < 4097 then hid X M P q ⟨n - 1, by omega⟩ d else 0

/-- The up projection of the padded rows. -/
def upP (q : Fin 16) (n : ℕ) (e : Fin 5376) : EReal := ∑ d : Fin 1024, hidP X M P q n d * U (ix2 d e)

/-- The convolution over three neighbouring rows. -/
def cv (q : Fin 16) (t : ℕ) (e : Fin 5376) : EReal :=
  upP X M P U q t e * CW (ix2 0 e) + upP X M P U q (t + 1) e * CW (ix2 1 e) + upP X M P U q (t + 2) e * CW (ix2 2 e) + CB (ix1 e)

/-- One channel's share of the down projection. -/
def part (q : Fin 16) (t : ℕ) (l : Fin 1024) (f : Fin 2688) : EReal :=
  gated (cv X M P U CW CB q t ⟨f.val, by omega⟩) (cv X M P U CW CB q t ⟨2688 + f.val, by omega⟩) * D (ix2 f l)

/-- The result at batch entry `q`, row `t`, feature `l`. -/
def goal (q : Fin 16) (t : Fin 4096) (l : Fin 1024) : EReal :=
  X (ix3 q t l) + M (ix2 ⟨q.val, by omega⟩ ⟨5120 + l.val, by omega⟩)
    * nrm (fun l => ∑ f : Fin 2688, part X M P U CW CB D q t l f) (fun d => Q (ix1 d)) l

/-- The reference's normalized rows. -/
def hidT : FVec Ideal S16x4096x1024 .f32 :=
  addf (F := Ideal) (mulf (mulf (mulf X (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf X X) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 P))) (broadcastInDim S16x4096x1024 ![0, 1, 2] bcast_S16x1x1024_S16x4096x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![0, 4096] (extractStridedSlice S16x6144 ![0, 0] M slices_S24x6144_S16x6144_0_0) slices_S16x6144_S16x1024_0_4096))))) (broadcastInDim S16x4096x1024 ![0, 1, 2] bcast_S16x1x1024_S16x4096x1024_0_1_2 (broadcastInDim S16x1x1024 ![0, 2] bcast_S16x1024_S16x1x1024_0_2 (extractStridedSlice S16x1024 ![0, 3072] (extractStridedSlice S16x6144 ![0, 0] M slices_S24x6144_S16x6144_0_0) slices_S16x6144_S16x1024_0_3072)))

/-- The normed and modulated input, at one element. -/
theorem hidT_apply (q : Fin 16) (t : Fin 4096) (d : Fin 1024) : hidT X M P (ix3 q t d) = hid X M P q t d := by
  unfold hidT hid pre nrm
  pointwise

/-- The reference's up projection, padded. -/
def padT (u : FVec Ideal S16x4096x5376 .f32) : FVec Ideal S16x4098x5376 .f32 :=
  pad S16x4098x5376 ![0, 1, 0] ![0, 1, 0] ![0, 0, 0] u (sitofp .f32 (constantI S_ 32 0#32)) pads_S16x4096x5376_S16x4098x5376_000_110_000 h_S_

/-- The zero-padded sequence: zero at both ends, the sequence between. -/
theorem padT_apply (u : FVec Ideal S16x4096x5376 .f32) (q : Fin 16) (n : Fin 4098) (e : Fin 5376) :
    padT u (ix3 q n e) = if h : 1 ≤ n.val ∧ n.val < 4097 then u (ix3 q ⟨n.val - 1, by omega⟩ e) else 0 := by
  have hz : (FloatOps.sitofp (F := Ideal) .f32 (0#32 : BitVec 32) : EReal) = 0 := by
    show (((0#32 : BitVec 32).toInt : ℝ) : EReal) = 0
    simp
  unfold padT
  pointwise
  by_cases h : 1 ≤ n.val ∧ n.val < 4097
  · rw [dif_pos h, dif_pos ⟨h.1, by omega⟩]
  · rw [dif_neg h, dif_neg fun h' => h ⟨h'.1, by omega⟩]
    exact hz

/-- The reference's up projection. -/
def upR (h : FVec Ideal S16x4096x1024 .f32) : FVec Ideal S16x4096x5376 .f32 :=
  Host.dotGeneral dot_S16x4096x1024_S1024x5376_S16x4096x5376_2_0_01_1_n_n none h U

/-- The up-projection, at one element. -/
theorem upR_apply (h : FVec Ideal S16x4096x1024 .f32) (q : Fin 16) (t : Fin 4096) (e : Fin 5376) :
    upR U h (ix3 q t e) = ∑ d : Fin 1024, h (ix3 q t d) * U (ix2 d e) := by
  unfold upR
  pointwise

/-- The reference's convolution. -/
def convR (p : FVec Ideal S16x4098x5376 .f32) : FVec Ideal S16x4096x5376 .f32 :=
  addf (F := Ideal) (addf (addf (mulf (extractStridedSlice S16x4096x5376 ![0, 0, 0] p slices_S16x4098x5376_S16x4096x5376_0_0_0) (broadcastInDim S16x4096x5376 ![0, 1, 2] bcast_S1x1x5376_S16x4096x5376_0_1_2 (broadcastInDim S1x1x5376 ![2] bcast_S5376_S1x1x5376_2 (shapeCast S5376 (extractStridedSlice S1x5376 ![0, 0] CW slices_S3x5376_S1x5376_0_0) shapeCasts_S1x5376_S5376)))) (mulf (extractStridedSlice S16x4096x5376 ![0, 1, 0] p slices_S16x4098x5376_S16x4096x5376_0_1_0) (broadcastInDim S16x4096x5376 ![0, 1, 2] bcast_S1x1x5376_S16x4096x5376_0_1_2 (broadcastInDim S1x1x5376 ![2] bcast_S5376_S1x1x5376_2 (shapeCast S5376 (extractStridedSlice S1x5376 ![1, 0] CW slices_S3x5376_S1x5376_1_0) shapeCasts_S1x5376_S5376))))) (mulf (extractStridedSlice S16x4096x5376 ![0, 2, 0] p slices_S16x4098x5376_S16x4096x5376_0_2_0) (broadcastInDim S16x4096x5376 ![0, 1, 2] bcast_S1x1x5376_S16x4096x5376_0_1_2 (broadcastInDim S1x1x5376 ![2] bcast_S5376_S1x1x5376_2 (shapeCast S5376 (extractStridedSlice S1x5376 ![2, 0] CW slices_S3x5376_S1x5376_2_0) shapeCasts_S1x5376_S5376))))) (broadcastInDim S16x4096x5376 ![0, 1, 2] bcast_S1x1x5376_S16x4096x5376_0_1_2 (broadcastInDim S1x1x5376 ![2] bcast_S5376_S1x1x5376_2 CB))

/-- The convolution, at one element: three neighbouring rows of the padded sequence. -/
theorem convR_apply (p : FVec Ideal S16x4098x5376 .f32) (q : Fin 16) (t : Fin 4096) (e : Fin 5376) :
    convR CW CB p (ix3 q t e) = p (ix3 q ⟨t.val, by omega⟩ e) * CW (ix2 0 e) + p (ix3 q ⟨t.val + 1, by omega⟩ e) * CW (ix2 1 e)
      + p (ix3 q ⟨t.val + 2, by omega⟩ e) * CW (ix2 2 e) + CB (ix1 e) := by
  unfold convR
  pointwise
  simp only [Nat.add_comm 1, Nat.add_comm 2]

/-- The reference's activation and down projection. -/
def downR (v : FVec Ideal S16x4096x5376 .f32) : FVec Ideal S16x4096x1024 .f32 :=
  Host.dotGeneral dot_S16x4096x2688_S2688x1024_S16x4096x1024_2_0_01_1_n_n none (mulf (mulf (extractStridedSlice S16x4096x2688 ![0, 0, 0] v slices_S16x4096x5376_S16x4096x2688_0_0_0) (mulf (broadcastInDim S16x4096x2688 ![] bcast_S_S16x4096x2688 (constant S_ .f32 0x3F000000#32)) (addf (broadcastInDim S16x4096x2688 ![] bcast_S_S16x4096x2688 (constant S_ .f32 0x3F800000#32)) (Host.tanh (mulf (broadcastInDim S16x4096x2688 ![] bcast_S_S16x4096x2688 (constant S_ .f32 0x3F4C422A#32)) (addf (extractStridedSlice S16x4096x2688 ![0, 0, 0] v slices_S16x4096x5376_S16x4096x2688_0_0_0) (mulf (broadcastInDim S16x4096x2688 ![] bcast_S_S16x4096x2688 (constant S_ .f32 0x3D372713#32)) (mulf (mulf (extractStridedSlice S16x4096x2688 ![0, 0, 0] v slices_S16x4096x5376_S16x4096x2688_0_0_0) (extractStridedSlice S16x4096x2688 ![0, 0, 0] v slices_S16x4096x5376_S16x4096x2688_0_0_0)) (extractStridedSlice S16x4096x2688 ![0, 0, 0] v slices_S16x4096x5376_S16x4096x2688_0_0_0))))))))) (extractStridedSlice S16x4096x2688 ![0, 0, 2688] v slices_S16x4096x5376_S16x4096x2688_0_0_2688)) D

/-- The gated product and the down-projection, at one element. -/
theorem downR_apply (v : FVec Ideal S16x4096x5376 .f32) (q : Fin 16) (t : Fin 4096) (l : Fin 1024) :
    downR D v (ix3 q t l) = ∑ f : Fin 2688, gated (v (ix3 q t ⟨f.val, by omega⟩)) (v (ix3 q t ⟨2688 + f.val, by omega⟩)) * D (ix2 f l) := by
  unfold downR gated
  pointwise
  simp only [show ∀ a : EReal, a * a * a = a * (a * a) from fun a => mul_assoc a a a]

/-- The reference's last norm, gate and residual. -/
def closeR (y : FVec Ideal S16x4096x1024 .f32) : FVec Ideal S16x4096x1024 .f32 :=
  addf (F := Ideal) X (mulf (broadcastInDim S16x4096x1024 ![0, 1, 2] bcast_S16x1x1024_S16x4096x1024_0_1_2 (broadcastInDim S16x1x1024 ![0, 2] bcast_S16x1024_S16x1x1024_0_2 (extractStridedSlice S16x1024 ![0, 5120] (extractStridedSlice S16x6144 ![0, 0] M slices_S24x6144_S16x6144_0_0) slices_S16x6144_S16x1024_0_5120))) (mulf (mulf y (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf y y) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 Q))))

/-- The norm, the gate and the residual, at one element. -/
theorem closeR_apply (y : FVec Ideal S16x4096x1024 .f32) (q : Fin 16) (t : Fin 4096) (l : Fin 1024) :
    closeR X M Q y (ix3 q t l) = X (ix3 q t l) + M (ix2 ⟨q.val, by omega⟩ ⟨5120 + l.val, by omega⟩)
      * nrm (fun l => y (ix3 q t l)) (fun d => Q (ix1 d)) l := by
  unfold closeR nrm
  pointwise

/-- The reference's result is the formula. -/
theorem reference_apply (q : Fin 16) (t : Fin 4096) (l : Fin 1024) :
    closeR X M Q (downR D (convR CW CB (padT (upR U (hidT X M P))))) (ix3 q t l) = goal X M P Q U CW CB D q t l := by
  have hp : ∀ (n : Fin 4098) (e : Fin 5376), padT (upR U (hidT X M P)) (ix3 q n e) = upP X M P U q n.val e := by
    intro n e
    rw [padT_apply]
    unfold upP hidP
    by_cases h : 1 ≤ n.val ∧ n.val < 4097
    · simp only [dif_pos h, upR_apply, hidT_apply]
    · simp only [dif_neg h, zero_mul, Finset.sum_const_zero]
  rw [closeR_apply]
  unfold goal part cv
  simp only [downR_apply, convR_apply, hp]
end

variable (m : (ℓ : Loc nD τ sig) → Buf (Elt Ideal) ℓ) (c : Dev nD)

/-- The stages are the reference's own text. -/
theorem reference_eq (V0 : Valuation τ sig (Elt Ideal)) :
    closeR (V0 (Proc.devRef .tc main_arg0)) (V0 (Proc.devRef .tc main_arg1)) (V0 (Proc.devRef .tc main_arg3)) (Cert.Reference2Ideal.Value.res_main_v70 V0)
    = closeR (V0 (Proc.devRef .tc main_arg0)) (V0 (Proc.devRef .tc main_arg1)) (V0 (Proc.devRef .tc main_arg3))
      (downR (V0 (Proc.devRef .tc main_arg7)) (convR (V0 (Proc.devRef .tc main_arg5)) (V0 (Proc.devRef .tc main_arg6))
        (padT (upR (V0 (Proc.devRef .tc main_arg4)) (hidT (V0 (Proc.devRef .tc main_arg0)) (V0 (Proc.devRef .tc main_arg1)) (V0 (Proc.devRef .tc main_arg2))))))) := rfl

end Cert.Proof.Ffn

end
-- ==== Proof.FfnBlock.lean ====
module

public import proofs.«01_k».proof.Proof.FfnPoint
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Proof.Ffn

open Cert.Kernel2Ideal Cert.Kernel2Ideal.Gen
open Idealize.ShloMosaic
open Idealize.ShloMosaic.TcCoe Idealize.ShloMosaic.Tactic
open Idealize.SL.Sem

/-- The normalized rows of a tile with the eight before and the eight after it. -/
def rows (i : BitVec 32) (x : Vec Ideal S1x512x1024 .f32) (xp xn : Vec Ideal S1x8x1024 .f32) (sh sc : Vec Ideal S1x1x1024 .f32)
    (g : Vec Ideal S1x1024 .f32) : Vec Ideal S528x1024 .bf16 :=
  View.canon [⟨Rect.unit ![520, 0] ![8, 1024] inb_S528x1024_S8x1024_520_0,
      k0_pay11 (k0_pay8 i (k0_pay2 g) (k0_pay3 sh) (k0_pay4 sc) (k0_pay6 xn) (k0_pay7 xn))⟩,
    ⟨Rect.unit ![8, 0] ![512, 1024] inb_S528x1024_S512x1024_8_0, k0_pay10 (k0_pay2 g) (k0_pay3 sh) (k0_pay4 sc) x⟩,
    ⟨Rect.unit ![0, 0] ![8, 1024] inb_S528x1024_S8x1024_0_0, k0_pay9 i (k0_pay5 g sh sc xp)⟩]

/-- The three stores of the rows read back whole. -/
theorem rows_read {sig : RefSig} {κ : Kind} {sp : Space} (v : View sig κ sp S528x1024 .bf16) (p : Vec Ideal S8x1024 .bf16) (q : Vec Ideal S512x1024 .bf16) (r : Vec Ideal S8x1024 .bf16) :
    v.readCov (Val := Elt Ideal) [⟨Rect.unit ![520, 0] ![8, 1024] inb_S528x1024_S8x1024_520_0, p⟩,
      ⟨Rect.unit ![8, 0] ![512, 1024] inb_S528x1024_S512x1024_8_0, q⟩, ⟨Rect.unit ![0, 0] ![8, 1024] inb_S528x1024_S8x1024_0_0, r⟩]
      (Rect.unit ![0, 0] ![528, 1024] inb_S528x1024_S528x1024_0_0).toLoadRect
    = View.canon [⟨Rect.unit ![520, 0] ![8, 1024] inb_S528x1024_S8x1024_520_0, p⟩,
      ⟨Rect.unit ![8, 0] ![512, 1024] inb_S528x1024_S512x1024_8_0, q⟩, ⟨Rect.unit ![0, 0] ![8, 1024] inb_S528x1024_S8x1024_0_0, r⟩] := by
  have hc : ∀ y : S528x1024.Idx, ∃ pc ∈ ([⟨Rect.unit ![520, 0] ![8, 1024] inb_S528x1024_S8x1024_520_0, p⟩,
      ⟨Rect.unit ![8, 0] ![512, 1024] inb_S528x1024_S512x1024_8_0, q⟩, ⟨Rect.unit ![0, 0] ![8, 1024] inb_S528x1024_S8x1024_0_0, r⟩] :
      List (View.Piece (Elt Ideal) S528x1024 .bf16)), y ∈ pc.1.set := by
    intro y
    have h0 : (y 0).val < 528 := (y 0).isLt
    have h1 : (y 1).val < 1024 := (y 1).isLt
    by_cases a : (y 0).val < 8
    · refine ⟨_, List.mem_cons_of_mem _ (List.mem_cons_of_mem _ List.mem_cons_self), ?_⟩
      rw [Rect.mem_set_unit]; intro k; fin_cases k
      · exact ⟨Nat.zero_le _, by show (y 0).val < 0 + 8; omega⟩
      · exact ⟨Nat.zero_le _, by show (y 1).val < 0 + 1024; omega⟩
    by_cases b : (y 0).val < 520
    · refine ⟨_, List.mem_cons_of_mem _ List.mem_cons_self, ?_⟩
      rw [Rect.mem_set_unit]; intro k; fin_cases k
      · exact ⟨by show 8 ≤ (y 0).val; omega, by show (y 0).val < 8 + 512; omega⟩
      · exact ⟨Nat.zero_le _, by show (y 1).val < 0 + 1024; omega⟩
    · refine ⟨_, List.mem_cons_self, ?_⟩
      rw [Rect.mem_set_unit]; intro k; fin_cases k
      · exact ⟨by show 520 ≤ (y 0).val; omega, by show (y 0).val < 520 + 8; omega⟩
      · exact ⟨Nat.zero_le _, by show (y 1).val < 0 + 1024; omega⟩
  rw [View.readCov_eq_canon_ld v _ _ fun y => hc _]
  exact View.ld_unit_lit _ _ (by decide)

section
variable (W : Vec Ideal S10x1024x512 .bf16) (C : Vec Ideal S10x3x512 .f32) (B : Vec Ideal S10x1x512 .f32) (D : Vec Ideal S10x256x1024 .bf16)

/-- Chunk `k` of the up weights. -/
def upW (k : Fin 10) : Vec Ideal S1x1024x512 .bf16 := View.ld W (Rect.unit (s := S10x1024x512) ![k.val, 0, 0] ![1, 1024, 512] (by
  intro a; fin_cases a <;> revert k <;> decide))
/-- Chunk `k` of the convolution's weights. -/
def convW (k : Fin 10) : Vec Ideal S1x3x512 .f32 := View.ld C (Rect.unit (s := S10x3x512) ![k.val, 0, 0] ![1, 3, 512] (by
  intro a; fin_cases a <;> revert k <;> decide))
/-- Chunk `k` of the convolution's bias. -/
def biasW (k : Fin 10) : Vec Ideal S1x1x512 .f32 := View.ld B (Rect.unit (s := S10x1x512) ![k.val, 0, 0] ![1, 1, 512] (by
  intro a; fin_cases a <;> revert k <;> decide))
/-- Chunk `k` of the down weights. -/
def downW (k : Fin 10) : Vec Ideal S1x256x1024 .bf16 := View.ld D (Rect.unit (s := S10x256x1024) ![k.val, 0, 0] ![1, 256, 1024] (by
  intro a; fin_cases a <;> revert k <;> decide))

/-- Up-projection weights loaded at a literal chunk number are that chunk. -/
theorem upW_lit (n : ℕ) (h : n < 10) (inb) : View.ld W (Rect.unit (s := S10x1024x512) ![n, 0, 0] ![1, 1024, 512] inb) = upW W ⟨n, h⟩ := rfl
/-- Convolution taps loaded at a literal chunk number are that chunk. -/
theorem convW_lit (n : ℕ) (h : n < 10) (inb) : View.ld C (Rect.unit (s := S10x3x512) ![n, 0, 0] ![1, 3, 512] inb) = convW C ⟨n, h⟩ := rfl
/-- The convolution's bias loaded at a literal chunk number is that chunk. -/
theorem biasW_lit (n : ℕ) (h : n < 10) (inb) : View.ld B (Rect.unit (s := S10x1x512) ![n, 0, 0] ![1, 1, 512] inb) = biasW B ⟨n, h⟩ := rfl
/-- Down-projection weights loaded at a literal chunk number are that chunk. -/
theorem downW_lit (n : ℕ) (h : n < 10) (inb) : View.ld D (Rect.unit (s := S10x256x1024) ![n, 0, 0] ![1, 256, 1024] inb) = downW D ⟨n, h⟩ := rfl

/-- One more chunk added into the accumulator. -/
def chunk (h : Vec Ideal S528x1024 .bf16) (acc : Vec Ideal S512x1024 .f32) (k : Fin 10) : Vec Ideal S512x1024 .f32 :=
  step acc (convW C k) (biasW B k) (downW D k) (k0_pay12 h (upW W k))

/-- The accumulator after the ten chunks. -/
def accum (h : Vec Ideal S528x1024 .bf16) : Vec Ideal S512x1024 .f32 :=
  chunk W C B D h (chunk W C B D h (chunk W C B D h (chunk W C B D h (chunk W C B D h (chunk W C B D h (chunk W C B D h (chunk W C B D h
    (chunk W C B D h (chunk W C B D h (k0_pay13 (F := Ideal)) 0) 1) 2) 3) 4) 5) 6) 7) 8) 9
end

variable (c : Dev nD) (m : (ℓ : Loc nD τ sig) → Buf (Elt Ideal) ℓ)

/-- The three stores of a grid point read back as its rows. -/
theorem rows_fold {sig : RefSig} {κ : Kind} {sp : Space} (v : View sig κ sp S528x1024 .bf16) (i : BitVec 32) (x : Vec Ideal S1x512x1024 .f32)
    (xp xn : Vec Ideal S1x8x1024 .f32) (sh sc : Vec Ideal S1x1x1024 .f32) (g : Vec Ideal S1x1024 .f32) :
    v.readCov (Val := Elt Ideal) [⟨Rect.unit ![520, 0] ![8, 1024] inb_S528x1024_S8x1024_520_0,
        k0_pay11 (k0_pay8 i (k0_pay2 g) (k0_pay3 sh) (k0_pay4 sc) (k0_pay6 xn) (k0_pay7 xn))⟩,
      ⟨Rect.unit ![8, 0] ![512, 1024] inb_S528x1024_S512x1024_8_0, k0_pay10 (k0_pay2 g) (k0_pay3 sh) (k0_pay4 sc) x⟩,
      ⟨Rect.unit ![0, 0] ![8, 1024] inb_S528x1024_S8x1024_0_0, k0_pay9 i (k0_pay5 g sh sc xp)⟩]
      (Rect.unit ![0, 0] ![528, 1024] inb_S528x1024_S528x1024_0_0).toLoadRect = rows i x xp xn sh sc g := rows_read v _ _ _

/-- What a grid point leaves in the block, over its rows. -/
theorem outs_eq' (t : Fin cfg0.N) (h : Vec Ideal S528x1024 .bf16)
    (hh : rows (BitVec.ofNat 32 (grid0.coords t 1).val) (iblk m c 0 t) (iblk m c 1 t) (iblk m c 2 t) (iblk m c 3 t) (iblk m c 4 t) (iblk m c 6 t) = h) :
    outsAt0 m c t =
    fin (iblk m c 0 t) (accum (iblk m c 8 t) (iblk m c 10 t) (iblk m c 12 t) (iblk m c 14 t) h)
      (iblk m c 11 t) (iblk m c 13 t) (iblk m c 15 t) (k0_pay71 h (iblk m c 9 t)) (iblk m c 5 t) (iblk m c 7 t) := by
  unfold outsAt0
  frame_open
  simp (disch := decide) only [↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread, rows_fold, upW_lit, convW_lit, biasW_lit, downW_lit]
  try simp only [hh]
  clear hh
  generalize iblk m c 8 t = W, iblk m c 10 t = C, iblk m c 12 t = B, iblk m c 14 t = D
  rfl

/-- What a grid point leaves in the result's block. -/
theorem outs_eq (t : Fin cfg0.N) : outsAt0 m c t =
    fin (iblk m c 0 t) (accum (iblk m c 8 t) (iblk m c 10 t) (iblk m c 12 t) (iblk m c 14 t)
        (rows (BitVec.ofNat 32 (grid0.coords t 1).val) (iblk m c 0 t) (iblk m c 1 t) (iblk m c 2 t) (iblk m c 3 t) (iblk m c 4 t) (iblk m c 6 t)))
      (iblk m c 11 t) (iblk m c 13 t) (iblk m c 15 t)
      (k0_pay71 (rows (BitVec.ofNat 32 (grid0.coords t 1).val) (iblk m c 0 t) (iblk m c 1 t) (iblk m c 2 t) (iblk m c 3 t) (iblk m c 4 t) (iblk m c 6 t)) (iblk m c 9 t))
      (iblk m c 5 t) (iblk m c 7 t) := outs_eq' c m t _ rfl

end Cert.Proof.Ffn

end
-- ==== Proof.FfnReads.lean ====
/-
  What each block of the feed-forward kernel holds of its arrays.
-/
module

public import proofs.«01_k».proof.Defs
public import proofs.«01_k».proof.Proof.FfnRef
public import proofs.«01_k».proof.Proof.FfnBlock
public import Idealize.ShloMosaic.Lib.StableHlo.ReadAt

@[expose] public section

set_option maxRecDepth 16384

noncomputable section

namespace Cert.Proof.Ffn

open Cert.Kernel2Ideal Cert.Kernel2Ideal.Gen
open Idealize.ShloMosaic
open Idealize.ShloMosaic.TcCoe Idealize.ShloMosaic.Tactic
open Idealize.SL.Sem

/-- Which block of its array each window is at, at a grid point. -/
theorem idx : ∀ t : Fin cfg0.N, win0_0.index t = ![t.val / 8, t.val % 8, 0] ∧ win0_1.index t = ![t.val / 8, 64 * (t.val % 8) - 1, 0]
    ∧ win0_2.index t = ![t.val / 8, min (64 * (t.val % 8) + 64) 511, 0] ∧ win0_3.index t = ![t.val / 8, 0, 3]
    ∧ win0_4.index t = ![t.val / 8, 0, 4] ∧ win0_5.index t = ![t.val / 8, 0, 5] ∧ win0_6.index t = ![0, 0] ∧ win0_7.index t = ![0, 0]
    ∧ win0_8.index t = ![0, 0, 0] ∧ win0_9.index t = ![0, 0] ∧ win0_10.index t = ![0, 0, 0] ∧ win0_11.index t = ![0, 0]
    ∧ win0_12.index t = ![0, 0, 0] ∧ win0_13.index t = ![0, 0] ∧ win0_14.index t = ![0, 0, 0] ∧ win0_15.index t = ![0, 0]
    ∧ win0_16.index t = ![t.val / 8, t.val % 8, 0] := by decide +kernel

/-- The second grid coordinate of a point. -/
theorem coord : ∀ t : Fin cfg0.N, (grid0.coords t 1).val = t.val % 8 := by decide +kernel

variable (m : (ℓ : Loc nD τ sig) → Buf (Elt Ideal) ℓ) (c : Dev nD)

section
variable (t : Fin cfg0.N)

/-- Window 0: the tile's own 512 rows. -/
theorem blk0 (s : Fin 512) (d : Fin 1024) : (iblk m c 0 t : Vec Ideal S1x512x1024 .f32) (ix3 0 s d)
    = (m ((c : Thread nD τ).loc main_arg0) : Vec Ideal S16x4096x1024 .f32) (ix3 ⟨t.val / 8, by have : t.val < 128 := t.isLt; omega⟩ ⟨512 * (t.val % 8) + s.val, by omega⟩ d) := by
  blk_ext [iblk, V, idx t]
/-- Window 1: the eight rows before the tile. -/
theorem blk1 (s : Fin 8) (d : Fin 1024) : (iblk m c 1 t : Vec Ideal S1x8x1024 .f32) (ix3 0 s d)
    = (m ((c : Thread nD τ).loc main_arg0) : Vec Ideal S16x4096x1024 .f32) (ix3 ⟨t.val / 8, by have : t.val < 128 := t.isLt; omega⟩ ⟨8 * (64 * (t.val % 8) - 1) + s.val, by omega⟩ d) := by
  blk_ext [iblk, V, idx t]
/-- Window 2: the eight rows after the tile. -/
theorem blk2 (s : Fin 8) (d : Fin 1024) : (iblk m c 2 t : Vec Ideal S1x8x1024 .f32) (ix3 0 s d)
    = (m ((c : Thread nD τ).loc main_arg0) : Vec Ideal S16x4096x1024 .f32) (ix3 ⟨t.val / 8, by have : t.val < 128 := t.isLt; omega⟩ ⟨8 * (min (64 * (t.val % 8) + 64) 511) + s.val, by omega⟩ d) := by
  blk_ext [iblk, V, idx t]
/-- Window 3: the prompt's shift. -/
theorem blk3 (d : Fin 1024) : (iblk m c 3 t : Vec Ideal S1x1x1024 .f32) (ix3 0 0 d)
    = (V m c main_v0 : Vec Ideal S24x1x6144 .f32) (ix3 ⟨t.val / 8, by have : t.val < 128 := t.isLt; omega⟩ 0 ⟨3072 + d.val, by omega⟩) := by
  blk_ext [iblk, idx t]
/-- Window 4: the prompt's scale. -/
theorem blk4 (d : Fin 1024) : (iblk m c 4 t : Vec Ideal S1x1x1024 .f32) (ix3 0 0 d)
    = (V m c main_v0 : Vec Ideal S24x1x6144 .f32) (ix3 ⟨t.val / 8, by have : t.val < 128 := t.isLt; omega⟩ 0 ⟨4096 + d.val, by omega⟩) := by
  blk_ext [iblk, idx t]
/-- Window 5: the prompt's gate. -/
theorem blk5 (d : Fin 1024) : (iblk m c 5 t : Vec Ideal S1x1x1024 .f32) (ix3 0 0 d)
    = (V m c main_v0 : Vec Ideal S24x1x6144 .f32) (ix3 ⟨t.val / 8, by have : t.val < 128 := t.isLt; omega⟩ 0 ⟨5120 + d.val, by omega⟩) := by
  blk_ext [iblk, idx t]
/-- Window 6: the scale of the first norm, whole. -/
theorem blk6 (y : S1x1024.Idx) : (iblk m c 6 t : Vec Ideal S1x1024 .f32) y = (V m c main_v1 : Vec Ideal S1x1024 .f32) y := by
  blk_ext [iblk, idx t]
/-- Window 7: the scale of the last norm, whole. -/
theorem blk7 (y : S1x1024.Idx) : (iblk m c 7 t : Vec Ideal S1x1024 .f32) y = (V m c main_v2 : Vec Ideal S1x1024 .f32) y := by
  blk_ext [iblk, idx t]
/-- Window 8: the up-projection in chunks, whole. -/
theorem blk8 (y : S10x1024x512.Idx) : (iblk m c 8 t : Vec Ideal S10x1024x512 .bf16) y = (V m c main_v14 : Vec Ideal S10x1024x512 .bf16) y := by
  blk_ext [iblk, idx t]
/-- Window 9: the up-projection's tail, whole. -/
theorem blk9 (y : S1024x256.Idx) : (iblk m c 9 t : Vec Ideal S1024x256 .bf16) y = (V m c main_v13 : Vec Ideal S1024x256 .bf16) y := by
  blk_ext [iblk, idx t]
/-- Window 10: the taps in chunks, whole. -/
theorem blk10 (y : S10x3x512.Idx) : (iblk m c 10 t : Vec Ideal S10x3x512 .f32) y = (V m c main_v25 : Vec Ideal S10x3x512 .f32) y := by
  blk_ext [iblk, idx t]
/-- Window 11: the taps' tail, whole. -/
theorem blk11 (y : S3x256.Idx) : (iblk m c 11 t : Vec Ideal S3x256 .f32) y = (V m c main_v24 : Vec Ideal S3x256 .f32) y := by
  blk_ext [iblk, idx t]
/-- Window 12: the bias in chunks, whole. -/
theorem blk12 (y : S10x1x512.Idx) : (iblk m c 12 t : Vec Ideal S10x1x512 .f32) y = (V m c main_v37 : Vec Ideal S10x1x512 .f32) y := by
  blk_ext [iblk, idx t]
/-- Window 13: the bias's tail, whole. -/
theorem blk13 (y : S1x256.Idx) : (iblk m c 13 t : Vec Ideal S1x256 .f32) y = (V m c main_v36 : Vec Ideal S1x256 .f32) y := by
  blk_ext [iblk, idx t]
/-- Window 14: the down-projection in chunks, whole. -/
theorem blk14 (y : S10x256x1024.Idx) : (iblk m c 14 t : Vec Ideal S10x256x1024 .bf16) y = (V m c main_v40 : Vec Ideal S10x256x1024 .bf16) y := by
  blk_ext [iblk, idx t]
/-- Window 15: the down-projection's tail, whole. -/
theorem blk15 (y : S128x1024.Idx) : (iblk m c 15 t : Vec Ideal S128x1024 .bf16) y = (V m c main_v41 : Vec Ideal S128x1024 .bf16) y := by
  blk_ext [iblk, idx t]
end

end Cert.Proof.Ffn

end
-- ==== Proof.FfnHost.lean ====
/-
  What the arrays that the feed-forward kernel is given hold of the eight arguments.
-/
module

public import proofs.«01_k».proof.Proof.FfnPoint
public import proofs.«01_k».proof.Proof.Gen.Kernel2Ideal.Value
public import Idealize.ShloMosaic.Lib.Pointwise
public import Idealize.ShloMosaic.Lib.StableHlo.ReadAt

@[expose] public section

set_option maxRecDepth 16384

noncomputable section

namespace Cert.Proof.Ffn

open Cert.Kernel2Ideal Cert.Kernel2Ideal.Gen
open Idealize.ShloMosaic
open Idealize.ShloMosaic.TcCoe Idealize.ShloMosaic.Tactic
open Idealize.SL.Sem

variable (m : (ℓ : Loc nD τ sig) → Buf (Elt Ideal) ℓ) (c : Dev nD)

/-- The modulations. -/
theorem v0_at (q : Fin 24) (j : Fin 6144) : (V m c main_v0 : Vec Ideal S24x1x6144 .f32) (ix3 q 0 j)
    = (m ((c : Thread nD τ).loc main_arg1) : Vec Ideal S24x6144 .f32) (ix2 q j) := by
  unfold V
  after_reads_at

/-- The first norm's scale. -/
theorem v1_at (j : Fin 1024) : (V m c main_v1 : Vec Ideal S1x1024 .f32) (ix2 0 j)
    = (m ((c : Thread nD τ).loc main_arg2) : Vec Ideal S1024 .f32) (ix1 j) := by
  unfold V
  after_reads_at

/-- The last norm's scale. -/
theorem v2_at (j : Fin 1024) : (V m c main_v2 : Vec Ideal S1x1024 .f32) (ix2 0 j)
    = (m ((c : Thread nD τ).loc main_arg3) : Vec Ideal S1024 .f32) (ix1 j) := by
  unfold V
  after_reads_at

/-- The up weights, gated half of a chunk. -/
theorem wu_lo (k : Fin 10) (d : Fin 1024) (j : Fin 256) : (V m c main_v14 : Vec Ideal S10x1024x512 .bf16) (ix3 k d ⟨j.val, by omega⟩)
    = (m ((c : Thread nD τ).loc main_arg4) : Vec Ideal S1024x5376 .f32) (ix2 d ⟨256 * k.val + j.val, by omega⟩) := by
  unfold V
  after_reads_at
  after_reads_at
  simp only [Nat.mul_comm 256]

/-- The up weights, linear half of a chunk. -/
theorem wu_hi (k : Fin 10) (d : Fin 1024) (j : Fin 256) : (V m c main_v14 : Vec Ideal S10x1024x512 .bf16) (ix3 k d ⟨256 + j.val, by omega⟩)
    = (m ((c : Thread nD τ).loc main_arg4) : Vec Ideal S1024x5376 .f32) (ix2 d ⟨2688 + (256 * k.val + j.val), by omega⟩) := by
  unfold V
  after_reads_at
  after_reads_at
  simp only [Nat.mul_comm 256]

/-- The up weights, gated half of the tail. -/
theorem wut_lo (d : Fin 1024) (j : Fin 128) : (V m c main_v13 : Vec Ideal S1024x256 .bf16) (ix2 d ⟨j.val, by omega⟩)
    = (m ((c : Thread nD τ).loc main_arg4) : Vec Ideal S1024x5376 .f32) (ix2 d ⟨2560 + j.val, by omega⟩) := by
  unfold V
  after_reads_at

/-- The up weights, linear half of the tail. -/
theorem wut_hi (d : Fin 1024) (j : Fin 128) : (V m c main_v13 : Vec Ideal S1024x256 .bf16) (ix2 d ⟨128 + j.val, by omega⟩)
    = (m ((c : Thread nD τ).loc main_arg4) : Vec Ideal S1024x5376 .f32) (ix2 d ⟨2688 + (2560 + j.val), by omega⟩) := by
  unfold V
  after_reads_at

/-- The convolution's weights, gated half of a chunk. -/
theorem cw_lo (k : Fin 10) (a : Fin 3) (j : Fin 256) : (V m c main_v25 : Vec Ideal S10x3x512 .f32) (ix3 k a ⟨j.val, by omega⟩)
    = (m ((c : Thread nD τ).loc main_arg5) : Vec Ideal S3x5376 .f32) (ix2 a ⟨256 * k.val + j.val, by omega⟩) := by
  unfold V
  after_reads_at
  after_reads_at
  simp only [Nat.mul_comm 256]

/-- The convolution's weights, linear half of a chunk. -/
theorem cw_hi (k : Fin 10) (a : Fin 3) (j : Fin 256) : (V m c main_v25 : Vec Ideal S10x3x512 .f32) (ix3 k a ⟨256 + j.val, by omega⟩)
    = (m ((c : Thread nD τ).loc main_arg5) : Vec Ideal S3x5376 .f32) (ix2 a ⟨2688 + (256 * k.val + j.val), by omega⟩) := by
  unfold V
  after_reads_at
  after_reads_at
  simp only [Nat.mul_comm 256]

/-- The convolution's weights, gated half of the tail. -/
theorem cwt_lo (a : Fin 3) (j : Fin 128) : (V m c main_v24 : Vec Ideal S3x256 .f32) (ix2 a ⟨j.val, by omega⟩)
    = (m ((c : Thread nD τ).loc main_arg5) : Vec Ideal S3x5376 .f32) (ix2 a ⟨2560 + j.val, by omega⟩) := by
  unfold V
  after_reads_at

/-- The convolution's weights, linear half of the tail. -/
theorem cwt_hi (a : Fin 3) (j : Fin 128) : (V m c main_v24 : Vec Ideal S3x256 .f32) (ix2 a ⟨128 + j.val, by omega⟩)
    = (m ((c : Thread nD τ).loc main_arg5) : Vec Ideal S3x5376 .f32) (ix2 a ⟨2688 + (2560 + j.val), by omega⟩) := by
  unfold V
  after_reads_at

/-- The convolution's bias, gated half of a chunk. -/
theorem cb_lo (k : Fin 10) (j : Fin 256) : (V m c main_v37 : Vec Ideal S10x1x512 .f32) (ix3 k 0 ⟨j.val, by omega⟩)
    = (m ((c : Thread nD τ).loc main_arg6) : Vec Ideal S5376 .f32) (ix1 ⟨256 * k.val + j.val, by omega⟩) := by
  unfold V
  after_reads_at
  after_reads_at
  simp only [Nat.mul_comm 256]

/-- The convolution's bias, linear half of a chunk. -/
theorem cb_hi (k : Fin 10) (j : Fin 256) : (V m c main_v37 : Vec Ideal S10x1x512 .f32) (ix3 k 0 ⟨256 + j.val, by omega⟩)
    = (m ((c : Thread nD τ).loc main_arg6) : Vec Ideal S5376 .f32) (ix1 ⟨2688 + (256 * k.val + j.val), by omega⟩) := by
  unfold V
  after_reads_at
  after_reads_at
  simp only [Nat.mul_comm 256]

/-- The convolution's bias, gated half of the tail. -/
theorem cbt_lo (j : Fin 128) : (V m c main_v36 : Vec Ideal S1x256 .f32) (ix2 0 ⟨j.val, by omega⟩)
    = (m ((c : Thread nD τ).loc main_arg6) : Vec Ideal S5376 .f32) (ix1 ⟨2560 + j.val, by omega⟩) := by
  unfold V
  after_reads_at

/-- The convolution's bias, linear half of the tail. -/
theorem cbt_hi (j : Fin 128) : (V m c main_v36 : Vec Ideal S1x256 .f32) (ix2 0 ⟨128 + j.val, by omega⟩)
    = (m ((c : Thread nD τ).loc main_arg6) : Vec Ideal S5376 .f32) (ix1 ⟨2688 + (2560 + j.val), by omega⟩) := by
  unfold V
  after_reads_at

/-- The down weights of a chunk. -/
theorem wd_at (k : Fin 10) (j : Fin 256) (l : Fin 1024) : (V m c main_v40 : Vec Ideal S10x256x1024 .bf16) (ix3 k j l)
    = (m ((c : Thread nD τ).loc main_arg7) : Vec Ideal S2688x1024 .f32) (ix2 ⟨256 * k.val + j.val, by omega⟩ l) := by
  unfold V
  after_reads_at
  simp only [Nat.mul_comm 256]

/-- The down weights of the tail. -/
theorem wdt_at (j : Fin 128) (l : Fin 1024) : (V m c main_v41 : Vec Ideal S128x1024 .bf16) (ix2 j l)
    = (m ((c : Thread nD τ).loc main_arg7) : Vec Ideal S2688x1024 .f32) (ix2 ⟨2560 + j.val, by omega⟩ l) := by
  unfold V
  after_reads_at

end Cert.Proof.Ffn

end
-- ==== Proof.FfnRows.lean ====
/-
  The feed-forward kernel's scratch rows and weight chunks, element by element.
-/
module

public import proofs.«01_k».proof.Proof.FfnPoint
public import proofs.«01_k».proof.Proof.FfnBlock

@[expose] public section

set_option maxRecDepth 16384

noncomputable section

namespace Cert.Proof.Ffn

open Cert.Kernel2Ideal Cert.Kernel2Ideal.Gen
open Idealize.ShloMosaic
open Idealize.ShloMosaic.TcCoe Idealize.ShloMosaic.Tactic
open Idealize.SL.Sem

/-- The rows before the tile. -/
theorem rows_before (i : BitVec 32) (x : Vec Ideal S1x512x1024 .f32) (xp xn : Vec Ideal S1x8x1024 .f32) (sh sc : Vec Ideal S1x1x1024 .f32)
    (g : Vec Ideal S1x1024 .f32) (r : Fin 8) (d : Fin 1024) :
    rows i x xp xn sh sc g (ix2 ⟨r.val, by omega⟩ d) = k0_pay9 i (k0_pay5 g sh sc xp) (ix2 r d) := by
  unfold rows
  rw [View.canon_cons_of_not_mem, View.canon_cons_of_not_mem]
  · have e : (ix2 ⟨r.val, by omega⟩ d : S528x1024.Idx) = (Rect.unit (s := S528x1024) ![0, 0] ![8, 1024] inb_S528x1024_S8x1024_0_0).emb (ix2 r d) := by
      funext a; refine Fin.ext ?_
      refine Eq.trans ?_ (Rect.idx_unit_val _ _ _ _ a).symm
      fin_cases a
      · show r.val = 0 + r.val; omega
      · show d.val = 0 + d.val; omega
    rw [e]; exact View.canon_cons_emb _ _ _ _
  · intro h; have := (Rect.mem_set_unit (inb := inb_S528x1024_S512x1024_8_0).mp h) 0; have h1 : 8 ≤ r.val := this.1; omega
  · intro h; have := (Rect.mem_set_unit (inb := inb_S528x1024_S8x1024_520_0).mp h) 0; have h1 : 520 ≤ r.val := this.1; omega

/-- The tile's rows. -/
theorem rows_tile (i : BitVec 32) (x : Vec Ideal S1x512x1024 .f32) (xp xn : Vec Ideal S1x8x1024 .f32) (sh sc : Vec Ideal S1x1x1024 .f32)
    (g : Vec Ideal S1x1024 .f32) (s : Fin 512) (d : Fin 1024) :
    rows i x xp xn sh sc g (ix2 ⟨8 + s.val, by omega⟩ d) = k0_pay10 (k0_pay2 g) (k0_pay3 sh) (k0_pay4 sc) x (ix2 s d) := by
  unfold rows
  rw [View.canon_cons_of_not_mem]
  · have e : (ix2 ⟨8 + s.val, by omega⟩ d : S528x1024.Idx) = (Rect.unit (s := S528x1024) ![8, 0] ![512, 1024] inb_S528x1024_S512x1024_8_0).emb (ix2 s d) := by
      funext a; refine Fin.ext ?_
      refine Eq.trans ?_ (Rect.idx_unit_val _ _ _ _ a).symm
      fin_cases a
      · rfl
      · show d.val = 0 + d.val; omega
    rw [e]; exact View.canon_cons_emb _ _ _ _
  · intro h; have := (Rect.mem_set_unit (inb := inb_S528x1024_S8x1024_520_0).mp h) 0; have h1 : 520 ≤ 8 + s.val := this.1; omega

/-- The rows after the tile. -/
theorem rows_after (i : BitVec 32) (x : Vec Ideal S1x512x1024 .f32) (xp xn : Vec Ideal S1x8x1024 .f32) (sh sc : Vec Ideal S1x1x1024 .f32)
    (g : Vec Ideal S1x1024 .f32) (r : Fin 8) (d : Fin 1024) :
    rows i x xp xn sh sc g (ix2 ⟨520 + r.val, by omega⟩ d)
      = k0_pay11 (k0_pay8 i (k0_pay2 g) (k0_pay3 sh) (k0_pay4 sc) (k0_pay6 xn) (k0_pay7 xn)) (ix2 r d) := by
  unfold rows
  have e : (ix2 ⟨520 + r.val, by omega⟩ d : S528x1024.Idx) = (Rect.unit (s := S528x1024) ![520, 0] ![8, 1024] inb_S528x1024_S8x1024_520_0).emb (ix2 r d) := by
    funext a; refine Fin.ext ?_
    refine Eq.trans ?_ (Rect.idx_unit_val _ _ _ _ a).symm
    fin_cases a
    · rfl
    · show d.val = 0 + d.val; omega
  rw [e]; exact View.canon_cons_emb _ _ _ _

section
variable (W : Vec Ideal S10x1024x512 .bf16) (C : Vec Ideal S10x3x512 .f32) (B : Vec Ideal S10x1x512 .f32) (D : Vec Ideal S10x256x1024 .bf16)

/-- A chunk of the up-projection, at one element. -/
theorem upW_at (k : Fin 10) (d : Fin 1024) (j : Fin 512) : upW W k (ix3 0 d j) = W (ix3 k d j) :=
  View.ld_unit_apply_of _ _ _ _ _ _ fun a => by fin_cases a <;> simp [ix3]
/-- A chunk of the taps, at one element. -/
theorem convW_at (k : Fin 10) (d : Fin 3) (j : Fin 512) : convW C k (ix3 0 d j) = C (ix3 k d j) :=
  View.ld_unit_apply_of _ _ _ _ _ _ fun a => by fin_cases a <;> simp [ix3]
/-- A chunk of the bias, at one element. -/
theorem biasW_at (k : Fin 10) (j : Fin 512) : biasW B k (ix3 0 0 j) = B (ix3 k 0 j) :=
  View.ld_unit_apply_of _ _ _ _ _ _ fun a => by fin_cases a <;> simp [ix3]
/-- A chunk of the down-projection, at one element. -/
theorem downW_at (k : Fin 10) (j : Fin 256) (l : Fin 1024) : downW D k (ix3 0 j l) = D (ix3 k j l) :=
  View.ld_unit_apply_of _ _ _ _ _ _ fun a => by fin_cases a <;> simp [ix3]
end

end Cert.Proof.Ffn

end
-- ==== Proof.FfnSplit.lean ====
/-
  A sum over the channels, cut into chunks.
-/
module

public import Mathlib.Data.EReal.Operations
public import Mathlib.Algebra.BigOperators.Fin

@[expose] public section

noncomputable section

namespace Cert.Proof.Ffn

/-- Chunk `k` of a sum over the channels. -/
def csum (p : Fin 2688 → EReal) (k : Fin 10) : EReal := ∑ j : Fin 256, p ⟨256 * k.val + j.val, by omega⟩

/-- The tail of a sum over the channels. -/
def tsum (p : Fin 2688 → EReal) : EReal := ∑ j : Fin 128, p ⟨2560 + j.val, by omega⟩

/-- The first `a` terms and the `b` after them. -/
theorem sum_cut (g : ℕ → EReal) (N a b : ℕ) (h : N = a + b) :
    ∑ n ∈ Finset.range N, g n = (∑ n ∈ Finset.range a, g n) + ∑ n ∈ Finset.range b, g (a + n) := by
  rw [h, Finset.sum_range_add]

/-- A sum over the channels is its ten chunks and its tail. -/
theorem sum_split (p : Fin 2688 → EReal) : ∑ f : Fin 2688, p f =
    0 + csum p 0 + csum p 1 + csum p 2 + csum p 3 + csum p 4 + csum p 5 + csum p 6 + csum p 7 + csum p 8 + csum p 9 + tsum p := by
  obtain ⟨g, hg⟩ : ∃ g : ℕ → EReal, ∀ (n : ℕ) (h : n < 2688), p ⟨n, h⟩ = g n :=
    ⟨fun n => if h : n < 2688 then p ⟨n, h⟩ else 0, fun n h => by simp only [h, dif_pos]⟩
  have hw : ∑ f : Fin 2688, p f = ∑ n ∈ Finset.range 2688, g n := by
    rw [Finset.sum_range]
    exact Finset.sum_congr rfl fun f _ => hg f.val f.isLt
  have hc : ∀ k : Fin 10, csum p k = ∑ n ∈ Finset.range 256, g (256 * k.val + n) := by
    intro k
    unfold csum
    rw [Finset.sum_range]
    exact Finset.sum_congr rfl fun j _ => hg _ _
  have ht : tsum p = ∑ n ∈ Finset.range 128, g (2560 + n) := by
    unfold tsum
    rw [Finset.sum_range]
    exact Finset.sum_congr rfl fun j _ => hg _ _
  have hk : ∀ (k : Fin 10) (N : ℕ), N = 256 * k.val + 256 → ∑ n ∈ Finset.range N, g n = (∑ n ∈ Finset.range (256 * k.val), g n) + csum p k :=
    fun k N h => by rw [hc, sum_cut g N (256 * k.val) 256 h]
  have e0 : ∑ n ∈ Finset.range (256 * (0 : Fin 10).val), g n = 0 := Finset.sum_range_zero _
  rw [hw, ht, sum_cut g 2688 2560 128 (by norm_num), hk 9 2560 (by decide), hk 8 (256 * (9 : Fin 10).val) (by decide),
    hk 7 (256 * (8 : Fin 10).val) (by decide), hk 6 (256 * (7 : Fin 10).val) (by decide), hk 5 (256 * (6 : Fin 10).val) (by decide),
    hk 4 (256 * (5 : Fin 10).val) (by decide), hk 3 (256 * (4 : Fin 10).val) (by decide), hk 2 (256 * (3 : Fin 10).val) (by decide),
    hk 1 (256 * (2 : Fin 10).val) (by decide), hk 0 (256 * (1 : Fin 10).val) (by decide), e0]

end Cert.Proof.Ffn

end
-- ==== Proof.FfnSum.lean ====
/-
  The feed-forward kernel's ten chunks and tail against the whole sums.
-/
module

public import proofs.«01_k».proof.Proof.FfnRef
public import proofs.«01_k».proof.Proof.FfnRows
public import proofs.«01_k».proof.Proof.FfnSplit

@[expose] public section

set_option maxRecDepth 16384

noncomputable section

namespace Cert.Proof.Ffn

open Cert.Kernel2Ideal Cert.Kernel2Ideal.Gen
open Idealize.ShloMosaic
open Idealize.ShloMosaic.TcCoe Idealize.ShloMosaic.Tactic
open Idealize.SL.Sem

/-- Channel `j` of a chunk's gated half. -/
abbrev lo (j : Fin 256) : Fin 512 := ⟨j.val, by omega⟩
/-- Channel `j` of a chunk's linear half. -/
abbrev hi (j : Fin 256) : Fin 512 := ⟨256 + j.val, by omega⟩
/-- Channel `j` of the tail's gated half. -/
abbrev loT (j : Fin 128) : Fin 256 := ⟨j.val, by omega⟩
/-- Channel `j` of the tail's linear half. -/
abbrev hiT (j : Fin 128) : Fin 256 := ⟨128 + j.val, by omega⟩
/-- Where a chunk's gated channel lies among all channels. -/
abbrev ch0 (k : Fin 10) (j : Fin 256) : Fin 5376 := ⟨256 * k.val + j.val, by omega⟩
/-- Where a chunk's linear channel lies among all channels. -/
abbrev ch1 (k : Fin 10) (j : Fin 256) : Fin 5376 := ⟨2688 + (256 * k.val + j.val), by omega⟩
/-- Where the tail's gated channel lies among all channels. -/
abbrev tl0 (j : Fin 128) : Fin 5376 := ⟨2560 + j.val, by omega⟩
/-- Where the tail's linear channel lies among all channels. -/
abbrev tl1 (j : Fin 128) : Fin 5376 := ⟨2688 + (2560 + j.val), by omega⟩
/-- Which row of the down weights a chunk's channel meets. -/
abbrev chD (k : Fin 10) (j : Fin 256) : Fin 2688 := ⟨256 * k.val + j.val, by omega⟩
/-- Which row of the down weights a tail's channel meets. -/
abbrev tlD (j : Fin 128) : Fin 2688 := ⟨2560 + j.val, by omega⟩

/-- A tile's sum over the chunks and the tail is the whole sum over the channels, where the tile's rows, weights and
    biases are those of the arrays. -/
theorem down_at (X : FVec Ideal S16x4096x1024 .f32) (M : FVec Ideal S24x6144 .f32) (P : FVec Ideal S1024 .f32)
    (U : FVec Ideal S1024x5376 .f32) (CW : FVec Ideal S3x5376 .f32) (CB : FVec Ideal S5376 .f32) (D : FVec Ideal S2688x1024 .f32)
    (wu : Vec Ideal S10x1024x512 .bf16) (cw : Vec Ideal S10x3x512 .f32) (cb : Vec Ideal S10x1x512 .f32) (wd : Vec Ideal S10x256x1024 .bf16)
    (wut : Vec Ideal S1024x256 .bf16) (cwt : Vec Ideal S3x256 .f32) (cbt : Vec Ideal S1x256 .f32) (wdt : Vec Ideal S128x1024 .bf16)
    (h : Vec Ideal S528x1024 .bf16) (q : Fin 16) (b : ℕ)
    (hR : ∀ (r : Fin 528) (n : ℕ) (d : Fin 1024), r.val = 7 + n → n < 514 → h (ix2 r d) = hidP X M P q (b + n) d)
    (u0 : ∀ (k : Fin 10) (d : Fin 1024) (j : Fin 256), wu (ix3 k d (lo j)) = U (ix2 d (ch0 k j)))
    (u1 : ∀ (k : Fin 10) (d : Fin 1024) (j : Fin 256), wu (ix3 k d (hi j)) = U (ix2 d (ch1 k j)))
    (c0 : ∀ (k : Fin 10) (a : Fin 3) (j : Fin 256), cw (ix3 k a (lo j)) = CW (ix2 a (ch0 k j)))
    (c1 : ∀ (k : Fin 10) (a : Fin 3) (j : Fin 256), cw (ix3 k a (hi j)) = CW (ix2 a (ch1 k j)))
    (b0 : ∀ (k : Fin 10) (j : Fin 256), cb (ix3 k 0 (lo j)) = CB (ix1 (ch0 k j)))
    (b1 : ∀ (k : Fin 10) (j : Fin 256), cb (ix3 k 0 (hi j)) = CB (ix1 (ch1 k j)))
    (d0 : ∀ (k : Fin 10) (j : Fin 256) (l : Fin 1024), wd (ix3 k j l) = D (ix2 (chD k j) l))
    (u0t : ∀ (d : Fin 1024) (j : Fin 128), wut (ix2 d (loT j)) = U (ix2 d (tl0 j)))
    (u1t : ∀ (d : Fin 1024) (j : Fin 128), wut (ix2 d (hiT j)) = U (ix2 d (tl1 j)))
    (c0t : ∀ (a : Fin 3) (j : Fin 128), cwt (ix2 a (loT j)) = CW (ix2 a (tl0 j)))
    (c1t : ∀ (a : Fin 3) (j : Fin 128), cwt (ix2 a (hiT j)) = CW (ix2 a (tl1 j)))
    (b0t : ∀ (j : Fin 128), cbt (ix2 0 (loT j)) = CB (ix1 (tl0 j)))
    (b1t : ∀ (j : Fin 128), cbt (ix2 0 (hiT j)) = CB (ix1 (tl1 j)))
    (d0t : ∀ (j : Fin 128) (l : Fin 1024), wdt (ix2 j l) = D (ix2 (tlD j) l))
    (s : Fin 512) (l : Fin 1024) :
    down (accum wu cw cb wd h) cwt cbt wdt (k0_pay71 h wut) s l = ∑ f : Fin 2688, part X M P U CW CB D q (b + s.val) l f := by
  have hu : ∀ (k : Fin 10) (r : Fin 528) (n : ℕ) (j : Fin 512) (e : Fin 5376), r.val = 7 + n → n < 514 →
      (∀ d, wu (ix3 k d j) = U (ix2 d e)) → k0_pay12 h (upW wu k) (ix3 0 r j) = upP X M P U q (b + n) e := by
    intro k r n j e hr hn he
    rw [up_apply]
    unfold upP
    exact Finset.sum_congr rfl fun d _ => by rw [hR r n d hr hn, upW_at, he]
  have hut : ∀ (r : Fin 528) (n : ℕ) (j : Fin 256) (e : Fin 5376), r.val = 7 + n → n < 514 →
      (∀ d, wut (ix2 d j) = U (ix2 d e)) → k0_pay71 h wut (ix2 r j) = upP X M P U q (b + n) e := by
    intro r n j e hr hn he
    rw [upT_apply]
    unfold upP
    exact Finset.sum_congr rfl fun d _ => by rw [hR r n d hr hn, he]
  have hcv : ∀ (k : Fin 10) (j : Fin 512) (e : Fin 5376), (∀ d, wu (ix3 k d j) = U (ix2 d e)) → (∀ a, cw (ix3 k a j) = CW (ix2 a e)) →
      cb (ix3 k 0 j) = CB (ix1 e) → conv (k0_pay12 h (upW wu k)) (convW cw k) (biasW cb k) s j = cv X M P U CW CB q (b + s.val) e := by
    intro k j e h1 h2 h3
    unfold conv cv
    rw [Nat.add_assoc, Nat.add_assoc]
    rw [hu k _ s.val j e rfl (by omega) h1, hu k _ (s.val + 1) j e (show 8 + s.val = 7 + (s.val + 1) by omega) (by omega) h1,
      hu k _ (s.val + 2) j e (show 9 + s.val = 7 + (s.val + 2) by omega) (by omega) h1, convW_at, convW_at, convW_at, biasW_at, h2, h2, h2, h3]
  have hcvt : ∀ (j : Fin 256) (e : Fin 5376), (∀ d, wut (ix2 d j) = U (ix2 d e)) → (∀ a, cwt (ix2 a j) = CW (ix2 a e)) →
      cbt (ix2 0 j) = CB (ix1 e) → convT (k0_pay71 h wut) cwt cbt s j = cv X M P U CW CB q (b + s.val) e := by
    intro j e h1 h2 h3
    unfold convT cv
    rw [Nat.add_assoc, Nat.add_assoc]
    rw [hut _ s.val j e rfl (by omega) h1, hut _ (s.val + 1) j e (show 8 + s.val = 7 + (s.val + 1) by omega) (by omega) h1,
      hut _ (s.val + 2) j e (show 9 + s.val = 7 + (s.val + 2) by omega) (by omega) h1, h2, h2, h2, h3]
  have hch : ∀ (acc : Vec Ideal S512x1024 .f32) (k : Fin 10), chunk wu cw cb wd h acc k (ix2 s l)
      = acc (ix2 s l) + csum (part X M P U CW CB D q (b + s.val) l) k := by
    intro acc k
    unfold chunk
    rw [step_apply]
    unfold csum part
    refine congrArg (acc (ix2 s l) + ·) (Finset.sum_congr rfl fun j _ => ?_)
    rw [hcv k _ _ (fun d => u0 k d j) (fun a => c0 k a j) (b0 k j), hcv k _ _ (fun d => u1 k d j) (fun a => c1 k a j) (b1 k j), downW_at, d0]
  have h0 : (k0_pay13 (F := Ideal)) (ix2 s l) = (0 : EReal) := by
    pointwise [k0_pay13]
  rw [sum_split]
  unfold down accum
  simp only [hch]
  rw [h0]
  unfold tsum part
  refine congrArg _ (Finset.sum_congr rfl fun j _ => ?_)
  rw [hcvt _ _ (fun d => u0t d j) (fun a => c0t a j) (b0t j), hcvt _ _ (fun d => u1t d j) (fun a => c1t a j) (b1t j), d0t]

end Cert.Proof.Ffn

end
-- ==== Proof.FfnValue.lean ====
/-
  The feed-forward block's value: at exact arithmetic, each element of what the kernel leaves is that element of the
  reference's result.
-/
module

public import proofs.«01_k».proof.Defs
public import proofs.«01_k».proof.Proof.FfnReads
public import proofs.«01_k».proof.Proof.FfnHost
public import proofs.«01_k».proof.Proof.FfnSum

@[expose] public section

set_option maxRecDepth 16384

noncomputable section

namespace Cert.Proof.Ffn

open Cert.Kernel2Ideal Cert.Kernel2Ideal.Gen
open Idealize.ShloMosaic
open Idealize.ShloMosaic.TcCoe Idealize.ShloMosaic.Tactic
open Idealize.SL.Sem

variable (m : (ℓ : Loc nD τ sig) → Buf (Elt Ideal) ℓ) (c : Dev nD)

/-- The residual stream. -/
abbrev aX : FVec Ideal S16x4096x1024 .f32 := m ((c : Thread nD τ).loc main_arg0)
/-- The modulations. -/
abbrev aM : FVec Ideal S24x6144 .f32 := m ((c : Thread nD τ).loc main_arg1)
/-- The first norm's scale. -/
abbrev aP : FVec Ideal S1024 .f32 := m ((c : Thread nD τ).loc main_arg2)
/-- The last norm's scale. -/
abbrev aQ : FVec Ideal S1024 .f32 := m ((c : Thread nD τ).loc main_arg3)
/-- The up weights. -/
abbrev aU : FVec Ideal S1024x5376 .f32 := m ((c : Thread nD τ).loc main_arg4)
/-- The convolution's weights. -/
abbrev aC : FVec Ideal S3x5376 .f32 := m ((c : Thread nD τ).loc main_arg5)
/-- The convolution's bias. -/
abbrev aB : FVec Ideal S5376 .f32 := m ((c : Thread nD τ).loc main_arg6)
/-- The down weights. -/
abbrev aD : FVec Ideal S2688x1024 .f32 := m ((c : Thread nD τ).loc main_arg7)

/-- The batch entry of a grid point. -/
def bat (t : Fin cfg0.N) : Fin 16 := ⟨t.val / 8, by have : t.val < 128 := t.isLt; omega⟩

/-- A row that is a row of the residual stream, normalized and modulated with a grid point's blocks. -/
theorem hid_blk (t : Fin cfg0.N) (y : Fin 1024 → EReal) (T : Fin 4096) (hy : ∀ d, y d = aX m c (ix3 (bat t) T d)) (d : Fin 1024) :
    pre y (fun d => (iblk m c 6 t : Vec Ideal S1x1024 .f32) (ix2 0 d)) (fun d => (iblk m c 4 t : Vec Ideal S1x1x1024 .f32) (ix3 0 0 d))
      (fun d => (iblk m c 3 t : Vec Ideal S1x1x1024 .f32) (ix3 0 0 d)) d = hid (aX m c) (aM m c) (aP m c) (bat t) T d := by
  have e6 : (fun d => (iblk m c 6 t : Vec Ideal S1x1024 .f32) (ix2 0 d)) = fun d => aP m c (ix1 d) :=
    funext fun d => (blk6 m c t _).trans (v1_at m c d)
  have e4 : (fun d => (iblk m c 4 t : Vec Ideal S1x1x1024 .f32) (ix3 0 0 d))
      = fun d : Fin 1024 => aM m c (ix2 ⟨(bat t).val, by omega⟩ ⟨4096 + d.val, by omega⟩) :=
    funext fun d => (blk4 m c t d).trans (v0_at m c _ _)
  have e3 : (fun d => (iblk m c 3 t : Vec Ideal S1x1x1024 .f32) (ix3 0 0 d))
      = fun d : Fin 1024 => aM m c (ix2 ⟨(bat t).val, by omega⟩ ⟨3072 + d.val, by omega⟩) :=
    funext fun d => (blk3 m c t d).trans (v0_at m c _ _)
  have ey : y = fun d => aX m c (ix3 (bat t) T d) := funext hy
  rw [e6, e4, e3, ey]
  rfl

/-- A small number's word is another's only where the numbers agree. -/
theorem word_eq : ∀ a b : Fin 8, (BitVec.ofNat 32 a.val = BitVec.ofNat 32 b.val) ↔ a = b := by decide

/-- The scratch rows of a grid point are rows of the padded sequence. -/
theorem rows_at (t : Fin cfg0.N) (r : Fin 528) (n : ℕ) (d : Fin 1024) (hr : r.val = 7 + n) (hn : n < 514) :
    rows (BitVec.ofNat 32 (grid0.coords t 1).val) (iblk m c 0 t) (iblk m c 1 t) (iblk m c 2 t) (iblk m c 3 t) (iblk m c 4 t) (iblk m c 6 t) (ix2 r d)
      = hidP (aX m c) (aM m c) (aP m c) (bat t) (512 * (t.val % 8) + n) d := by
  have hi : t.val % 8 < 8 := Nat.mod_lt _ (by decide)
  rw [coord t]
  generalize hI : t.val % 8 = I at hi ⊢
  rcases Nat.lt_or_ge n 1 with h0 | h0
  · have e : r = ⟨(⟨7, by decide⟩ : Fin 8).val, by decide⟩ := Fin.ext (by show r.val = 7; omega)
    rw [e, rows_before, before_apply]
    have hw : BitVec.ofNat 32 I = 0#32 ↔ (⟨I, hi⟩ : Fin 8) = 0 := word_eq ⟨I, hi⟩ 0
    by_cases hz : I = 0
    · rw [if_pos (hw.mpr (Fin.ext hz))]
      unfold hidP
      rw [dif_neg (by omega)]
    · rw [if_neg fun h => hz (congrArg Fin.val (hw.mp h))]
      unfold hidP
      rw [dif_pos (by omega)]
      refine hid_blk m c t _ _ (fun d => (blk1 m c t _ d).trans ?_) d
      refine congrArg (fun T : Fin 4096 => aX m c (ix3 (bat t) T d)) (Fin.ext ?_)
      show 8 * (64 * (t.val % 8) - 1) + 7 = 512 * I + n - 1
      omega
  rcases Nat.lt_or_ge n 513 with h1 | h1
  · have e : r = ⟨8 + (⟨n - 1, by omega⟩ : Fin 512).val, by show 8 + (n - 1) < 528; omega⟩ := Fin.ext (by show r.val = 8 + (n - 1); omega)
    rw [e, rows_tile, tile_apply]
    unfold hidP
    rw [dif_pos (by omega)]
    refine hid_blk m c t _ _ (fun d => (blk0 m c t _ d).trans ?_) d
    refine congrArg (fun T : Fin 4096 => aX m c (ix3 (bat t) T d)) (Fin.ext ?_)
    show 512 * (t.val % 8) + (n - 1) = 512 * I + n - 1
    omega
  · have e : r = ⟨520 + (⟨0, by decide⟩ : Fin 8).val, by decide⟩ := Fin.ext (by show r.val = 520 + 0; omega)
    rw [e, rows_after, after_apply]
    have hw : BitVec.ofNat 32 I = 7#32 ↔ (⟨I, hi⟩ : Fin 8) = 7 := word_eq ⟨I, hi⟩ 7
    by_cases hz : I = 7
    · rw [if_pos (hw.mpr (Fin.ext hz))]
      unfold hidP
      rw [dif_neg (by omega)]
    · rw [if_neg fun h => hz (congrArg Fin.val (hw.mp h))]
      unfold hidP
      rw [dif_pos (by omega)]
      refine hid_blk m c t _ _ (fun d => (blk2 m c t _ d).trans ?_) d
      refine congrArg (fun T : Fin 4096 => aX m c (ix3 (bat t) T d)) (Fin.ext ?_)
      show 8 * (min (64 * (t.val % 8) + 64) 511) + 0 = 512 * I + n - 1
      omega

/-- The sum over the channels at a grid point. -/
theorem down_blk (t : Fin cfg0.N) (h : Vec Ideal S528x1024 .bf16)
    (hh : rows (BitVec.ofNat 32 (grid0.coords t 1).val) (iblk m c 0 t) (iblk m c 1 t) (iblk m c 2 t) (iblk m c 3 t) (iblk m c 4 t) (iblk m c 6 t) = h)
    (s : Fin 512) (l : Fin 1024) :
    down (accum (iblk m c 8 t) (iblk m c 10 t) (iblk m c 12 t) (iblk m c 14 t) h) (iblk m c 11 t) (iblk m c 13 t) (iblk m c 15 t)
      (k0_pay71 h (iblk m c 9 t)) s l
    = ∑ f : Fin 2688, part (aX m c) (aM m c) (aP m c) (aU m c) (aC m c) (aB m c) (aD m c) (bat t) (512 * (t.val % 8) + s.val) l f :=
  down_at (aX m c) (aM m c) (aP m c) (aU m c) (aC m c) (aB m c) (aD m c) _ _ _ _ _ _ _ _ h (bat t) (512 * (t.val % 8))
    (fun r n d hr hn => hh ▸ rows_at m c t r n d hr hn)
    (fun k d j => (blk8 m c t _).trans (wu_lo m c k d j)) (fun k d j => (blk8 m c t _).trans (wu_hi m c k d j))
    (fun k a j => (blk10 m c t _).trans (cw_lo m c k a j)) (fun k a j => (blk10 m c t _).trans (cw_hi m c k a j))
    (fun k j => (blk12 m c t _).trans (cb_lo m c k j)) (fun k j => (blk12 m c t _).trans (cb_hi m c k j))
    (fun k j l => (blk14 m c t _).trans (wd_at m c k j l))
    (fun d j => (blk9 m c t _).trans (wut_lo m c d j)) (fun d j => (blk9 m c t _).trans (wut_hi m c d j))
    (fun a j => (blk11 m c t _).trans (cwt_lo m c a j)) (fun a j => (blk11 m c t _).trans (cwt_hi m c a j))
    (fun j => (blk13 m c t _).trans (cbt_lo m c j)) (fun j => (blk13 m c t _).trans (cbt_hi m c j))
    (fun j l => (blk15 m c t _).trans (wdt_at m c j l)) s l

/-- One element of what a grid point leaves. -/
theorem outs_at (t : Fin cfg0.N) (s : Fin 512) (l : Fin 1024) : (outsAt0 m c t : Vec Ideal S1x512x1024 .f32) (ix3 0 s l)
    = goal (aX m c) (aM m c) (aP m c) (aQ m c) (aU m c) (aC m c) (aB m c) (aD m c) (bat t)
        ⟨512 * (t.val % 8) + s.val, by omega⟩ l := by
  have e7 : (fun d => (iblk m c 7 t : Vec Ideal S1x1024 .f32) (ix2 0 d)) = fun d => aQ m c (ix1 d) :=
    funext fun d => (blk7 m c t _).trans (v2_at m c d)
  have e5 : (iblk m c 5 t : Vec Ideal S1x1x1024 .f32) (ix3 0 0 l) = aM m c (ix2 ⟨(bat t).val, by omega⟩ ⟨5120 + l.val, by omega⟩) :=
    (blk5 m c t l).trans (v0_at m c _ _)
  have e0 := blk0 m c t s l
  rw [outs_eq, fin_apply, e0, e5, e7, funext fun l => down_blk m c t _ rfl s l]
  rfl

/-- The array that the kernel leaves. -/
theorem final : (dats m 0 c).arrAt 16 cfg0.N = (fun i => goal (aX m c) (aM m c) (aP m c) (aQ m c) (aU m c) (aC m c) (aB m c) (aD m c) (i 0) (i 1) (i 2) :
    Vec Ideal S16x4096x1024 .f32) := by
  refine (dats m 0 c).arrAt_eq_of_covers 16 _ (by decide +kernel) fun t hf y => ?_
  blk_simp
  rw [after0_16]
  obtain ⟨s, l, rfl⟩ : ∃ (s : Fin 512) (l : Fin 1024), y = (ix3 0 s l : S1x512x1024.Idx) := by
    refine ⟨y 1, y 2, ?_⟩
    funext a
    refine Fin.ext ?_
    fin_cases a
    · have : (y 0).val < 1 := (y 0).isLt
      show (y 0).val = 0; omega
    · rfl
    · rfl
  have e : (win0_16.blk t).view.emb (ix3 0 s l : S1x512x1024.Idx) = (ix3 (bat t) ⟨512 * (t.val % 8) + s.val, by omega⟩ l : S16x4096x1024.Idx) := by
    unfold bat
    blk_ext [idx t]
  rw [e]
  exact outs_at m c t s l

/-- The reference's result, where its arguments are the kernel's. -/
theorem reference_at (V0 : Valuation Cert.Reference2Ideal.τ Cert.Reference2Ideal.sig (Elt Ideal))
    (h0 : V0 (Proc.devRef .tc Cert.Reference2Ideal.main_arg0) = aX m c) (h1 : V0 (Proc.devRef .tc Cert.Reference2Ideal.main_arg1) = aM m c)
    (h2 : V0 (Proc.devRef .tc Cert.Reference2Ideal.main_arg2) = aP m c) (h3 : V0 (Proc.devRef .tc Cert.Reference2Ideal.main_arg3) = aQ m c)
    (h4 : V0 (Proc.devRef .tc Cert.Reference2Ideal.main_arg4) = aU m c) (h5 : V0 (Proc.devRef .tc Cert.Reference2Ideal.main_arg5) = aC m c)
    (h6 : V0 (Proc.devRef .tc Cert.Reference2Ideal.main_arg6) = aB m c) (h7 : V0 (Proc.devRef .tc Cert.Reference2Ideal.main_arg7) = aD m c) :
    closeR (V0 (Proc.devRef .tc Cert.Reference2Ideal.main_arg0)) (V0 (Proc.devRef .tc Cert.Reference2Ideal.main_arg1))
        (V0 (Proc.devRef .tc Cert.Reference2Ideal.main_arg3)) (Cert.Reference2Ideal.Value.res_main_v70 V0)
      = (dats m 0 c).arrAt 16 cfg0.N := by
  rw [reference_eq, h0, h1, h2, h3, h4, h5, h6, h7, final]
  funext i
  obtain ⟨q, t, l, rfl⟩ : ∃ (q : Fin 16) (t : Fin 4096) (l : Fin 1024), i = (ix3 q t l : S16x4096x1024.Idx) := ⟨i 0, i 1, i 2, eq_ix3 i⟩
  exact reference_apply _ _ _ _ _ _ _ _ q t l

/-- At exact arithmetic the kernel and the reference end with the same result. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => (dats m 0 c).arrAt 16 cfg0.N, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6, h7⟩ := hagree c
  exact reference_at m c _ h0 h1 h2 h3 h4 h5 h6 h7

end Cert.Proof.Ffn

end
-- ==== Proof.AdaFrame.lean ====
module

public import proofs.«01_k».proof.Defs
public import proofs.«01_k».proof.Proof.Gen.Kernel3
public import proofs.«01_k».proof.Proof.Gen.Kernel3Ideal
public import proofs.«01_k».proof.Proof.Gen.Kernel3Ideal.Frame

/-! The modulations' kernel as printed and its reading over the extended reals are the same text, so one run serves both
    frames. -/

@[expose] public section

set_option maxRecDepth 16384

noncomputable section

namespace Cert.Proof.Ada

open Idealize.ShloMosaic Idealize.ShloMosaic.TcCoe Idealize.SL.Sem

set_option maxHeartbeats 4000000 in
/-- The table of kernel bodies, at its one label. -/
theorem bodies_eq : Kernel3.defs₀ (F := Bits) = Kernel3Ideal.defs₀ (F := Bits) := by
  unfold Kernel3.defs₀ Kernel3Ideal.defs₀
  refine congrArg Defs.onTc (funext fun l => funext fun x => ?_)
  match l, x with
  | 0, (t, s) => rfl

set_option maxHeartbeats 4000000 in
/-- The whole table: the bodies and the pipeline around them. -/
theorem defs_eq : Kernel3.defs (F := Bits) = Kernel3Ideal.defs (F := Bits) := by
  have h : Kernel3.defs (F := Bits) = Pipeline.defs Kernel3.pcfgs (Kernel3.defs₀ (F := Bits)) := by unfold Kernel3.defs; rfl
  rw [h, bodies_eq]
  unfold Kernel3Ideal.defs
  rfl

set_option maxHeartbeats 4000000 in
/-- The host line and the call. -/
theorem main_eq : Kernel3.main (F := Bits) = Kernel3Ideal.main (F := Bits) := rfl

/-- A run of an equal program is a run of the kernel as printed. -/
theorem run_of_eq {D} {M} (hD : Kernel3.defs (F := Bits) = D) (hM : Kernel3.main (F := Bits) = M) {s} {Q}
    (h : θ_run D (onTc (τ := Kernel3.τ) M) s Q) : θ_run Kernel3.defs (onTc (τ := Kernel3.τ) (Kernel3.main (F := Bits))) s Q := by
  subst hD hM
  exact h

set_option maxHeartbeats 4000000 in
/-- The modulations' kernel as printed, on the machine's own floats: it runs, keeps its three arguments and leaves every
    semaphore at zero. -/
theorem frame_kernel3 : Cert.quiescent_Kernel3 (hKernel3 := Cert.Kernel3.Gen.facts) := fun m ρ _ =>
  run_of_eq defs_eq main_eq (Cert.Kernel3Ideal.Gen.frame (F := Bits) m ρ)

end Cert.Proof.Ada

end
-- ==== Proof.AdaValue.lean ====
/-
  The modulations: at exact arithmetic, each element of what the kernel leaves is that element of the reference's result.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Proof.Ada

open Cert.Kernel3Ideal Cert.Kernel3Ideal.Gen
open Idealize.ShloMosaic
open Idealize.ShloMosaic.TcCoe Idealize.ShloMosaic.Tactic
open Idealize.SL.Sem

/-- A number times its logistic. -/
def act (x : EReal) : EReal := x * Ideal.div 1 (1 + Ideal.exp (-x))

/-- Layer `n`'s modulation `l` of conditioning row `r`. -/
def goal (C : FVec Ideal S24x1024 .f32) (W : FVec Ideal S4x1024x6144 .f32) (B : FVec Ideal S4x6144 .f32) (n : Fin 4) (r : Fin 24) (l : Fin 6144) : EReal :=
  (∑ d : Fin 1024, act (C (ix2 r d)) * W (ix3 n d l)) + B (ix2 n l)

/-- One element of a block, over what the grid point reads. -/
theorem block_apply (C : Vec Ideal S24x1024 .f32) (W : Vec Ideal S1x1024x1024 .f32) (B : Vec Ideal S1x1x1024 .f32) (r : Fin 24) (l : Fin 1024) :
    k0_pay1 C W B (ix3 0 r l) = (∑ d : Fin 1024, act (C (ix2 r d)) * W (ix3 0 d l)) + B (ix3 0 0 l) := by
  unfold act
  pointwise [k0_pay1]
  rfl

/-- Which block of its array each window is at, at a grid point. -/
theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] := by decide +kernel

variable (m : (ℓ : Loc nD τ sig) → Buf (Elt Ideal) ℓ) (c : Dev nD)

/-- The conditioning rows. -/
abbrev aC : FVec Ideal S24x1024 .f32 := m ((c : Thread nD τ).loc main_arg0)
/-- The weights. -/
abbrev aW : FVec Ideal S4x1024x6144 .f32 := m ((c : Thread nD τ).loc main_arg1)
/-- The bias. -/
abbrev aB : FVec Ideal S4x6144 .f32 := m ((c : Thread nD τ).loc main_arg2)

/-- The bias with a middle axis. -/
theorem v0_at (n : Fin 4) (j : Fin 6144) : (V m c main_v0 : Vec Ideal S4x1x6144 .f32) (ix3 n 0 j) = aB m c (ix2 n j) := by
  unfold V
  after_reads_at

section
variable (t : Fin cfg0.N)

/-- The grid point's layer. -/
abbrev lay : Fin 4 := ⟨t.val / 6, by have : t.val < 24 := t.isLt; omega⟩

/-- Window 0: the conditioning rows, whole. -/
theorem blk0 (y : S24x1024.Idx) : (iblk m c 0 t : Vec Ideal S24x1024 .f32) y = aC m c y := by
  blk_ext [iblk, V, idx t]

/-- Window 1: a layer's weights for one of the six modulations. -/
theorem blk1 (d l : Fin 1024) : (iblk m c 1 t : Vec Ideal S1x1024x1024 .f32) (ix3 0 d l)
    = aW m c (ix3 (lay t) d ⟨1024 * (t.val % 6) + l.val, by omega⟩) := by
  blk_ext [iblk, V, idx t]

/-- Window 2: the same part of the bias. -/
theorem blk2 (l : Fin 1024) : (iblk m c 2 t : Vec Ideal S1x1x1024 .f32) (ix3 0 0 l)
    = aB m c (ix2 (lay t) ⟨1024 * (t.val % 6) + l.val, by omega⟩) := by
  rw [← v0_at]
  blk_ext [iblk, idx t]

/-- What a grid point writes, at one element. -/
theorem outs_at (r : Fin 24) (l : Fin 1024) : out0_3 (iblk m c 0 t) (iblk m c 1 t) (iblk m c 2 t) (ix3 0 r l)
    = goal (aC m c) (aW m c) (aB m c) (lay t) r ⟨1024 * (t.val % 6) + l.val, by omega⟩ := by
  have e : out0_3 (iblk m c 0 t) (iblk m c 1 t) (iblk m c 2 t) = k0_pay1 (iblk m c 0 t) (iblk m c 1 t) (iblk m c 2 t) := by
    unfold out0_3 r0_0 r0_1 r0_2 r0_3
    simp (disch := decide) only [View.canon_cons_unit_lit', View.ld_unit_lit']
  rw [e, block_apply]
  simp only [blk0, blk1, blk2]
  rfl
end

/-- The array that the kernel leaves. -/
theorem final : (dats m 0 c).arrAt 3 cfg0.N = (fun i => goal (aC m c) (aW m c) (aB m c) (i 0) (i 1) (i 2) : Vec Ideal S4x24x6144 .f32) := by
  refine (dats m 0 c).arrAt_eq_of_covers 3 _ (by decide +kernel) fun t hf y => ?_
  blk_simp
  rw [after0_3]
  obtain ⟨s, l, rfl⟩ : ∃ (s : Fin 24) (l : Fin 1024), y = (ix3 0 s l : S1x24x1024.Idx) := by
    refine ⟨y 1, y 2, ?_⟩
    funext a
    refine Fin.ext ?_
    fin_cases a
    · have : (y 0).val < 1 := (y 0).isLt
      show (y 0).val = 0; omega
    · rfl
    · rfl
  have e : (win0_3.blk t).view.emb (ix3 0 s l : S1x24x1024.Idx) = (ix3 (lay t) s ⟨1024 * (t.val % 6) + l.val, by omega⟩ : S4x24x6144.Idx) := by
    blk_ext [idx t]
  rw [e]
  exact outs_at m c t s l

/-- The reference's result. -/
def ref (C : FVec Ideal S24x1024 .f32) (W : FVec Ideal S4x1024x6144 .f32) (B : FVec Ideal S4x6144 .f32) : FVec Ideal S4x24x6144 .f32 :=
  addf (F := Ideal) (transpose S4x24x6144 [0, 2, 1] (Host.dotGeneral Cert.Reference3Ideal.dot_S4x1024x6144_S24x1024_S4x6144x24_1_1_02_0_n_n none W (mulf C (Host.divf (broadcastInDim S24x1024 ![] Cert.Reference3Ideal.Gen.bcast_S_S24x1024 (constant Cert.Reference3Ideal.S_ .f32 0x3F800000#32)) (addf (broadcastInDim S24x1024 ![] Cert.Reference3Ideal.Gen.bcast_S_S24x1024 (constant Cert.Reference3Ideal.S_ .f32 0x3F800000#32)) (Host.exp (Host.negf C)))))) Cert.Reference3Ideal.Gen.transposes_S4x6144x24_S4x24x6144_0_2_1) (broadcastInDim S4x24x6144 ![0, 1, 2] Cert.Reference3Ideal.Gen.bcast_S4x1x6144_S4x24x6144_0_1_2 (broadcastInDim S4x1x6144 ![0, 2] Cert.Reference3Ideal.Gen.bcast_S4x6144_S4x1x6144_0_2 B))

/-- The reference's result, at one element. -/
theorem ref_apply (C : FVec Ideal S24x1024 .f32) (W : FVec Ideal S4x1024x6144 .f32) (B : FVec Ideal S4x6144 .f32) (n : Fin 4) (r : Fin 24) (l : Fin 6144) :
    ref C W B (ix3 n r l) = goal C W B n r l := by
  unfold ref goal act
  pointwise
  exact congrArg (· + B (ix2 n l)) (Finset.sum_congr rfl fun d _ => mul_comm _ _)

/-- At exact arithmetic the kernel and the reference end with the same result. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => (dats m 0 c).arrAt 3 cfg0.N, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  obtain ⟨h0, h1, h2⟩ := hagree c
  rw [h0, h1, h2]
  refine Eq.trans ?_ (final m c).symm
  funext i
  obtain ⟨n, r, l, rfl⟩ : ∃ (n : Fin 4) (r : Fin 24) (l : Fin 6144), i = (ix3 n r l : S4x24x6144.Idx) := ⟨i 0, i 1, i 2, eq_ix3 i⟩
  exact ref_apply (aC m c) (aW m c) (aB m c) n r l

end Cert.Proof.Ada

end
-- ==== Proof.ProjFrame.lean ====
module

public import proofs.«01_k».proof.Defs
public import proofs.«01_k».proof.Proof.Gen.Kernel4
public import proofs.«01_k».proof.Proof.Gen.Kernel4Ideal
public import proofs.«01_k».proof.Proof.Gen.Kernel4Ideal.Frame

/-! The input projection as printed and its reading over the extended reals are the same text, so one run serves both
    frames. -/

@[expose] public section

set_option maxRecDepth 16384

noncomputable section

namespace Cert.Proof.Proj

open Idealize.ShloMosaic Idealize.ShloMosaic.TcCoe Idealize.SL.Sem

set_option maxHeartbeats 4000000 in
/-- The table of kernel bodies, at its one label. -/
theorem bodies_eq : Kernel4.defs₀ (F := Bits) = Kernel4Ideal.defs₀ (F := Bits) := by
  unfold Kernel4.defs₀ Kernel4Ideal.defs₀
  refine congrArg Defs.onTc (funext fun l => funext fun x => ?_)
  match l, x with
  | 0, (t, s) => rfl

set_option maxHeartbeats 4000000 in
/-- The whole table: the bodies and the pipeline around them. -/
theorem defs_eq : Kernel4.defs (F := Bits) = Kernel4Ideal.defs (F := Bits) := by
  have h : Kernel4.defs (F := Bits) = Pipeline.defs Kernel4.pcfgs (Kernel4.defs₀ (F := Bits)) := by unfold Kernel4.defs; rfl
  rw [h, bodies_eq]
  unfold Kernel4Ideal.defs
  rfl

set_option maxHeartbeats 4000000 in
/-- The host line and the call. -/
theorem main_eq : Kernel4.main (F := Bits) = Kernel4Ideal.main (F := Bits) := rfl

/-- A run of an equal program is a run of the kernel as printed. -/
theorem run_of_eq {D} {M} (hD : Kernel4.defs (F := Bits) = D) (hM : Kernel4.main (F := Bits) = M) {s} {Q}
    (h : θ_run D (onTc (τ := Kernel4.τ) M) s Q) : θ_run Kernel4.defs (onTc (τ := Kernel4.τ) (Kernel4.main (F := Bits))) s Q := by
  subst hD hM
  exact h

set_option maxHeartbeats 4000000 in
/-- The input projection as printed, on the machine's own floats: it runs, keeps its six arguments and leaves every
    semaphore at zero. -/
theorem frame_kernel4 : Cert.quiescent_Kernel4 (hKernel4 := Cert.Kernel4.Gen.facts) := fun m ρ _ =>
  run_of_eq defs_eq main_eq (Cert.Kernel4Ideal.Gen.frame (F := Bits) m ρ)

end Cert.Proof.Proj

end
-- ==== Proof.ProjPoint.lean ====
/-
  The input projection: each of the kernel's expressions at one element.
-/
module

public import proofs.«01_k».proof.Proof.FfnPoint
public import proofs.«01_k».proof.Proof.Gen.Kernel4Ideal.Skeleton
public import Idealize.ShloMosaic.Lib.Pointwise

@[expose] public section

set_option maxRecDepth 16384

noncomputable section

namespace Cert.Proof.Proj

open Cert.Kernel4Ideal Cert.Kernel4Ideal.Gen
open Idealize.ShloMosaic
open Idealize.ShloMosaic.TcCoe Idealize.ShloMosaic.Tactic
open Idealize.SL.Sem
open Cert.Proof.Ffn (pre nrm)

/-- The lane that a lane is rotated with: the other half of its head. -/
abbrev other (n : ℕ) : ℕ := if n % 64 < 32 then n + 32 else n - 32

theorem other_lt {k n : ℕ} (h : n < 64 * k) : other n < 64 * k := by
  unfold other; split <;> omega

/-- A sine's sign: minus in a head's first half. -/
def signed (n : ℕ) (x : EReal) : EReal := if n % 64 < 32 then -x else x

/-- The query's scale. -/
abbrev qs : EReal := Ideal.ofBits FTy.f32 0x3E38AA3B#32

/-- The tile's rows, normed and modulated. -/
theorem hid_apply (x : Vec Ideal S1x1024x1024 .f32) (g : Vec Ideal S1x1024 .f32) (sh sc : Vec Ideal S1x1x1024 .f32) (s d : Fin 1024) :
    k0_pay3 x g sh sc (ix2 s d) = pre (fun d => x (ix3 0 s d)) (fun d => g (ix2 0 d)) (fun d => sc (ix3 0 0 d)) (fun d => sh (ix3 0 0 d)) d := by
  unfold pre nrm
  pointwise [k0_pay3]

/-- The pool's channels. -/
theorem u_apply (h : Vec Ideal S1024x1024 .bf16) (w : Vec Ideal S1024x512 .bf16) (s : Fin 1024) (j : Fin 512) :
    k0_pay7 h w (ix3 0 s j) = ∑ d : Fin 1024, h (ix2 s d) * w (ix2 d j) := by
  pointwise [k0_pay7]

/-- The queries before rotation. -/
theorem q_apply (h : Vec Ideal S1024x1024 .bf16) (w : Vec Ideal S1024x512 .bf16) (s : Fin 1024) (j : Fin 512) :
    k0_pay8 h w (ix2 s j) = ∑ d : Fin 1024, h (ix2 s d) * w (ix2 d j) := by
  pointwise [k0_pay8]

/-- The keys before rotation. -/
theorem k_apply (h : Vec Ideal S1024x1024 .bf16) (w : Vec Ideal S1024x256 .bf16) (s : Fin 1024) (j : Fin 256) :
    k0_pay14 h w (ix2 s j) = ∑ d : Fin 1024, h (ix2 s d) * w (ix2 d j) := by
  pointwise [k0_pay14]

/-- The values. -/
theorem v_apply (h : Vec Ideal S1024x1024 .bf16) (w : Vec Ideal S1024x128 .bf16) (s : Fin 1024) (j : Fin 128) :
    k0_pay17 h w (ix2 s j) = ∑ d : Fin 1024, h (ix2 s d) * w (ix2 d j) := by
  pointwise [k0_pay17]

/-- Which lanes are in a head's first half. -/
theorem first_half : ∀ l : Fin 128, IntOp.cmpi .slt (IntOp.andi (BitVec.ofNat 32 l.val) 63#32) 32#32 = if l.val % 64 < 32 then 1#1 else 0#1 := by
  decide +kernel

/-- The rotated pair of heads: the lane in the other half of its head. -/
theorem partner (A : FVec Ideal S1024x128 .f32) (s : Fin 1024) (l : Fin 128) :
    select k0_pay4 (dynamicRotate 1 96#32 none A rotates_S1024x128_d1) (dynamicRotate 1 32#32 none A rotates_S1024x128_d1) (ix2 s l)
      = A (ix2 s ⟨other l.val, other_lt (k := 2) l.isLt⟩) := by
  pointwise [k0_pay4]
  refine (congrArg (fun w => Scalar.select w _ _) (first_half l)).trans ?_
  unfold other
  by_cases h : l.val % 64 < 32
  · simp only [if_pos h]
    exact congrArg A (congrArg (ix2 s) (Fin.ext (by show (l.val + 128 - 96) % 128 = l.val + 32; omega)))
  · simp only [if_neg h]
    exact congrArg A (congrArg (ix2 s) (Fin.ext (by show (l.val + 128 - 32) % 128 = l.val - 32; omega)))

/-- A rotated pair of heads, not scaled. -/
def rotated (C S A : FVec Ideal S1024x128 .f32) (s : Fin 1024) (l : Fin 128) : EReal :=
  A (ix2 s l) * C (ix2 s l) + A (ix2 s ⟨other l.val, other_lt (k := 2) l.isLt⟩) * S (ix2 s l)

/-- A rotated and scaled pair of heads. -/
theorem rot_apply (A C S : FVec Ideal S1024x128 .f32) (s : Fin 1024) (l : Fin 128) :
    k0_pay12 k0_pay4 C S A 96#32 (ix3 0 s l)
      = rotated C S A s l * qs := by
  unfold rotated
  rw [← partner A s l]
  generalize hp : select k0_pay4 (dynamicRotate 1 96#32 none A rotates_S1024x128_d1) (dynamicRotate 1 32#32 none A rotates_S1024x128_d1) = p
  unfold k0_pay12
  simp only [hp]
  pointwise

/-- The first pair of key heads. -/
theorem rotk0_apply (h : Vec Ideal S1024x1024 .bf16) (w : Vec Ideal S1024x256 .bf16) (C S : FVec Ideal S1024x128 .f32) (s : Fin 1024) (l : Fin 128) :
    k0_pay15 h k0_pay4 C S w (ix3 0 s l)
      = rotated C S (extractStridedSlice S1024x128 ![0, 0] (k0_pay14 h w) slices_S1024x256_o0_0_S1024x128) s l := by
  unfold k0_pay15
  generalize extractStridedSlice S1024x128 ![0, 0] (k0_pay14 h w) slices_S1024x256_o0_0_S1024x128 = A
  unfold rotated
  rw [← partner A s l]
  generalize select k0_pay4 (dynamicRotate 1 96#32 none A rotates_S1024x128_d1) (dynamicRotate 1 32#32 none A rotates_S1024x128_d1) = p
  pointwise

/-- The second pair of key heads. -/
theorem rotk1_apply (K : FVec Ideal S1024x256 .f32) (C S : FVec Ideal S1024x128 .f32) (s : Fin 1024) (l : Fin 128) :
    k0_pay16 k0_pay4 C S K (ix3 0 s l)
      = rotated C S (extractStridedSlice S1024x128 ![0, 128] K slices_S1024x256_o0_128_S1024x128) s l := by
  unfold k0_pay16
  generalize extractStridedSlice S1024x128 ![0, 128] K slices_S1024x256_o0_128_S1024x128 = A
  unfold rotated
  rw [← partner A s l]
  generalize select k0_pay4 (dynamicRotate 1 96#32 none A rotates_S1024x128_d1) (dynamicRotate 1 32#32 none A rotates_S1024x128_d1) = p
  pointwise

/-- One element of a chunk of the values, transposed, with rows of ones under each head: row `r` and position `p` of the chunk
    that starts at row `o`. -/
def chunk (A : FVec Ideal S1024x128 .f32) (o : ℕ) (ho : o + 128 ≤ 1024) (r : Fin 160) (p : Fin 128) : EReal :=
  if h : r.val % 80 < 64 then A (ix2 ⟨o + p.val, by omega⟩ ⟨64 * (r.val / 80) + r.val % 80, by omega⟩) else 1

/-- The four pieces laid under one another are that chunk. -/
theorem chunk_eq (A : FVec Ideal S1024x128 .f32) (o : ℕ) (ho : o + 128 ≤ 1024) (r : Fin 160) (p : Fin 128) :
    (if h : r.val < 64 then A (ix2 ⟨o + p.val, by omega⟩ ⟨r.val, by omega⟩)
    else if h : r.val - 64 < 16 then 1
      else if h : r.val - 64 - 16 < 64 then A (ix2 ⟨o + p.val, by omega⟩ ⟨64 + (r.val - 64 - 16), by omega⟩) else 1) = chunk A o ho r p := by
  unfold chunk
  by_cases h : r.val < 64
  · rw [dif_pos h, dif_pos (by omega)]
    exact congrArg A (congrArg (ix2 _) (Fin.ext (by show r.val = 64 * (r.val / 80) + r.val % 80; omega)))
  · rw [dif_neg h]
    by_cases h' : r.val - 64 < 16
    · rw [dif_pos h', dif_neg (by omega)]
    · rw [dif_neg h']
      by_cases h'' : r.val - 64 - 16 < 64
      · rw [dif_pos h'', dif_pos (by omega)]
        exact congrArg A (congrArg (ix2 _) (Fin.ext (by show 64 + (r.val - 64 - 16) = 64 * (r.val / 80) + r.val % 80; omega)))
      · rw [dif_neg h'', dif_neg (by omega)]

section
variable (h : Vec Ideal S1024x1024 .bf16) (w : Vec Ideal S1024x128 .bf16) (A : FVec Ideal S1024x128 .f32) (r : Fin 160) (p : Fin 128)

theorem vt0_apply : k0_pay19 h w (ix4 0 0 r p) = chunk (k0_pay17 h w) 0 (by omega) r p := by
  unfold k0_pay19
  generalize k0_pay17 h w = A
  rw [← chunk_eq]
  pointwise [k0_pay18]

theorem vt1_apply : k0_pay20 h w (ix4 0 0 r p) = chunk (k0_pay17 h w) 128 (by omega) r p := by
  unfold k0_pay20
  generalize k0_pay17 h w = A
  rw [← chunk_eq]
  pointwise [k0_pay18]

theorem vt2_apply : k0_pay22 (k0_pay21 h w) (ix4 0 0 r p) = chunk (k0_pay17 h w) 256 (by omega) r p := by
  unfold k0_pay21
  generalize k0_pay17 h w = A
  rw [← chunk_eq]
  pointwise [k0_pay22, k0_pay18]

theorem vt3_apply : k0_pay23 A k0_pay18 (ix4 0 0 r p) = chunk A 384 (by omega) r p := by
  rw [← chunk_eq]
  pointwise [k0_pay23, k0_pay18]

theorem vt4_apply : k0_pay24 A k0_pay18 (ix4 0 0 r p) = chunk A 512 (by omega) r p := by
  rw [← chunk_eq]
  pointwise [k0_pay24, k0_pay18]

theorem vt5_apply : k0_pay25 A k0_pay18 (ix4 0 0 r p) = chunk A 640 (by omega) r p := by
  rw [← chunk_eq]
  pointwise [k0_pay25, k0_pay18]

theorem vt6_apply : k0_pay1 (k0_pay26 A k0_pay18) (ix4 0 0 r p) = chunk A 768 (by omega) r p := by
  rw [← chunk_eq]
  pointwise [k0_pay1, k0_pay26, k0_pay18]

theorem vt7_apply : k0_pay2 A k0_pay18 (ix4 0 0 r p) = chunk A 896 (by omega) r p := by
  rw [← chunk_eq]
  pointwise [k0_pay2, k0_pay18]
end

end Cert.Proof.Proj

end
-- ==== Proof.ProjHost.lean ====
/-
  What the arrays that the input projection is given hold of its six arguments.
-/
module

public import proofs.«01_k».proof.Proof.ProjPoint
public import proofs.«01_k».proof.Proof.Gen.Kernel4Ideal.Value
public import Idealize.ShloMosaic.Lib.Pointwise
public import Idealize.ShloMosaic.Lib.StableHlo.ReadAt

@[expose] public section

set_option maxRecDepth 16384

noncomputable section

namespace Cert.Proof.Proj

open Cert.Kernel4Ideal Cert.Kernel4Ideal.Gen
open Idealize.ShloMosaic
open Idealize.ShloMosaic.TcCoe Idealize.ShloMosaic.Tactic
open Idealize.SL.Sem
open Cert.Proof.Ffn (pre nrm)

variable (m : (ℓ : Loc nD τ sig) → Buf (Elt Ideal) ℓ) (c : Dev nD)

/-- The residual stream. -/
abbrev aX : FVec Ideal S16x4096x1024 .f32 := m ((c : Thread nD τ).loc main_arg0)
/-- The modulations. -/
abbrev aM : FVec Ideal S24x6144 .f32 := m ((c : Thread nD τ).loc main_arg1)
/-- The norm's scale. -/
abbrev aP : FVec Ideal S1024 .f32 := m ((c : Thread nD τ).loc main_arg2)
/-- The weights. -/
abbrev aW : FVec Ideal S1024x1280 .f32 := m ((c : Thread nD τ).loc main_arg3)
/-- The cosines. -/
abbrev aC : FVec Ideal S4096x32 .f32 := m ((c : Thread nD τ).loc main_arg4)
/-- The sines. -/
abbrev aS : FVec Ideal S4096x32 .f32 := m ((c : Thread nD τ).loc main_arg5)

/-- The modulations with a middle axis. -/
theorem v0_at (q : Fin 24) (j : Fin 6144) : (V m c main_v0 : Vec Ideal S24x1x6144 .f32) (ix3 q 0 j) = aM m c (ix2 q j) := by
  unfold V
  after_reads_at

/-- The norm's scale as a row. -/
theorem v5_at (j : Fin 1024) : (V m c main_v5 : Vec Ideal S1x1024 .f32) (ix2 0 j) = aP m c (ix1 j) := by
  unfold V
  after_reads_at

/-- The weights of the channels and of the queries. -/
theorem w_uq (d j : Fin 1024) : (V m c main_v13 : Vec Ideal S1024x1408 .bf16) (ix2 d ⟨j.val, by omega⟩) = aW m c (ix2 d ⟨j.val, by omega⟩) := by
  unfold V
  after_reads_at
  after_reads_at

/-- The weights of the keys, each head twice. -/
theorem w_k (d : Fin 1024) (j : Fin 256) : (V m c main_v13 : Vec Ideal S1024x1408 .bf16) (ix2 d ⟨1024 + j.val, by omega⟩)
    = aW m c (ix2 d ⟨1024 + (64 * (j.val / 128) + j.val % 64), by omega⟩) := by
  unfold V
  after_reads_at
  after_reads_at
  simp only [Nat.mul_comm 64]

/-- The weights of the values. -/
theorem w_v (d : Fin 1024) (j : Fin 128) : (V m c main_v13 : Vec Ideal S1024x1408 .bf16) (ix2 d ⟨1280 + j.val, by omega⟩)
    = aW m c (ix2 d ⟨1152 + j.val, by omega⟩) := by
  unfold V
  after_reads_at
  after_reads_at
  rw [dif_neg (by omega), dif_neg (by omega)]
  exact congrArg (aW m c) (congrArg (ix2 d) (Fin.ext (by show 1152 + (1280 + j.val - 1024 - 256) = 1152 + j.val; omega)))

/-- Four copies of 32 lanes side by side, read at a lane. -/
theorem table_eq (f : Fin 32 → EReal) {l : ℕ} (hl : l < 128) :
    (if h : l < 32 then f ⟨l, h⟩ else if h : l - 32 < 32 then f ⟨l - 32, h⟩
      else if h : l - 32 - 32 < 32 then f ⟨l - 32 - 32, h⟩ else f ⟨l - 32 - 32 - 32, by omega⟩) = f ⟨l % 32, by omega⟩ := by
  by_cases h0 : l < 32
  · rw [dif_pos h0]
    exact congrArg f (Fin.ext (by show l = l % 32; omega))
  rw [dif_neg h0]
  by_cases h1 : l - 32 < 32
  · rw [dif_pos h1]
    exact congrArg f (Fin.ext (by show l - 32 = l % 32; omega))
  rw [dif_neg h1]
  by_cases h2 : l - 32 - 32 < 32
  · rw [dif_pos h2]
    exact congrArg f (Fin.ext (by show l - 32 - 32 = l % 32; omega))
  rw [dif_neg h2]
  exact congrArg f (Fin.ext (by show l - 32 - 32 - 32 = l % 32; omega))

/-- The same with the first and the third copy negated. -/
theorem signed_eq (f : Fin 32 → EReal) {l : ℕ} (hl : l < 128) :
    (if h : l < 32 then -f ⟨l, h⟩ else if h : l - 32 < 32 then f ⟨l - 32, h⟩
      else if h : l - 32 - 32 < 32 then -f ⟨l - 32 - 32, h⟩ else f ⟨l - 32 - 32 - 32, by omega⟩) = signed l (f ⟨l % 32, by omega⟩) := by
  unfold signed
  by_cases h0 : l < 32
  · rw [dif_pos h0, if_pos (by omega)]
    exact congrArg (fun x : Fin 32 => -f x) (Fin.ext (by show l = l % 32; omega))
  rw [dif_neg h0]
  by_cases h1 : l - 32 < 32
  · rw [dif_pos h1, if_neg (by omega)]
    exact congrArg f (Fin.ext (by show l - 32 = l % 32; omega))
  rw [dif_neg h1]
  by_cases h2 : l - 32 - 32 < 32
  · rw [dif_pos h2, if_pos (by omega)]
    exact congrArg (fun x : Fin 32 => -f x) (Fin.ext (by show l - 32 - 32 = l % 32; omega))
  rw [dif_neg h2]
  rw [if_neg (by omega)]
  exact congrArg f (Fin.ext (by show l - 32 - 32 - 32 = l % 32; omega))

/-- The cosines' table. -/
theorem cos_at (t : Fin 4096) (l : Fin 128) : (V m c main_v1 : Vec Ideal S4096x128 .f32) (ix2 t l) = aC m c (ix2 t ⟨l.val % 32, by omega⟩) := by
  unfold V
  after_reads_at
  exact table_eq (fun x => aC m c (ix2 t x)) l.isLt

/-- The sines' table, with its signs. -/
theorem sin_at (t : Fin 4096) (l : Fin 128) : (V m c main_v4 : Vec Ideal S4096x128 .f32) (ix2 t l)
    = signed l.val (aS m c (ix2 t ⟨l.val % 32, by omega⟩)) := by
  unfold V
  after_reads_at
  after_reads_at
  exact signed_eq (fun x => aS m c (ix2 t x)) l.isLt

end Cert.Proof.Proj

end
-- ==== Proof.ProjShape.lean ====
/-
  Two changes of layout in the reference of the input projection, each at one element.
-/
module

public import proofs.«01_k».proof.Proof.ProjPoint
public import proofs.«01_k».proof.Reference4Ideal
public import proofs.«01_k».proof.Proof.Gen.Reference4Ideal.Run
public import Idealize.ShloMosaic.Lib.Pointwise
public import Idealize.ShloMosaic.Lib.StableHlo.ReadAt

@[expose] public section

set_option maxRecDepth 16384

noncomputable section

namespace Cert.Proof.Proj

open Cert.Reference4Ideal Cert.Reference4Ideal.Gen
open Idealize.ShloMosaic
open Idealize.ShloMosaic.TcCoe Idealize.ShloMosaic.Tactic
open Idealize.SL.Sem
open Cert.Proof.Ffn (pre nrm)

/-- Each head twice. -/
def dup (A : FVec Ideal S16x4096x2x64 .f32) : FVec Ideal S16x4096x256 .bf16 :=
  truncf (F := Ideal) .bf16 (shapeCast _ (concatenate S16x4096x2x128 3 [⟨S16x4096x2x64, A⟩, ⟨S16x4096x2x64, A⟩] concatenates_S16x4096x2x64_S16x4096x2x64_S16x4096x2x128_d3) shapeCasts_S16x4096x2x128_S16x4096x256) bitsLt_bf16_f32

/-- Each head twice, at one element. -/
theorem dup_apply (A : FVec Ideal S16x4096x2x64 .f32) (q : Fin 16) (t : Fin 4096) (j : Fin 256) :
    dup A (ix3 q t j) = A (ix4 q t ⟨j.val / 128, by omega⟩ ⟨j.val % 64, by omega⟩) := by
  unfold dup
  pointwise
  by_cases h : j.val % 128 < 64
  · rw [dif_pos h]
    exact congrArg A (congrArg (ix4 q t _) (Fin.ext (by show j.val % 128 = j.val % 64; omega)))
  · rw [dif_neg h]
    exact congrArg A (congrArg (ix4 q t _) (Fin.ext (by show j.val % 128 - 64 = j.val % 64; omega)))

/-- The values by chunks, transposed, with rows of ones. -/
def lay (A : FVec Ideal S16x4096x128 .f32) : FVec Ideal S16x32x160x128 .bf16 :=
  truncf (F := Ideal) .bf16 (shapeCast _ (concatenate S16x32x2x80x128 3 [⟨S16x32x2x64x128, (transpose S16x32x2x64x128 [0, 1, 3, 4, 2] (shapeCast _ A shapeCasts_S16x4096x128_S16x32x128x2x64) transposes_S16x32x128x2x64_S16x32x2x64x128_0_1_3_4_2)⟩, ⟨S16x32x2x16x128, (broadcastInDim S16x32x2x16x128 ![] bcast_S_S16x32x2x16x128 (constant S_ .f32 0x3F800000#32))⟩] concatenates_S16x32x2x64x128_S16x32x2x16x128_S16x32x2x80x128_d3) shapeCasts_S16x32x2x80x128_S16x32x160x128) bitsLt_bf16_f32

/-- The values by chunks, at one element. -/
theorem lay_apply (A : FVec Ideal S16x4096x128 .f32) (q : Fin 16) (n : Fin 32) (r : Fin 160) (p : Fin 128) :
    lay A (ix4 q n r p) = if h : r.val % 80 < 64 then A (ix3 q ⟨128 * n.val + p.val, by omega⟩ ⟨64 * (r.val / 80) + r.val % 80, by omega⟩) else 1 := by
  unfold lay
  pointwise
  simp only [Nat.mul_comm 128, Nat.mul_comm 64]

end Cert.Proof.Proj

end
-- ==== Proof.ProjRef.lean ====
/-
  The input projection's four results as formulas over its six arguments, and the reference's results as those formulas.
-/
module

public import proofs.«01_k».proof.Proof.ProjShape
public import Idealize.ShloMosaic.Lib.Pointwise
public import Idealize.ShloMosaic.Lib.StableHlo.ReadAt

@[expose] public section

set_option maxRecDepth 16384

noncomputable section

namespace Cert.Proof.Proj

open Cert.Reference4Ideal Cert.Reference4Ideal.Gen
open Idealize.ShloMosaic
open Idealize.ShloMosaic.TcCoe Idealize.ShloMosaic.Tactic
open Idealize.SL.Sem
open Cert.Proof.Ffn (pre nrm)

section
variable (X : FVec Ideal S16x4096x1024 .f32) (M : FVec Ideal S24x6144 .f32) (P : FVec Ideal S1024 .f32)
  (W : FVec Ideal S1024x1280 .f32) (C S : FVec Ideal S4096x32 .f32)

/-- Row `t` of batch entry `q`, normalized and modulated. -/
def hid (q : Fin 16) (t : Fin 4096) (d : Fin 1024) : EReal :=
  pre (fun d => X (ix3 q t d)) (fun d => P (ix1 d)) (fun d => M (ix2 ⟨q.val, by omega⟩ ⟨1024 + d.val, by omega⟩))
    (fun d => M (ix2 ⟨q.val, by omega⟩ ⟨d.val, by omega⟩)) d

/-- Its product with column `j` of the weights. -/
def proj (q : Fin 16) (t : Fin 4096) (j : Fin 1280) : EReal := ∑ d : Fin 1024, hid X M P q t d * W (ix2 d j)

/-- Lane `n` of a head at position `t`, rotated: `a` is the lane and `b` the lane in the other half of the head. -/
def turned (t : Fin 4096) (n : ℕ) (a b : EReal) : EReal :=
  a * C (ix2 t ⟨n % 32, by omega⟩) + b * signed n (S (ix2 t ⟨n % 32, by omega⟩))

/-- The pool's channels. -/
def goalU (q : Fin 16) (t : Fin 4096) (j : Fin 512) : EReal := proj X M P W q t ⟨j.val, by omega⟩

/-- The queries, rotated and scaled. -/
def goalQ (q : Fin 16) (t : Fin 4096) (j : Fin 512) : EReal :=
  turned C S t j.val (proj X M P W q t ⟨512 + j.val, by omega⟩)
    (proj X M P W q t ⟨512 + other j.val, by have := other_lt (k := 8) j.isLt; omega⟩) * qs

/-- The keys, rotated, each head twice. -/
def goalK (q : Fin 16) (t : Fin 4096) (j : Fin 256) : EReal :=
  turned C S t j.val (proj X M P W q t ⟨1024 + (64 * (j.val / 128) + j.val % 64), by omega⟩)
    (proj X M P W q t ⟨1024 + (64 * (j.val / 128) + other j.val % 64), by omega⟩)

/-- The values by chunks of 128 positions, transposed, with sixteen rows of ones under each head. -/
def goalV (q : Fin 16) (n : Fin 32) (r : Fin 160) (p : Fin 128) : EReal :=
  if h : r.val % 80 < 64 then proj X M P W q ⟨128 * n.val + p.val, by omega⟩ ⟨1152 + (64 * (r.val / 80) + r.val % 80), by omega⟩ else 1

/-- The reference's normalized rows. -/
def hidT : FVec Ideal S16x4096x1024 .f32 :=
  addf (F := Ideal) (mulf (mulf (mulf X (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf X X) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 P))) (broadcastInDim S16x4096x1024 ![0, 1, 2] bcast_S16x1x1024_S16x4096x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![0, 1024] (extractStridedSlice S16x6144 ![0, 0] M slices_S24x6144_S16x6144_0_0) slices_S16x6144_S16x1024_0_1024))))) (broadcastInDim S16x4096x1024 ![0, 1, 2] bcast_S16x1x1024_S16x4096x1024_0_1_2 (broadcastInDim S16x1x1024 ![0, 2] bcast_S16x1024_S16x1x1024_0_2 (extractStridedSlice S16x1024 ![0, 0] (extractStridedSlice S16x6144 ![0, 0] M slices_S24x6144_S16x6144_0_0) slices_S16x6144_S16x1024_0_0)))

/-- The normed and modulated input, at one element. -/
theorem hidT_apply (q : Fin 16) (t : Fin 4096) (d : Fin 1024) : hidT X M P (ix3 q t d) = hid X M P q t d := by
  unfold hidT hid pre nrm
  pointwise

/-- The reference's product. -/
def prodT (H : FVec Ideal S16x4096x1024 .f32) : FVec Ideal S16x4096x1280 .f32 :=
  Host.dotGeneral dot_S16x4096x1024_S1024x1280_S16x4096x1280_2_0_01_1_n_n none H W

/-- The product, at one element. -/
theorem prodT_apply (q : Fin 16) (t : Fin 4096) (j : Fin 1280) : prodT W (hidT X M P) (ix3 q t j) = proj X M P W q t j := by
  have e : ∀ H : FVec Ideal S16x4096x1024 .f32, prodT W H (ix3 q t j) = ∑ d : Fin 1024, H (ix3 q t d) * W (ix2 d j) := by
    intro H
    unfold prodT
    pointwise
  rw [e]
  simp only [hidT_apply]
  rfl

/-- The two halves of a head, rotated and put together again. -/
theorem half_eq (f : Fin 64 → EReal) (c s : Fin 32 → EReal) (j : Fin 64) :
    (if h : j.val < 32 then f j * c ⟨j.val, h⟩ - f ⟨32 + j.val, by omega⟩ * s ⟨j.val, h⟩
      else f ⟨32 + (j.val - 32), by omega⟩ * c ⟨j.val - 32, by omega⟩ + f ⟨j.val - 32, by omega⟩ * s ⟨j.val - 32, by omega⟩)
    = f j * c ⟨j.val % 32, by omega⟩ + f ⟨other j.val, other_lt (k := 1) j.isLt⟩ * signed j.val (s ⟨j.val % 32, by omega⟩) := by
  unfold signed
  by_cases h : j.val < 32
  · have e : (⟨other j.val, other_lt (k := 1) j.isLt⟩ : Fin 64) = ⟨32 + j.val, by omega⟩ := Fin.ext (by
      show other j.val = 32 + j.val
      unfold other; split <;> omega)
    have e' : (⟨j.val % 32, by omega⟩ : Fin 32) = ⟨j.val, h⟩ := Fin.ext (by show j.val % 32 = j.val; omega)
    rw [dif_pos h, if_pos (by omega), e, e', mul_neg, sub_eq_add_neg]
  · have e : (⟨other j.val, other_lt (k := 1) j.isLt⟩ : Fin 64) = ⟨j.val - 32, by omega⟩ := Fin.ext (by
      show other j.val = j.val - 32
      unfold other; split <;> omega)
    have e' : (⟨j.val % 32, by omega⟩ : Fin 32) = ⟨j.val - 32, by omega⟩ := Fin.ext (by show j.val % 32 = j.val - 32; omega)
    have e'' : (⟨32 + (j.val - 32), by omega⟩ : Fin 64) = j := Fin.ext (by show 32 + (j.val - 32) = j.val; omega)
    rw [dif_neg h, if_neg (by omega), e, e', e'']

/-- Only the lane within its head counts. -/
theorem turned_mod (t : Fin 4096) (n : ℕ) (a b : EReal) : turned C S t (n % 64) a b = turned C S t n a b := by
  unfold turned signed
  simp only [Nat.mod_mod, show n % 64 % 32 = n % 32 by omega]

/-- The reference's rotation of the queries. -/
def rotQ (A : FVec Ideal S16x4096x8x64 .f32) : FVec Ideal S16x4096x8x64 .f32 :=
  concatenate S16x4096x8x64 3 [⟨S16x4096x8x32, (subf (F := Ideal) (mulf (extractStridedSlice S16x4096x8x32 ![0, 0, 0, 0] A slices_S16x4096x8x64_S16x4096x8x32_0_0_0_0) (broadcastInDim S16x4096x8x32 ![0, 1, 2, 3] bcast_S1x4096x1x32_S16x4096x8x32_0_1_2_3 (shapeCast _ C shapeCasts_S4096x32_S1x4096x1x32))) (mulf (extractStridedSlice S16x4096x8x32 ![0, 0, 0, 32] A slices_S16x4096x8x64_S16x4096x8x32_0_0_0_32) (broadcastInDim S16x4096x8x32 ![0, 1, 2, 3] bcast_S1x4096x1x32_S16x4096x8x32_0_1_2_3 (shapeCast _ S shapeCasts_S4096x32_S1x4096x1x32))))⟩, ⟨S16x4096x8x32, (addf (F := Ideal) (mulf (extractStridedSlice S16x4096x8x32 ![0, 0, 0, 32] A slices_S16x4096x8x64_S16x4096x8x32_0_0_0_32) (broadcastInDim S16x4096x8x32 ![0, 1, 2, 3] bcast_S1x4096x1x32_S16x4096x8x32_0_1_2_3 (shapeCast _ C shapeCasts_S4096x32_S1x4096x1x32))) (mulf (extractStridedSlice S16x4096x8x32 ![0, 0, 0, 0] A slices_S16x4096x8x64_S16x4096x8x32_0_0_0_0) (broadcastInDim S16x4096x8x32 ![0, 1, 2, 3] bcast_S1x4096x1x32_S16x4096x8x32_0_1_2_3 (shapeCast _ S shapeCasts_S4096x32_S1x4096x1x32))))⟩] concatenates_S16x4096x8x32_S16x4096x8x32_S16x4096x8x64_d3

/-- The reference's rotation of the keys. -/
def rotK (A : FVec Ideal S16x4096x2x64 .f32) : FVec Ideal S16x4096x2x64 .f32 :=
  concatenate S16x4096x2x64 3 [⟨S16x4096x2x32, (subf (F := Ideal) (mulf (extractStridedSlice S16x4096x2x32 ![0, 0, 0, 0] A slices_S16x4096x2x64_S16x4096x2x32_0_0_0_0) (broadcastInDim S16x4096x2x32 ![0, 1, 2, 3] bcast_S1x4096x1x32_S16x4096x2x32_0_1_2_3 (shapeCast _ C shapeCasts_S4096x32_S1x4096x1x32))) (mulf (extractStridedSlice S16x4096x2x32 ![0, 0, 0, 32] A slices_S16x4096x2x64_S16x4096x2x32_0_0_0_32) (broadcastInDim S16x4096x2x32 ![0, 1, 2, 3] bcast_S1x4096x1x32_S16x4096x2x32_0_1_2_3 (shapeCast _ S shapeCasts_S4096x32_S1x4096x1x32))))⟩, ⟨S16x4096x2x32, (addf (F := Ideal) (mulf (extractStridedSlice S16x4096x2x32 ![0, 0, 0, 32] A slices_S16x4096x2x64_S16x4096x2x32_0_0_0_32) (broadcastInDim S16x4096x2x32 ![0, 1, 2, 3] bcast_S1x4096x1x32_S16x4096x2x32_0_1_2_3 (shapeCast _ C shapeCasts_S4096x32_S1x4096x1x32))) (mulf (extractStridedSlice S16x4096x2x32 ![0, 0, 0, 0] A slices_S16x4096x2x64_S16x4096x2x32_0_0_0_0) (broadcastInDim S16x4096x2x32 ![0, 1, 2, 3] bcast_S1x4096x1x32_S16x4096x2x32_0_1_2_3 (shapeCast _ S shapeCasts_S4096x32_S1x4096x1x32))))⟩] concatenates_S16x4096x2x32_S16x4096x2x32_S16x4096x2x64_d3

/-- The rotation, at one element. -/
theorem rotQ_apply (A : FVec Ideal S16x4096x8x64 .f32) (q : Fin 16) (t : Fin 4096) (h : Fin 8) (j : Fin 64) :
    rotQ C S A (ix4 q t h j) = turned C S t j.val (A (ix4 q t h j)) (A (ix4 q t h ⟨other j.val, other_lt (k := 1) j.isLt⟩)) := by
  unfold rotQ
  pointwise
  exact half_eq (fun x => A (ix4 q t h x)) (fun x => C (ix2 t x)) (fun x => S (ix2 t x)) j

/-- The rotation, at one element. -/
theorem rotK_apply (A : FVec Ideal S16x4096x2x64 .f32) (q : Fin 16) (t : Fin 4096) (h : Fin 2) (j : Fin 64) :
    rotK C S A (ix4 q t h j) = turned C S t j.val (A (ix4 q t h j)) (A (ix4 q t h ⟨other j.val, other_lt (k := 1) j.isLt⟩)) := by
  unfold rotK
  pointwise
  exact half_eq (fun x => A (ix4 q t h x)) (fun x => C (ix2 t x)) (fun x => S (ix2 t x)) j

section
variable (Z : FVec Ideal S16x4096x1280 .f32)

/-- The reference's queries by heads, before rotation. -/
def headsQ : FVec Ideal S16x4096x8x64 .f32 := shapeCast _ (extractStridedSlice S16x4096x512 ![0, 0, 512] Z slices_S16x4096x1280_S16x4096x512_0_0_512) shapeCasts_S16x4096x512_S16x4096x8x64
/-- The reference's keys by heads, before rotation. -/
def headsK : FVec Ideal S16x4096x2x64 .f32 := shapeCast _ (extractStridedSlice S16x4096x128 ![0, 0, 1024] Z slices_S16x4096x1280_S16x4096x128_0_0_1024) shapeCasts_S16x4096x128_S16x4096x2x64

/-- The queries by heads, at one element. -/
theorem headsQ_apply (q : Fin 16) (t : Fin 4096) (h : Fin 8) (j : Fin 64) :
    headsQ Z (ix4 q t h j) = Z (ix3 q t ⟨512 + (64 * h.val + j.val), by omega⟩) := by
  unfold headsQ
  pointwise
  simp only [Nat.mul_comm 64]

/-- The keys by heads, at one element. -/
theorem headsK_apply (q : Fin 16) (t : Fin 4096) (h : Fin 2) (j : Fin 64) :
    headsK Z (ix4 q t h j) = Z (ix3 q t ⟨1024 + (64 * h.val + j.val), by omega⟩) := by
  unfold headsK
  pointwise
  simp only [Nat.mul_comm 64]

/-- The reference's channels. -/
def uT : FVec Ideal S16x4096x512 .f32 := extractStridedSlice S16x4096x512 ![0, 0, 0] Z slices_S16x4096x1280_S16x4096x512_0_0_0
/-- The reference's queries. -/
def qT : FVec Ideal S16x4096x512 .bf16 := truncf (F := Ideal) .bf16 (shapeCast _ (mulf (rotQ C S (headsQ Z)) (broadcastInDim S16x4096x8x64 ![] bcast_S_S16x4096x8x64 (constant S_ .f32 0x3E38AA3B#32))) shapeCasts_S16x4096x8x64_S16x4096x512) bitsLt_bf16_f32
/-- The reference's keys. -/
def kT : FVec Ideal S16x4096x256 .bf16 := dup (rotK C S (headsK Z))
/-- The reference's values. -/
def vT : FVec Ideal S16x32x160x128 .bf16 := lay (extractStridedSlice S16x4096x128 ![0, 0, 1152] Z slices_S16x4096x1280_S16x4096x128_0_0_1152)

/-- The channels, at one element. -/
theorem uT_apply (q : Fin 16) (t : Fin 4096) (j : Fin 512) : uT Z (ix3 q t j) = Z (ix3 q t ⟨j.val, by omega⟩) := by
  unfold uT
  pointwise

/-- The queries, at one element. -/
theorem qT_apply (q : Fin 16) (t : Fin 4096) (j : Fin 512) : qT C S Z (ix3 q t j)
    = turned C S t j.val (Z (ix3 q t ⟨512 + j.val, by omega⟩))
      (Z (ix3 q t ⟨512 + other j.val, by have := other_lt (k := 8) j.isLt; omega⟩)) * qs := by
  unfold qT
  pointwise
  rw [rotQ_apply, turned_mod, headsQ_apply, headsQ_apply]
  refine congrArg (· * qs) (congr (congrArg (turned C S t j.val) (congrArg Z (congrArg (ix3 q t) (Fin.ext ?_))))
    (congrArg Z (congrArg (ix3 q t) (Fin.ext ?_))))
  · show 512 + (64 * (j.val / 64) + j.val % 64) = 512 + j.val
    omega
  · show 512 + (64 * (j.val / 64) + other (j.val % 64)) = 512 + other j.val
    unfold other
    split_ifs <;> omega

/-- The keys, at one element. -/
theorem kT_apply (q : Fin 16) (t : Fin 4096) (j : Fin 256) : kT C S Z (ix3 q t j)
    = turned C S t j.val (Z (ix3 q t ⟨1024 + (64 * (j.val / 128) + j.val % 64), by omega⟩))
      (Z (ix3 q t ⟨1024 + (64 * (j.val / 128) + other j.val % 64), by omega⟩)) := by
  unfold kT
  rw [dup_apply, rotK_apply, turned_mod, headsK_apply, headsK_apply]
  refine congrArg (turned C S t j.val _) (congrArg Z (congrArg (ix3 q t) (Fin.ext ?_)))
  show 1024 + (64 * (j.val / 128) + other (j.val % 64)) = 1024 + (64 * (j.val / 128) + other j.val % 64)
  unfold other
  split_ifs <;> omega

/-- The values, at one element. -/
theorem vT_apply (q : Fin 16) (n : Fin 32) (r : Fin 160) (p : Fin 128) : vT Z (ix4 q n r p)
    = if h : r.val % 80 < 64 then Z (ix3 q ⟨128 * n.val + p.val, by omega⟩ ⟨1152 + (64 * (r.val / 80) + r.val % 80), by omega⟩) else 1 := by
  unfold vT
  rw [lay_apply]
  pointwise
end

/-- The four results are the formulas. -/
theorem ref_u (q : Fin 16) (t : Fin 4096) (j : Fin 512) : uT (prodT W (hidT X M P)) (ix3 q t j) = goalU X M P W q t j := by
  rw [uT_apply, prodT_apply]
  rfl

theorem ref_q (q : Fin 16) (t : Fin 4096) (j : Fin 512) : qT C S (prodT W (hidT X M P)) (ix3 q t j) = goalQ X M P W C S q t j := by
  rw [qT_apply, prodT_apply, prodT_apply]
  rfl

theorem ref_k (q : Fin 16) (t : Fin 4096) (j : Fin 256) : kT C S (prodT W (hidT X M P)) (ix3 q t j) = goalK X M P W C S q t j := by
  rw [kT_apply, prodT_apply, prodT_apply]
  rfl

theorem ref_v (q : Fin 16) (n : Fin 32) (r : Fin 160) (p : Fin 128) : vT (prodT W (hidT X M P)) (ix4 q n r p) = goalV X M P W q n r p := by
  rw [vT_apply]
  unfold goalV
  simp only [prodT_apply]
end

end Cert.Proof.Proj

end
-- ==== Proof.ProjReads.lean ====
/-
  The input projection: what a grid point reads of the six arguments, and its rows, queries, keys and values as the
  formulas.
-/
module

public import proofs.«01_k».proof.Defs
public import proofs.«01_k».proof.Proof.ProjHost
public import proofs.«01_k».proof.Proof.ProjRef
public import Idealize.ShloMosaic.Lib.Pipeline.ValueKit
public import Idealize.ShloMosaic.Lib.Pipeline.ReadBack

@[expose] public section

set_option maxRecDepth 16384

noncomputable section

namespace Cert.Proof.Proj

open Cert.Kernel4Ideal Cert.Kernel4Ideal.Gen
open Idealize.ShloMosaic
open Idealize.ShloMosaic.TcCoe Idealize.ShloMosaic.Tactic
open Idealize.SL.Sem

/-- Which block of its array each window is at, at a grid point. -/
theorem idx : ∀ t : Fin cfg0.N, win0_0.index t = ![t.val / 4, t.val % 4, 0] ∧ win0_1.index t = ![t.val / 4, 0, 0]
    ∧ win0_2.index t = ![t.val / 4, 0, 1] ∧ win0_3.index t = ![0, 0] ∧ win0_4.index t = ![0, 0]
    ∧ win0_5.index t = ![t.val % 4, 0] ∧ win0_6.index t = ![t.val % 4, 0]
    ∧ win0_7.index t = ![t.val / 4, t.val % 4, 0] ∧ win0_8.index t = ![t.val / 4, t.val % 4, 0]
    ∧ win0_9.index t = ![t.val / 4, t.val % 4, 0] ∧ win0_10.index t = ![t.val / 4, t.val % 4, 0, 0] := by decide +kernel

variable (m : (ℓ : Loc nD τ sig) → Buf (Elt Ideal) ℓ) (c : Dev nD)

section
variable (t : Fin cfg0.N)

/-- The grid point's batch entry. -/
abbrev bat : Fin 16 := ⟨t.val / 4, by have : t.val < 64 := t.isLt; omega⟩
/-- Row `s` of the grid point's tile, as a row of the sequence. -/
abbrev row (s : Fin 1024) : Fin 4096 := ⟨1024 * (t.val % 4) + s.val, by omega⟩

/-- Window 0: a tile of rows. -/
theorem blk0 (s d : Fin 1024) : (iblk m c 0 t : Vec Ideal S1x1024x1024 .f32) (ix3 0 s d) = aX m c (ix3 (bat t) (row t s) d) := by
  blk_ext [iblk, V, idx t]

/-- Window 1: the shift. -/
theorem blk1 (d : Fin 1024) : (iblk m c 1 t : Vec Ideal S1x1x1024 .f32) (ix3 0 0 d)
    = aM m c (ix2 ⟨(bat t).val, by omega⟩ ⟨d.val, by omega⟩) := by
  rw [← v0_at]
  blk_ext [iblk, idx t]

/-- Window 2: the scale. -/
theorem blk2 (d : Fin 1024) : (iblk m c 2 t : Vec Ideal S1x1x1024 .f32) (ix3 0 0 d)
    = aM m c (ix2 ⟨(bat t).val, by omega⟩ ⟨1024 + d.val, by omega⟩) := by
  rw [← v0_at]
  blk_ext [iblk, idx t]

/-- Window 3: the norm's scale. -/
theorem blk3 (d : Fin 1024) : (iblk m c 3 t : Vec Ideal S1x1024 .f32) (ix2 0 d) = aP m c (ix1 d) := by
  rw [← v5_at]
  blk_ext [iblk, idx t]

/-- Window 4: the weights, whole. -/
theorem blk4 (y : S1024x1408.Idx) : (iblk m c 4 t : Vec Ideal S1024x1408 .bf16) y = (V m c main_v13 : Vec Ideal S1024x1408 .bf16) y := by
  blk_ext [iblk, idx t]

/-- Window 5: the tile's cosines. -/
theorem blk5 (s : Fin 1024) (l : Fin 128) : (iblk m c 5 t : Vec Ideal S1024x128 .f32) (ix2 s l) = aC m c (ix2 (row t s) ⟨l.val % 32, by omega⟩) := by
  rw [← cos_at]
  blk_ext [iblk, idx t]

/-- Window 6: the tile's sines, with their signs. -/
theorem blk6 (s : Fin 1024) (l : Fin 128) : (iblk m c 6 t : Vec Ideal S1024x128 .f32) (ix2 s l)
    = signed l.val (aS m c (ix2 (row t s) ⟨l.val % 32, by omega⟩)) := by
  rw [← sin_at]
  blk_ext [iblk, idx t]

/-- The tile's rows, normed and modulated. -/
abbrev tile : FVec Ideal S1024x1024 .bf16 := k0_pay27 (iblk m c 0 t) (iblk m c 1 t) (iblk m c 2 t) (iblk m c 3 t) (iblk m c 4 t) (iblk m c 5 t) (iblk m c 6 t)
/-- The tile's cosines. -/
abbrev cosT : FVec Ideal S1024x128 .f32 := k0_pay29 (iblk m c 0 t) (iblk m c 1 t) (iblk m c 2 t) (iblk m c 3 t) (iblk m c 4 t) (iblk m c 5 t) (iblk m c 6 t)
/-- The tile's sines. -/
abbrev sinT : FVec Ideal S1024x128 .f32 := k0_pay30 (iblk m c 0 t) (iblk m c 1 t) (iblk m c 2 t) (iblk m c 3 t) (iblk m c 4 t) (iblk m c 5 t) (iblk m c 6 t)
/-- The columns of the weights that give the channels. -/
abbrev wU : Vec Ideal S1024x512 .bf16 := View.ld (iblk m c 4 t : Vec Ideal S1024x1408 .bf16) r0_4
/-- The columns that give the queries. -/
abbrev wQ : Vec Ideal S1024x512 .bf16 := View.ld (iblk m c 4 t : Vec Ideal S1024x1408 .bf16) r0_6
/-- The columns that give the keys. -/
abbrev wK : Vec Ideal S1024x256 .bf16 := View.ld (iblk m c 4 t : Vec Ideal S1024x1408 .bf16) r0_11
/-- The columns that give the values. -/
abbrev wV : Vec Ideal S1024x128 .bf16 := View.ld (iblk m c 4 t : Vec Ideal S1024x1408 .bf16) r0_14

/-- The projection of one row of the tile. -/
abbrev pj (s : Fin 1024) (j : Fin 1280) : EReal := proj (aX m c) (aM m c) (aP m c) (aW m c) (bat t) (row t s) j

theorem tile_at (s d : Fin 1024) : tile m c t (ix2 s d) = hid (aX m c) (aM m c) (aP m c) (bat t) (row t s) d := by
  unfold tile k0_pay27 r0_0 r0_1 r0_2
  simp (disch := decide) only [View.ld_unit_lit']
  rw [hid_apply]
  simp only [blk0, blk1, blk2, blk3]
  rfl

theorem cosT_at (s : Fin 1024) (l : Fin 128) : cosT m c t (ix2 s l) = aC m c (ix2 (row t s) ⟨l.val % 32, by omega⟩) := by
  unfold cosT k0_pay29 r0_3
  simp (disch := decide) only [View.ld_unit_lit']
  rw [← blk5]
  generalize (iblk m c 5 t : Vec Ideal S1024x128 .f32) = x
  pointwise [k0_pay5]

theorem sinT_at (s : Fin 1024) (l : Fin 128) : sinT m c t (ix2 s l) = signed l.val (aS m c (ix2 (row t s) ⟨l.val % 32, by omega⟩)) := by
  unfold sinT k0_pay30 r0_3
  simp (disch := decide) only [View.ld_unit_lit']
  rw [← blk6]
  generalize (iblk m c 6 t : Vec Ideal S1024x128 .f32) = x
  pointwise [k0_pay6]

theorem wU_at (d : Fin 1024) (j : Fin 512) : wU m c t (ix2 d j) = aW m c (ix2 d ⟨j.val, by omega⟩) :=
  (View.ld_unit_apply_of _ _ _ _ _ (ix2 d ⟨j.val, by omega⟩ : S1024x1408.Idx) fun a => by fin_cases a <;> simp [ix2]).trans
    ((blk4 m c t _).trans (w_uq m c d ⟨j.val, by omega⟩))

theorem wQ_at (d : Fin 1024) (j : Fin 512) : wQ m c t (ix2 d j) = aW m c (ix2 d ⟨512 + j.val, by omega⟩) :=
  (View.ld_unit_apply_of _ _ _ _ _ (ix2 d ⟨512 + j.val, by omega⟩ : S1024x1408.Idx) fun a => by fin_cases a <;> simp [ix2]).trans
    ((blk4 m c t _).trans (w_uq m c d ⟨512 + j.val, by omega⟩))

theorem wK_at (d : Fin 1024) (j : Fin 256) : wK m c t (ix2 d j) = aW m c (ix2 d ⟨1024 + (64 * (j.val / 128) + j.val % 64), by omega⟩) :=
  (View.ld_unit_apply_of _ _ _ _ _ (ix2 d ⟨1024 + j.val, by omega⟩ : S1024x1408.Idx) fun a => by fin_cases a <;> simp [ix2]).trans
    ((blk4 m c t _).trans (w_k m c d j))

theorem wV_at (d : Fin 1024) (j : Fin 128) : wV m c t (ix2 d j) = aW m c (ix2 d ⟨1152 + j.val, by omega⟩) :=
  (View.ld_unit_apply_of _ _ _ _ _ (ix2 d ⟨1280 + j.val, by omega⟩ : S1024x1408.Idx) fun a => by fin_cases a <;> simp [ix2]).trans
    ((blk4 m c t _).trans (w_v m c d j))

theorem u_at (s : Fin 1024) (j : Fin 512) : k0_pay7 (tile m c t) (wU m c t) (ix3 0 s j) = pj m c t s ⟨j.val, by omega⟩ := by
  rw [u_apply]
  simp only [tile_at, wU_at]
  rfl

theorem q_at (s : Fin 1024) (j : Fin 512) : k0_pay8 (tile m c t) (wQ m c t) (ix2 s j) = pj m c t s ⟨512 + j.val, by omega⟩ := by
  rw [q_apply]
  simp only [tile_at, wQ_at]
  rfl

theorem k_at (s : Fin 1024) (j : Fin 256) : k0_pay14 (tile m c t) (wK m c t) (ix2 s j)
    = pj m c t s ⟨1024 + (64 * (j.val / 128) + j.val % 64), by omega⟩ := by
  rw [k_apply]
  simp only [tile_at, wK_at]
  rfl

theorem v_at (s : Fin 1024) (j : Fin 128) : k0_pay17 (tile m c t) (wV m c t) (ix2 s j) = pj m c t s ⟨1152 + j.val, by omega⟩ := by
  rw [v_apply]
  simp only [tile_at, wV_at]
  rfl

/-- A pair of heads, rotated, where lane `l` of the pair is lane `128 * k + l` of the row. -/
theorem rotated_at (A : FVec Ideal S1024x128 .f32) (s : Fin 1024) (l : Fin 128) (n : ℕ) (hn : n % 64 = l.val % 64) :
    rotated (cosT m c t) (sinT m c t) A s l
      = turned (aC m c) (aS m c) (row t s) n (A (ix2 s l)) (A (ix2 s ⟨other l.val, other_lt (k := 2) l.isLt⟩)) := by
  unfold rotated turned signed
  rw [cosT_at, sinT_at]
  unfold signed
  simp only [hn, show n % 32 = l.val % 32 by omega]

/-- The queries of one pair of heads. -/
theorem goalQ_at (A : FVec Ideal S1024x128 .f32) (s : Fin 1024) (l : Fin 128) (k : ℕ) (hk : k < 4)
    (hA : ∀ l : Fin 128, A (ix2 s l) = pj m c t s ⟨512 + (128 * k + l.val), by omega⟩) :
    rotated (cosT m c t) (sinT m c t) A s l * qs
      = goalQ (aX m c) (aM m c) (aP m c) (aW m c) (aC m c) (aS m c) (bat t) (row t s) ⟨128 * k + l.val, by omega⟩ := by
  rw [rotated_at m c t A s l (128 * k + l.val) (by omega), hA, hA]
  unfold goalQ
  refine congrArg (fun x : Fin 1280 => turned (aC m c) (aS m c) (row t s) (128 * k + l.val)
    (pj m c t s ⟨512 + (128 * k + l.val), by omega⟩) (pj m c t s x) * qs) (Fin.ext ?_)
  show 512 + (128 * k + other l.val) = 512 + other (128 * k + l.val)
  unfold other
  split_ifs <;> omega

/-- The keys of one pair of heads. -/
theorem goalK_at (A : FVec Ideal S1024x128 .f32) (s : Fin 1024) (l : Fin 128) (k : ℕ) (hk : k < 2)
    (hA : ∀ l : Fin 128, A (ix2 s l) = pj m c t s ⟨1024 + (64 * ((128 * k + l.val) / 128) + (128 * k + l.val) % 64), by omega⟩) :
    rotated (cosT m c t) (sinT m c t) A s l
      = goalK (aX m c) (aM m c) (aP m c) (aW m c) (aC m c) (aS m c) (bat t) (row t s) ⟨128 * k + l.val, by omega⟩ := by
  rw [rotated_at m c t A s l (128 * k + l.val) (by omega), hA, hA]
  unfold goalK
  refine congrArg (fun x : Fin 1280 => turned (aC m c) (aS m c) (row t s) (128 * k + l.val)
    (pj m c t s ⟨1024 + (64 * ((128 * k + l.val) / 128) + (128 * k + l.val) % 64), by omega⟩) (pj m c t s x)) (Fin.ext ?_)
  show 1024 + (64 * ((128 * k + other l.val) / 128) + (128 * k + other l.val) % 64)
    = 1024 + (64 * ((128 * k + l.val) / 128) + other (128 * k + l.val) % 64)
  have h := other_lt (k := 2) l.isLt
  unfold other at h ⊢
  split_ifs at h ⊢ <;> omega

/-- The values of one chunk. -/
theorem goalV_at (r : Fin 160) (p : Fin 128) (n : ℕ) (hn : n < 8) (A : FVec Ideal S1024x128 .f32) (hA : A = k0_pay17 (tile m c t) (wV m c t)) :
    chunk A (128 * n) (by omega) r p = goalV (aX m c) (aM m c) (aP m c) (aW m c) (bat t) ⟨8 * (t.val % 4) + n, by omega⟩ r p := by
  subst hA
  unfold chunk goalV
  by_cases h : r.val % 80 < 64
  · rw [dif_pos h, dif_pos h, v_at]
    refine congrArg (fun x : Fin 4096 => proj (aX m c) (aM m c) (aP m c) (aW m c) (bat t) x _) (Fin.ext ?_)
    show 1024 * (t.val % 4) + (128 * n + p.val) = 128 * (8 * (t.val % 4) + n) + p.val
    omega
  · rw [dif_neg h, dif_neg h]

/-- A block index over the last two axes. -/
theorem eq_ix3' {b w : ℕ} (y : (⟨3, ![1, b, w]⟩ : Shape).Idx) : y = ix3 0 (y 1) (y 2) := by
  funext a
  refine Fin.ext ?_
  fin_cases a
  · have : (y 0).val < 1 := (y 0).isLt
    show (y 0).val = 0; omega
  · rfl
  · rfl
end

end Cert.Proof.Proj

end
-- ==== Proof.ProjValue.lean ====
/-
  The input projection's value: at exact arithmetic, each element of what the kernel leaves is that element of the
  reference's result.
-/
module

public import proofs.«01_k».proof.Proof.ProjReads

@[expose] public section

set_option maxRecDepth 16384

noncomputable section

namespace Cert.Proof.Proj

open Cert.Kernel4Ideal Cert.Kernel4Ideal.Gen
open Idealize.ShloMosaic
open Idealize.ShloMosaic.TcCoe Idealize.ShloMosaic.Tactic
open Idealize.SL.Sem

/-- An index of a pair of heads, in the block of `w` lanes that holds the pair from lane `o` on. -/
theorem lane_emb {w : ℕ} (o : ℕ) (ho : o + 128 ≤ w) (inb) (x : S1x1024x128.Idx) :
    ((Rect.unit (s := (⟨3, ![1, 1024, w]⟩ : Shape)) ![0, 0, o] S1x1024x128.size inb).emb x : (⟨3, ![1, 1024, w]⟩ : Shape).Idx)
      = ix3 0 (x 1) ⟨o + (x 2).val, by have : (x 2).val < 128 := (x 2).isLt; omega⟩ := by
  funext a
  refine Fin.ext ?_
  refine (Rect.idx_unit_val _ _ _ _ a).trans ?_
  fin_cases a
  · have : (x 0).val < 1 := (x 0).isLt
    show 0 + (x 0).val = 0; omega
  · show 0 + (x 1).val = (x 1).val; omega
  · rfl

/-- An index of a chunk, in the block of eight. -/
theorem chunk_emb (n : ℕ) (hn : n < 8) (inb) (x : S1x1x160x128.Idx) :
    ((Rect.unit (s := S1x8x160x128) ![0, n, 0, 0] S1x1x160x128.size inb).emb x : S1x8x160x128.Idx) = ix4 0 ⟨n, hn⟩ (x 2) (x 3) := by
  funext a
  refine Fin.ext ?_
  refine (Rect.idx_unit_val _ _ _ _ a).trans ?_
  fin_cases a
  · have : (x 0).val < 1 := (x 0).isLt
    show 0 + (x 0).val = 0; omega
  · have : (x 1).val < 1 := (x 1).isLt
    show n + (x 1).val = n; omega
  · show 0 + (x 2).val = (x 2).val; omega
  · show 0 + (x 3).val = (x 3).val; omega

/-- Stores that are blocks of one array and together cover it leave that array. -/
theorem canon_pieces {s : Shape} {e : EltTy} (L : List (View.Piece (Elt Ideal) s e)) (G : s.Idx → Elt Ideal e) (y : s.Idx)
    (hc : ∃ p ∈ L, y ∈ p.1.set) (h : View.PiecesOf G L) : View.canon L y = G y :=
  (congrArg (fun L => View.canon L y) (List.append_nil L).symm).trans (View.canon_append_of_piecesOf G [] L h y hc)

/-- An index of one chunk. -/
theorem eq_ix4' (y : S1x1x160x128.Idx) : y = ix4 0 0 (y 2) (y 3) := by
  funext a
  refine Fin.ext ?_
  fin_cases a
  · have : (y 0).val < 1 := (y 0).isLt
    show (y 0).val = 0; omega
  · have : (y 1).val < 1 := (y 1).isLt
    show (y 1).val = 0; omega
  · rfl
  · rfl

theorem sq0 (Q : FVec Ideal S1024x512 .f32) (s : Fin 1024) (l : Fin 128) :
    extractStridedSlice S1024x128 ![0, 0] Q slices_S1024x512_o0_0_S1024x128 (ix2 s l) = Q (ix2 s ⟨0 + l.val, by omega⟩) := by
  pointwise

theorem sq1 (Q : FVec Ideal S1024x512 .f32) (s : Fin 1024) (l : Fin 128) :
    extractStridedSlice S1024x128 ![0, 128] Q slices_S1024x512_o0_128_S1024x128 (ix2 s l) = Q (ix2 s ⟨128 + l.val, by omega⟩) := by
  pointwise

theorem sq2 (Q : FVec Ideal S1024x512 .f32) (s : Fin 1024) (l : Fin 128) :
    extractStridedSlice S1024x128 ![0, 256] Q slices_S1024x512_o0_256_S1024x128 (ix2 s l) = Q (ix2 s ⟨256 + l.val, by omega⟩) := by
  pointwise

theorem sq3 (Q : FVec Ideal S1024x512 .f32) (s : Fin 1024) (l : Fin 128) :
    extractStridedSlice S1024x128 ![0, 384] Q slices_S1024x512_o0_384_S1024x128 (ix2 s l) = Q (ix2 s ⟨384 + l.val, by omega⟩) := by
  pointwise

theorem sk0 (Q : FVec Ideal S1024x256 .f32) (s : Fin 1024) (l : Fin 128) :
    extractStridedSlice S1024x128 ![0, 0] Q slices_S1024x256_o0_0_S1024x128 (ix2 s l) = Q (ix2 s ⟨0 + l.val, by omega⟩) := by
  pointwise

theorem sk1 (Q : FVec Ideal S1024x256 .f32) (s : Fin 1024) (l : Fin 128) :
    extractStridedSlice S1024x128 ![0, 128] Q slices_S1024x256_o0_128_S1024x128 (ix2 s l) = Q (ix2 s ⟨128 + l.val, by omega⟩) := by
  pointwise

variable (m : (ℓ : Loc nD τ sig) → Buf (Elt Ideal) ℓ) (c : Dev nD)

section
variable (t : Fin cfg0.N)

/-- The channels that a grid point writes. -/
theorem out7_at (s : Fin 1024) (j : Fin 512) : out0_7 (iblk m c 0 t) (iblk m c 1 t) (iblk m c 2 t) (iblk m c 3 t) (iblk m c 4 t) (iblk m c 5 t) (iblk m c 6 t) (ix3 0 s j) = goalU (aX m c) (aM m c) (aP m c) (aW m c) (bat t) (row t s) j := by
  unfold out0_7 r0_5
  simp (disch := decide) only [View.canon_cons_unit_lit']
  exact u_at m c t s j

/-- What the queries' block should hold. -/
abbrev wantQ (y : S1x1024x512.Idx) : EReal := goalQ (aX m c) (aM m c) (aP m c) (aW m c) (aC m c) (aS m c) (bat t) (row t (y 1)) (y 2)
/-- What the keys' block should hold. -/
abbrev wantK (y : S1x1024x256.Idx) : EReal := goalK (aX m c) (aM m c) (aP m c) (aW m c) (aC m c) (aS m c) (bat t) (row t (y 1)) (y 2)
/-- What the values' block should hold. -/
abbrev wantV (y : S1x8x160x128.Idx) : EReal :=
  goalV (aX m c) (aM m c) (aP m c) (aW m c) (bat t) ⟨8 * (t.val % 4) + (y 1).val, by have : (y 1).val < 8 := (y 1).isLt; omega⟩ (y 2) (y 3)

/-- One pair of query heads. -/
theorem pieceQ (k : ℕ) (hk : k < 4) (inb) (p : Vec Ideal S1x1024x128 .bf16) (A : FVec Ideal S1024x128 .f32)
    (hp : ∀ s l, p (ix3 0 s l) = rotated (cosT m c t) (sinT m c t) A s l * qs)
    (hA : ∀ (s : Fin 1024) (l : Fin 128), A (ix2 s l) = pj m c t s ⟨512 + (128 * k + l.val), by omega⟩) (x : S1x1024x128.Idx) :
    p x = wantQ m c t ((Rect.unit (s := S1x1024x512) ![0, 0, 128 * k] S1x1024x128.size inb).emb x) := by
  rw [lane_emb (w := 512) (128 * k) (by omega)]
  refine (congrArg p (eq_ix3' x)).trans ((hp _ _).trans ?_)
  exact goalQ_at m c t A (x 1) (x 2) k hk (hA _)

/-- One pair of key heads. -/
theorem pieceK (k : ℕ) (hk : k < 2) (inb) (p : Vec Ideal S1x1024x128 .bf16) (A : FVec Ideal S1024x128 .f32)
    (hp : ∀ s l, p (ix3 0 s l) = rotated (cosT m c t) (sinT m c t) A s l)
    (hA : ∀ (s : Fin 1024) (l : Fin 128), A (ix2 s l) = pj m c t s ⟨1024 + (64 * ((128 * k + l.val) / 128) + (128 * k + l.val) % 64), by omega⟩)
    (x : S1x1024x128.Idx) :
    p x = wantK m c t ((Rect.unit (s := S1x1024x256) ![0, 0, 128 * k] S1x1024x128.size inb).emb x) := by
  rw [lane_emb (w := 256) (128 * k) (by omega)]
  refine (congrArg p (eq_ix3' x)).trans ((hp _ _).trans ?_)
  exact goalK_at m c t A (x 1) (x 2) k hk (hA _)

/-- One chunk of values. -/
theorem pieceV (n : ℕ) (hn : n < 8) (inb) (p : Vec Ideal S1x1x160x128 .bf16)
    (hp : ∀ r q, p (ix4 0 0 r q) = chunk (k0_pay17 (tile m c t) (wV m c t)) (128 * n) (by omega) r q) (x : S1x1x160x128.Idx) :
    p x = wantV m c t ((Rect.unit (s := S1x8x160x128) ![0, n, 0, 0] S1x1x160x128.size inb).emb x) := by
  rw [chunk_emb n hn]
  refine (congrArg p (eq_ix4' x)).trans ((hp _ _).trans ?_)
  exact goalV_at m c t (x 2) (x 3) n hn _ rfl

/-- The queries that a grid point writes. -/
theorem out8_at (y : S1x1024x512.Idx) : out0_8 (iblk m c 0 t) (iblk m c 1 t) (iblk m c 2 t) (iblk m c 3 t) (iblk m c 4 t) (iblk m c 5 t) (iblk m c 6 t) y = wantQ m c t y := by
  unfold out0_8
  refine canon_pieces (s := S1x1024x512) (e := .bf16) _ (wantQ m c t) y (cover0_8 _ _ _ _ y) ?_
  refine ⟨?_, ?_, ?_, ?_, trivial⟩
  · exact pieceQ m c t 3 (by decide) inb_S1x1024x512_S1x1024x128_0_0_384 _ _ (fun s l => rot_apply _ _ _ s l) (fun s l => (sq3 _ s l).trans (q_at m c t s _))
  · exact pieceQ m c t 2 (by decide) inb_S1x1024x512_S1x1024x128_0_0_256 _ _ (fun s l => rot_apply _ _ _ s l) (fun s l => (sq2 _ s l).trans (q_at m c t s _))
  · exact pieceQ m c t 1 (by decide) inb_S1x1024x512_S1x1024x128_0_0_128 _ _ (fun s l => rot_apply _ _ _ s l) (fun s l => (sq1 _ s l).trans (q_at m c t s _))
  · exact pieceQ m c t 0 (by decide) inb_S1x1024x512_S1x1024x128_0_0_0 _ _ (fun s l => rot_apply _ _ _ s l) (fun s l => (sq0 _ s l).trans (q_at m c t s _))

/-- The keys that a grid point writes. -/
theorem out9_at (y : S1x1024x256.Idx) : out0_9 (iblk m c 0 t) (iblk m c 1 t) (iblk m c 2 t) (iblk m c 3 t) (iblk m c 4 t) (iblk m c 5 t) (iblk m c 6 t) y = wantK m c t y := by
  unfold out0_9
  refine canon_pieces (s := S1x1024x256) (e := .bf16) _ (wantK m c t) y (cover0_9 _ _ y) ?_
  refine ⟨?_, ?_, trivial⟩
  · exact pieceK m c t 1 (by decide) inb_S1x1024x256_S1x1024x128_0_0_128 _ _ (fun s l => rotk1_apply _ _ _ s l) (fun s l => (sk1 _ s l).trans (k_at m c t s _))
  · exact pieceK m c t 0 (by decide) inb_S1x1024x256_S1x1024x128_0_0_0 _ _ (fun s l => rotk0_apply _ _ _ _ s l) (fun s l => (sk0 _ s l).trans (k_at m c t s _))

/-- The values that a grid point writes. -/
theorem out10_at (y : S1x8x160x128.Idx) : out0_10 (iblk m c 0 t) (iblk m c 1 t) (iblk m c 2 t) (iblk m c 3 t) (iblk m c 4 t) (iblk m c 5 t) (iblk m c 6 t) y = wantV m c t y := by
  unfold out0_10
  refine canon_pieces (s := S1x8x160x128) (e := .bf16) _ (wantV m c t) y (cover0_10 _ _ _ _ _ _ _ _ y) ?_
  refine ⟨?_, ?_, ?_, ?_, ?_, ?_, ?_, ?_, trivial⟩
  · exact pieceV m c t 7 (by decide) inb_S1x8x160x128_S1x1x160x128_0_7_0_0 _ (fun r q => vt7_apply _ r q)
  · exact pieceV m c t 6 (by decide) inb_S1x8x160x128_S1x1x160x128_0_6_0_0 _ (fun r q => vt6_apply _ r q)
  · exact pieceV m c t 5 (by decide) inb_S1x8x160x128_S1x1x160x128_0_5_0_0 _ (fun r q => vt5_apply _ r q)
  · exact pieceV m c t 4 (by decide) inb_S1x8x160x128_S1x1x160x128_0_4_0_0 _ (fun r q => vt4_apply _ r q)
  · exact pieceV m c t 3 (by decide) inb_S1x8x160x128_S1x1x160x128_0_3_0_0 _ (fun r q => vt3_apply _ r q)
  · exact pieceV m c t 2 (by decide) inb_S1x8x160x128_S1x1x160x128_0_2_0_0 _ (fun r q => vt2_apply _ _ r q)
  · exact pieceV m c t 1 (by decide) inb_S1x8x160x128_S1x1x160x128_0_1_0_0 _ (fun r q => vt1_apply _ _ r q)
  · exact pieceV m c t 0 (by decide) inb_S1x8x160x128_S1x1x160x128_0_0_0_0 _ (fun r q => vt0_apply _ _ r q)
end

/-- The channels that the kernel leaves. -/
theorem final7 : (dats m 0 c).arrAt 7 cfg0.N = (fun i => goalU (aX m c) (aM m c) (aP m c) (aW m c) (i 0) (i 1) (i 2) : Vec Ideal S16x4096x512 .f32) := by
  refine (dats m 0 c).arrAt_eq_of_covers 7 _ (by decide +kernel) fun t hf y => ?_
  blk_simp
  rw [after0_7]
  obtain ⟨s, l, rfl⟩ : ∃ (s : Fin 1024) (l : Fin 512), y = (ix3 0 s l : S1x1024x512.Idx) := ⟨y 1, y 2, eq_ix3' y⟩
  have e : (win0_7.blk t).view.emb (ix3 0 s l : S1x1024x512.Idx) = (ix3 (bat t) (row t s) l : S16x4096x512.Idx) := by
    blk_ext [idx t]
  rw [e]
  exact out7_at m c t s l

/-- The queries that the kernel leaves. -/
theorem final8 : (dats m 0 c).arrAt 8 cfg0.N = (fun i => goalQ (aX m c) (aM m c) (aP m c) (aW m c) (aC m c) (aS m c) (i 0) (i 1) (i 2) : Vec Ideal S16x4096x512 .bf16) := by
  refine (dats m 0 c).arrAt_eq_of_covers 8 _ (by decide +kernel) fun t hf y => ?_
  blk_simp
  rw [after0_8]
  obtain ⟨s, l, rfl⟩ : ∃ (s : Fin 1024) (l : Fin 512), y = (ix3 0 s l : S1x1024x512.Idx) := ⟨y 1, y 2, eq_ix3' y⟩
  have e : (win0_8.blk t).view.emb (ix3 0 s l : S1x1024x512.Idx) = (ix3 (bat t) (row t s) l : S16x4096x512.Idx) := by
    blk_ext [idx t]
  rw [e]
  exact out8_at m c t (ix3 0 s l)

/-- The keys that the kernel leaves. -/
theorem final9 : (dats m 0 c).arrAt 9 cfg0.N = (fun i => goalK (aX m c) (aM m c) (aP m c) (aW m c) (aC m c) (aS m c) (i 0) (i 1) (i 2) : Vec Ideal S16x4096x256 .bf16) := by
  refine (dats m 0 c).arrAt_eq_of_covers 9 _ (by decide +kernel) fun t hf y => ?_
  blk_simp
  rw [after0_9]
  obtain ⟨s, l, rfl⟩ : ∃ (s : Fin 1024) (l : Fin 256), y = (ix3 0 s l : S1x1024x256.Idx) := ⟨y 1, y 2, eq_ix3' y⟩
  have e : (win0_9.blk t).view.emb (ix3 0 s l : S1x1024x256.Idx) = (ix3 (bat t) (row t s) l : S16x4096x256.Idx) := by
    blk_ext [idx t]
  rw [e]
  exact out9_at m c t (ix3 0 s l)

/-- The values that the kernel leaves. -/
theorem final10 : (dats m 0 c).arrAt 10 cfg0.N = (fun i => goalV (aX m c) (aM m c) (aP m c) (aW m c) (i 0) (i 1) (i 2) (i 3) : Vec Ideal S16x32x160x128 .bf16) := by
  refine (dats m 0 c).arrAt_eq_of_covers 10 _ (by decide +kernel) fun t hf y => ?_
  blk_simp
  rw [after0_10]
  obtain ⟨n, r, p, rfl⟩ : ∃ (n : Fin 8) (r : Fin 160) (p : Fin 128), y = (ix4 0 n r p : S1x8x160x128.Idx) := by
    refine ⟨y 1, y 2, y 3, ?_⟩
    funext a
    refine Fin.ext ?_
    fin_cases a
    · have : (y 0).val < 1 := (y 0).isLt
      show (y 0).val = 0; omega
    · rfl
    · rfl
    · rfl
  have e : (win0_10.blk t).view.emb (ix4 0 n r p : S1x8x160x128.Idx)
      = (ix4 (bat t) ⟨8 * (t.val % 4) + n.val, by omega⟩ r p : S16x32x160x128.Idx) := by
    blk_ext [idx t]
  rw [e]
  exact out10_at m c t (ix4 0 n r p)

/-- At exact arithmetic the kernel and the reference end with the same four results. -/
theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => (dats m 0 c).arrAt 7 cfg0.N, fun c => (dats m 0 c).arrAt 8 cfg0.N, fun c => (dats m 0 c).arrAt 9 cfg0.N,
    fun c => (dats m 0 c).arrAt 10 cfg0.N, Cert.Kernel4Ideal.Value.run_blocks (F := Ideal) m ρ, ?_⟩
  refine (θ_run Cert.Reference4Ideal.defs _ _).mono (fun _ h c => ⟨(h c).1.trans ?_, (h c).2.1.trans ?_, (h c).2.2.1.trans ?_,
    (h c).2.2.2.1.trans ?_, (h c).2.2.2.2⟩) (Cert.Reference4Ideal.Value.run (F := Ideal) m' ρ')
  all_goals obtain ⟨h0, h1, h2, h3, h4, h5⟩ := hagree c
  · rw [h0, h1, h2, h3]
    refine Eq.trans ?_ (final7 m c).symm
    funext i
    obtain ⟨q, t, j, rfl⟩ : ∃ (q : Fin 16) (t : Fin 4096) (j : Fin 512), i = (ix3 q t j : S16x4096x512.Idx) := ⟨i 0, i 1, i 2, eq_ix3 i⟩
    exact ref_u (aX m c) (aM m c) (aP m c) (aW m c) q t j
  · refine Eq.trans ?_ (final8 m c).symm
    unfold Cert.Reference4Ideal.Value.res_main_v73
    rw [h0, h1, h2, h3, h4, h5]
    funext i
    obtain ⟨q, t, j, rfl⟩ : ∃ (q : Fin 16) (t : Fin 4096) (j : Fin 512), i = (ix3 q t j : S16x4096x512.Idx) := ⟨i 0, i 1, i 2, eq_ix3 i⟩
    exact ref_q (aX m c) (aM m c) (aP m c) (aW m c) (aC m c) (aS m c) q t j
  · refine Eq.trans ?_ (final9 m c).symm
    unfold Cert.Reference4Ideal.Value.res_main_v75
    rw [h0, h1, h2, h3, h4, h5]
    funext i
    obtain ⟨q, t, j, rfl⟩ : ∃ (q : Fin 16) (t : Fin 4096) (j : Fin 256), i = (ix3 q t j : S16x4096x256.Idx) := ⟨i 0, i 1, i 2, eq_ix3 i⟩
    exact ref_k (aX m c) (aM m c) (aP m c) (aW m c) (aC m c) (aS m c) q t j
  · rw [h0, h1, h2, h3]
    refine Eq.trans ?_ (final10 m c).symm
    funext i
    obtain ⟨q, n, r, p, rfl⟩ : ∃ (q : Fin 16) (n : Fin 32) (r : Fin 160) (p : Fin 128), i = (ix4 q n r p : S16x32x160x128.Idx) :=
      ⟨i 0, i 1, i 2, i 3, eq_ix4 i⟩
    exact ref_v (aX m c) (aM m c) (aP m c) (aW m c) q n r p

end Cert.Proof.Proj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Run
public import proofs.«01_k».proof.Proof.Value
public import proofs.«01_k».proof.Proof.FfnFrame
public import proofs.«01_k».proof.Proof.FfnValue
public import proofs.«01_k».proof.Proof.AdaFrame
public import proofs.«01_k».proof.Proof.AdaValue
public import proofs.«01_k».proof.Proof.ProjFrame
public import proofs.«01_k».proof.Proof.ProjValue

@[expose] public section

set_option maxRecDepth 16384

noncomputable section

namespace Cert.Proof

open Idealize.ShloMosaic Idealize.ShloMosaic.TcCoe Idealize.SL.Sem

/-- The kernel as printed, on the machine's own floats: it runs, keeps its five arguments and leaves every semaphore
    at zero. The run's postcondition is `Outproj.run_main`'s, of which the result is dropped. -/
theorem frame_kernel : Cert.quiescent_Kernel (hKernel := Cert.Kernel.Gen.facts) := fun m ρ _ =>
  (θ_run Cert.KernelIdeal.defs _ _).mono (fun _ h => ⟨fun c => (h.1 c).1, h.2⟩) (Outproj.run_main (F := Bits) m ρ)

/-- The same of its idealization, at exact arithmetic, by the same run. -/
theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩) (Outproj.run_main (F := Ideal) m ρ)

/-- The reference: host operations alone, run one after the other. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward kernel at exact arithmetic: it runs, keeps its eight arguments and leaves every semaphore at zero.
    `Ffn.frame_kernel2` says the same of the kernel as printed. -/
theorem frame_kernel2Ideal : Cert.quiescent_Kernel2Ideal (hKernel2Ideal := Cert.Kernel2Ideal.Gen.facts) := fun m ρ _ =>
  Cert.Kernel2Ideal.Gen.frame m ρ

/-- The feed-forward reference: host operations alone. -/
theorem frame_reference2Ideal : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The modulations' kernel at exact arithmetic: it runs, keeps its three arguments and leaves every semaphore at zero.
    `Ada.frame_kernel3` says the same of the kernel as printed. -/
theorem frame_kernel3Ideal : Cert.quiescent_Kernel3Ideal (hKernel3Ideal := Cert.Kernel3Ideal.Gen.facts) := fun m ρ _ =>
  Cert.Kernel3Ideal.Gen.frame m ρ

/-- The modulations' reference: host operations alone. -/
theorem frame_reference3Ideal : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The input projection's kernel at exact arithmetic: it runs, keeps its six arguments and leaves every semaphore at zero.
    `Proj.frame_kernel4` says the same of the kernel as printed. -/
theorem frame_kernel4Ideal : Cert.quiescent_Kernel4Ideal (hKernel4Ideal := Cert.Kernel4Ideal.Gen.facts) := fun m ρ _ =>
  Cert.Kernel4Ideal.Gen.frame m ρ

/-- The input projection's reference: host operations alone. -/
theorem frame_reference4Ideal : Cert.quiescent_Reference4Ideal (hReference4Ideal := Cert.Reference4Ideal.Gen.facts) := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- Every claim: the twelve frames, the four idealizations (which rewrote nothing), the equal results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  frame_kernel, frame_kernelIdeal, frame_referenceIdeal, Ffn.frame_kernel2, frame_kernel2Ideal, frame_reference2Ideal,
  Ada.frame_kernel3, frame_kernel3Ideal, frame_reference3Ideal,
  Proj.frame_kernel4, frame_kernel4Ideal, frame_reference4Ideal,
  trivial, Outproj.algebraic, trivial, Ffn.algebraic, trivial, Ada.algebraic, trivial, Proj.algebraic⟩

end Cert.Proof

end
